-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))).2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x256x128 : Shape := ⟨3, ![4, 256, 128]⟩
abbrev S128x128 : Shape := ⟨2, ![128, 128]⟩
abbrev S128x1 : Shape := ⟨2, ![128, 1]⟩
abbrev S1 : Shape := ⟨1, ![1]⟩
abbrev S128x256 : Shape := ⟨2, ![128, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S4x256x128 : S_.BroadcastsInDim S4x256x128 (![] : Fin 0 → Fin S4x256x128.rank)
  bcast_S_S128x128 : S_.BroadcastsInDim S128x128 (![] : Fin 0 → Fin S128x128.rank)
  bcast_S_S128x1 : S_.BroadcastsInDim S128x1 (![] : Fin 0 → Fin S128x1.rank)
  bcast_S_S1 : S_.BroadcastsInDim S1 (![] : Fin 0 → Fin S1.rank)
  bcast_S_S128x256 : S_.BroadcastsInDim S128x256 (![] : Fin 0 → Fin S128x256.rank)
  bcast_S_S256 : S_.BroadcastsInDim S256 (![] : Fin 0 → Fin S256.rank)
  bcast_S_S256x128 : S_.BroadcastsInDim S256x128 (![] : Fin 0 → Fin S256x128.rank)
  bcast_S_S128 : S_.BroadcastsInDim S128 (![] : Fin 0 → Fin S128.rank)

variable [Facts]

def fn_part5 {F : FTy → Type} [FloatOps F] (main_v2 : IVec S4x256x128 1) (main_v13 : IVec S128x128 1) (main_v24 : IVec S128x1 1) (main_v35 : IVec S1 1) (main_v50 : IVec S128x256 1) (main_v65 : IVec S256 1) (main_v80 : IVec S256x128 1) (main_v91 : IVec S128 1) (main_v92 : FVec F S128 .f32) (main_v93 : FVec F S128 .f32) : IVec S4x256x128 1 × IVec S128x128 1 × IVec S128x1 1 × IVec S1 1 × IVec S128x256 1 × IVec S256 1 × IVec S256x128 1 × IVec S128 1 :=
  let main_v94 : IVec S128 1 := cmpf .olt main_v92 main_v93
  let main_v95 : IVec S128 1 := andi main_v91 main_v94
  (main_v2, main_v13, main_v24, main_v35, main_v50, main_v65, main_v80, main_v95)

def fn_part4 {F : FTy → Type} [FloatOps F] (main_arg13 : FVec F S128 .f32) (main_arg17 : FVec F S128 .f32) (main_arg21 : FVec F S128 .f32) (main_arg24 : FVec F S256x128 .f32) (main_arg25 : FVec F S128 .f32) (main_v2 : IVec S4x256x128 1) (main_v13 : IVec S128x128 1) (main_v24 : IVec S128x1 1) (main_v35 : IVec S1 1) (main_v50 : IVec S128x256 1) (main_v65 : IVec S256 1) (main_v72 : IVec S256x128 1) (main_v73 : FVec F S256x128 .f32) (main_v74 : FVec F S256x128 .f32) : IVec S4x256x128 1 × IVec S128x128 1 × IVec S128x1 1 × IVec S1 1 × IVec S128x256 1 × IVec S256 1 × IVec S256x128 1 × IVec S128 1 :=
  let main_v75 : IVec S256x128 1 := cmpf .olt main_v73 main_v74
  let main_v76 : IVec S256x128 1 := andi main_v72 main_v75
  let main_v77 : FVec F S256x128 .f32 := Host.absf main_arg24
  let main_cst_20 : FVec F S_ .f32 := constant S_ .f32 0x7F800000#32
  let main_v78 : FVec F S256x128 .f32 := broadcastInDim S256x128 ![] bcast_S_S256x128 main_cst_20
  let main_v79 : IVec S256x128 1 := cmpf .olt main_v77 main_v78
  let main_v80 : IVec S256x128 1 := andi main_v76 main_v79
  let main_v81 : FVec F S128 .f32 := Host.absf main_arg13
  let main_cst_21 : FVec F S_ .f32 := constant S_ .f32 0x7F800000#32
  let main_v82 : FVec F S128 .f32 := broadcastInDim S128 ![] bcast_S_S128 main_cst_21
  let main_v83 : IVec S128 1 := cmpf .olt main_v81 main_v82
  let main_v84 : FVec F S128 .f32 := Host.absf main_arg17
  let main_cst_22 : FVec F S_ .f32 := constant S_ .f32 0x7F800000#32
  let main_v85 : FVec F S128 .f32 := broadcastInDim S128 ![] bcast_S_S128 main_cst_22
  let main_v86 : IVec S128 1 := cmpf .olt main_v84 main_v85
  let main_v87 : IVec S128 1 := andi main_v83 main_v86
  let main_v88 : FVec F S128 .f32 := Host.absf main_arg21
  let main_cst_23 : FVec F S_ .f32 := constant S_ .f32 0x7F800000#32
  let main_v89 : FVec F S128 .f32 := broadcastInDim S128 ![] bcast_S_S128 main_cst_23
  let main_v90 : IVec S128 1 := cmpf .olt main_v88 main_v89
  let main_v91 : IVec S128 1 := andi main_v87 main_v90
  let main_v92 : FVec F S128 .f32 := Host.absf main_arg25
  let main_cst_24 : FVec F S_ .f32 := constant S_ .f32 0x7F800000#32
  let main_v93 : FVec F S128 .f32 := broadcastInDim S128 ![] bcast_S_S128 main_cst_24
  fn_part5 (F := F) main_v2 main_v13 main_v24 main_v35 main_v50 main_v65 main_v80 main_v91 main_v92 main_v93

def fn_part3 {F : FTy → Type} [FloatOps F] (main_arg12 : FVec F S256x128 .f32) (main_arg13 : FVec F S128 .f32) (main_arg16 : FVec F S256x128 .f32) (main_arg17 : FVec F S128 .f32) (main_arg19 : FVec F S256 .f32) (main_arg20 : FVec F S256x128 .f32) (main_arg21 : FVec F S128 .f32) (main_arg23 : FVec F S256 .f32) (main_arg24 : FVec F S256x128 .f32) (main_arg25 : FVec F S128 .f32) (main_v2 : IVec S4x256x128 1) (main_v13 : IVec S128x128 1) (main_v24 : IVec S128x1 1) (main_v35 : IVec S1 1) (main_v50 : IVec S128x256 1) (main_v53 : IVec S256 1) (main_v54 : FVec F S256 .f32) (main_v55 : FVec F S256 .f32) : IVec S4x256x128 1 × IVec S128x128 1 × IVec S128x1 1 × IVec S1 1 × IVec S128x256 1 × IVec S256 1 × IVec S256x128 1 × IVec S128 1 :=
  let main_v56 : IVec S256 1 := cmpf .olt main_v54 main_v55
  let main_v57 : IVec S256 1 := andi main_v53 main_v56
  let main_v58 : FVec F S256 .f32 := Host.absf main_arg19
  let main_cst_15 : FVec F S_ .f32 := constant S_ .f32 0x7F800000#32
  let main_v59 : FVec F S256 .f32 := broadcastInDim S256 ![] bcast_S_S256 main_cst_15
  let main_v60 : IVec S256 1 := cmpf .olt main_v58 main_v59
  let main_v61 : IVec S256 1 := andi main_v57 main_v60
  let main_v62 : FVec F S256 .f32 := Host.absf main_arg23
  let main_cst_16 : FVec F S_ .f32 := constant S_ .f32 0x7F800000#32
  let main_v63 : FVec F S256 .f32 := broadcastInDim S256 ![] bcast_S_S256 main_cst_16
  let main_v64 : IVec S256 1 := cmpf .olt main_v62 main_v63
  let main_v65 : IVec S256 1 := andi main_v61 main_v64
  let main_v66 : FVec F S256x128 .f32 := Host.absf main_arg12
  let main_cst_17 : FVec F S_ .f32 := constant S_ .f32 0x7F800000#32
  let main_v67 : FVec F S256x128 .f32 := broadcastInDim S256x128 ![] bcast_S_S256x128 main_cst_17
  let main_v68 : IVec S256x128 1 := cmpf .olt main_v66 main_v67
  let main_v69 : FVec F S256x128 .f32 := Host.absf main_arg16
  let main_cst_18 : FVec F S_ .f32 := constant S_ .f32 0x7F800000#32
  let main_v70 : FVec F S256x128 .f32 := broadcastInDim S256x128 ![] bcast_S_S256x128 main_cst_18
  let main_v71 : IVec S256x128 1 := cmpf .olt main_v69 main_v70
  let main_v72 : IVec S256x128 1 := andi main_v68 main_v71
  let main_v73 : FVec F S256x128 .f32 := Host.absf main_arg20
  let main_cst_19 : FVec F S_ .f32 := constant S_ .f32 0x7F800000#32
  let main_v74 : FVec F S256x128 .f32 := broadcastInDim S256x128 ![] bcast_S_S256x128 main_cst_19
  fn_part4 (F := F) main_arg13 main_arg17 main_arg21 main_arg24 main_arg25 main_v2 main_v13 main_v24 main_v35 main_v50 main_v65 main_v72 main_v73 main_v74

def fn_part2 {F : FTy → Type} [FloatOps F] (main_arg11 : FVec F S256 .f32) (main_arg12 : FVec F S256x128 .f32) (main_arg13 : FVec F S128 .f32) (main_arg14 : FVec F S128x256 .f32) (main_arg15 : FVec F S256 .f32) (main_arg16 : FVec F S256x128 .f32) (main_arg17 : FVec F S128 .f32) (main_arg18 : FVec F S128x256 .f32) (main_arg19 : FVec F S256 .f32) (main_arg20 : FVec F S256x128 .f32) (main_arg21 : FVec F S128 .f32) (main_arg22 : FVec F S128x256 .f32) (main_arg23 : FVec F S256 .f32) (main_arg24 : FVec F S256x128 .f32) (main_arg25 : FVec F S128 .f32) (main_v2 : IVec S4x256x128 1) (main_v13 : IVec S128x128 1) (main_v24 : IVec S128x1 1) (main_v35 : IVec S1 1) (main_v36 : FVec F S128x256 .f32) (main_cst_9 : FVec F S_ .f32) : IVec S4x256x128 1 × IVec S128x128 1 × IVec S128x1 1 × IVec S1 1 × IVec S128x256 1 × IVec S256 1 × IVec S256x128 1 × IVec S128 1 :=
  let main_v37 : FVec F S128x256 .f32 := broadcastInDim S128x256 ![] bcast_S_S128x256 main_cst_9
  let main_v38 : IVec S128x256 1 := cmpf .olt main_v36 main_v37
  let main_v39 : FVec F S128x256 .f32 := Host.absf main_arg14
  let main_cst_10 : FVec F S_ .f32 := constant S_ .f32 0x7F800000#32
  let main_v40 : FVec F S128x256 .f32 := broadcastInDim S128x256 ![] bcast_S_S128x256 main_cst_10
  let main_v41 : IVec S128x256 1 := cmpf .olt main_v39 main_v40
  let main_v42 : IVec S128x256 1 := andi main_v38 main_v41
  let main_v43 : FVec F S128x256 .f32 := Host.absf main_arg18
  let main_cst_11 : FVec F S_ .f32 := constant S_ .f32 0x7F800000#32
  let main_v44 : FVec F S128x256 .f32 := broadcastInDim S128x256 ![] bcast_S_S128x256 main_cst_11
  let main_v45 : IVec S128x256 1 := cmpf .olt main_v43 main_v44
  let main_v46 : IVec S128x256 1 := andi main_v42 main_v45
  let main_v47 : FVec F S128x256 .f32 := Host.absf main_arg22
  let main_cst_12 : FVec F S_ .f32 := constant S_ .f32 0x7F800000#32
  let main_v48 : FVec F S128x256 .f32 := broadcastInDim S128x256 ![] bcast_S_S128x256 main_cst_12
  let main_v49 : IVec S128x256 1 := cmpf .olt main_v47 main_v48
  let main_v50 : IVec S128x256 1 := andi main_v46 main_v49
  let main_v51 : FVec F S256 .f32 := Host.absf main_arg11
  let main_cst_13 : FVec F S_ .f32 := constant S_ .f32 0x7F800000#32
  let main_v52 : FVec F S256 .f32 := broadcastInDim S256 ![] bcast_S_S256 main_cst_13
  let main_v53 : IVec S256 1 := cmpf .olt main_v51 main_v52
  let main_v54 : FVec F S256 .f32 := Host.absf main_arg15
  let main_cst_14 : FVec F S_ .f32 := constant S_ .f32 0x7F800000#32
  let main_v55 : FVec F S256 .f32 := broadcastInDim S256 ![] bcast_S_S256 main_cst_14
  fn_part3 (F := F) main_arg12 main_arg13 main_arg16 main_arg17 main_arg19 main_arg20 main_arg21 main_arg23 main_arg24 main_arg25 main_v2 main_v13 main_v24 main_v35 main_v50 main_v53 main_v54 main_v55

def fn_part1 {F : FTy → Type} [FloatOps F] (main_arg5 : FVec F S1 .f32) (main_arg7 : FVec F S1 .f32) (main_arg8 : FVec F S128x1 .f32) (main_arg9 : FVec F S1 .f32) (main_arg10 : FVec F S128x256 .f32) (main_arg11 : FVec F S256 .f32) (main_arg12 : FVec F S256x128 .f32) (main_arg13 : FVec F S128 .f32) (main_arg14 : FVec F S128x256 .f32) (main_arg15 : FVec F S256 .f32) (main_arg16 : FVec F S256x128 .f32) (main_arg17 : FVec F S128 .f32) (main_arg18 : FVec F S128x256 .f32) (main_arg19 : FVec F S256 .f32) (main_arg20 : FVec F S256x128 .f32) (main_arg21 : FVec F S128 .f32) (main_arg22 : FVec F S128x256 .f32) (main_arg23 : FVec F S256 .f32) (main_arg24 : FVec F S256x128 .f32) (main_arg25 : FVec F S128 .f32) (main_v2 : IVec S4x256x128 1) (main_v13 : IVec S128x128 1) (main_v16 : IVec S128x1 1) (main_v17 : FVec F S128x1 .f32) (main_cst_4 : FVec F S_ .f32) : IVec S4x256x128 1 × IVec S128x128 1 × IVec S128x1 1 × IVec S1 1 × IVec S128x256 1 × IVec S256 1 × IVec S256x128 1 × IVec S128 1 :=
  let main_v18 : FVec F S128x1 .f32 := broadcastInDim S128x1 ![] bcast_S_S128x1 main_cst_4
  let main_v19 : IVec S128x1 1 := cmpf .olt main_v17 main_v18
  let main_v20 : IVec S128x1 1 := andi main_v16 main_v19
  let main_v21 : FVec F S128x1 .f32 := Host.absf main_arg8
  let main_cst_5 : FVec F S_ .f32 := constant S_ .f32 0x7F800000#32
  let main_v22 : FVec F S128x1 .f32 := broadcastInDim S128x1 ![] bcast_S_S128x1 main_cst_5
  let main_v23 : IVec S128x1 1 := cmpf .olt main_v21 main_v22
  let main_v24 : IVec S128x1 1 := andi main_v20 main_v23
  let main_v25 : FVec F S1 .f32 := Host.absf main_arg5
  let main_cst_6 : FVec F S_ .f32 := constant S_ .f32 0x7F800000#32
  let main_v26 : FVec F S1 .f32 := broadcastInDim S1 ![] bcast_S_S1 main_cst_6
  let main_v27 : IVec S1 1 := cmpf .olt main_v25 main_v26
  let main_v28 : FVec F S1 .f32 := Host.absf main_arg7
  let main_cst_7 : FVec F S_ .f32 := constant S_ .f32 0x7F800000#32
  let main_v29 : FVec F S1 .f32 := broadcastInDim S1 ![] bcast_S_S1 main_cst_7
  let main_v30 : IVec S1 1 := cmpf .olt main_v28 main_v29
  let main_v31 : IVec S1 1 := andi main_v27 main_v30
  let main_v32 : FVec F S1 .f32 := Host.absf main_arg9
  let main_cst_8 : FVec F S_ .f32 := constant S_ .f32 0x7F800000#32
  let main_v33 : FVec F S1 .f32 := broadcastInDim S1 ![] bcast_S_S1 main_cst_8
  let main_v34 : IVec S1 1 := cmpf .olt main_v32 main_v33
  let main_v35 : IVec S1 1 := andi main_v31 main_v34
  let main_v36 : FVec F S128x256 .f32 := Host.absf main_arg10
  let main_cst_9 : FVec F S_ .f32 := constant S_ .f32 0x7F800000#32
  fn_part2 (F := F) main_arg11 main_arg12 main_arg13 main_arg14 main_arg15 main_arg16 main_arg17 main_arg18 main_arg19 main_arg20 main_arg21 main_arg22 main_arg23 main_arg24 main_arg25 main_v2 main_v13 main_v24 main_v35 main_v36 main_cst_9

def fn {F : FTy → Type} [FloatOps F] (main_arg0 : FVec F S4x256x128 .f32) (main_arg1 : FVec F S128x128 .f32) (main_arg2 : FVec F S128x128 .f32) (main_arg3 : FVec F S128x128 .f32) (main_arg4 : FVec F S128x1 .f32) (main_arg5 : FVec F S1 .f32) (main_arg6 : FVec F S128x1 .f32) (main_arg7 : FVec F S1 .f32) (main_arg8 : FVec F S128x1 .f32) (main_arg9 : FVec F S1 .f32) (main_arg10 : FVec F S128x256 .f32) (main_arg11 : FVec F S256 .f32) (main_arg12 : FVec F S256x128 .f32) (main_arg13 : FVec F S128 .f32) (main_arg14 : FVec F S128x256 .f32) (main_arg15 : FVec F S256 .f32) (main_arg16 : FVec F S256x128 .f32) (main_arg17 : FVec F S128 .f32) (main_arg18 : FVec F S128x256 .f32) (main_arg19 : FVec F S256 .f32) (main_arg20 : FVec F S256x128 .f32) (main_arg21 : FVec F S128 .f32) (main_arg22 : FVec F S128x256 .f32) (main_arg23 : FVec F S256 .f32) (main_arg24 : FVec F S256x128 .f32) (main_arg25 : FVec F S128 .f32) : IVec S4x256x128 1 × IVec S128x128 1 × IVec S128x1 1 × IVec S1 1 × IVec S128x256 1 × IVec S256 1 × IVec S256x128 1 × IVec S128 1 :=
  let main_v0 : FVec F S4x256x128 .f32 := Host.absf main_arg0
  let main_cst : FVec F S_ .f32 := constant S_ .f32 0x7F800000#32
  let main_v1 : FVec F S4x256x128 .f32 := broadcastInDim S4x256x128 ![] bcast_S_S4x256x128 main_cst
  let main_v2 : IVec S4x256x128 1 := cmpf .olt main_v0 main_v1
  let main_v3 : FVec F S128x128 .f32 := Host.absf main_arg1
  let main_cst_0 : FVec F S_ .f32 := constant S_ .f32 0x7F800000#32
  let main_v4 : FVec F S128x128 .f32 := broadcastInDim S128x128 ![] bcast_S_S128x128 main_cst_0
  let main_v5 : IVec S128x128 1 := cmpf .olt main_v3 main_v4
  let main_v6 : FVec F S128x128 .f32 := Host.absf main_arg2
  let main_cst_1 : FVec F S_ .f32 := constant S_ .f32 0x7F800000#32
  let main_v7 : FVec F S128x128 .f32 := broadcastInDim S128x128 ![] bcast_S_S128x128 main_cst_1
  let main_v8 : IVec S128x128 1 := cmpf .olt main_v6 main_v7
  let main_v9 : IVec S128x128 1 := andi main_v5 main_v8
  let main_v10 : FVec F S128x128 .f32 := Host.absf main_arg3
  let main_cst_2 : FVec F S_ .f32 := constant S_ .f32 0x7F800000#32
  let main_v11 : FVec F S128x128 .f32 := broadcastInDim S128x128 ![] bcast_S_S128x128 main_cst_2
  let main_v12 : IVec S128x128 1 := cmpf .olt main_v10 main_v11
  let main_v13 : IVec S128x128 1 := andi main_v9 main_v12
  let main_v14 : FVec F S128x1 .f32 := Host.absf main_arg4
  let main_cst_3 : FVec F S_ .f32 := constant S_ .f32 0x7F800000#32
  let main_v15 : FVec F S128x1 .f32 := broadcastInDim S128x1 ![] bcast_S_S128x1 main_cst_3
  let main_v16 : IVec S128x1 1 := cmpf .olt main_v14 main_v15
  let main_v17 : FVec F S128x1 .f32 := Host.absf main_arg6
  let main_cst_4 : FVec F S_ .f32 := constant S_ .f32 0x7F800000#32
  fn_part1 (F := F) main_arg5 main_arg7 main_arg8 main_arg9 main_arg10 main_arg11 main_arg12 main_arg13 main_arg14 main_arg15 main_arg16 main_arg17 main_arg18 main_arg19 main_arg20 main_arg21 main_arg22 main_arg23 main_arg24 main_arg25 main_v2 main_v13 main_v16 main_v17 main_cst_4
-- ==== Kernel.lean ====
abbrev S4x256x128 : Shape := ⟨3, ![4, 256, 128]⟩
abbrev S128x128 : Shape := ⟨2, ![128, 128]⟩
abbrev S128x1 : Shape := ⟨2, ![128, 1]⟩
abbrev S1 : Shape := ⟨1, ![1]⟩
abbrev S128x256 : Shape := ⟨2, ![128, 256]⟩
abbrev S256 : Shape := ⟨1, ![256]⟩
abbrev S256x128 : Shape := ⟨2, ![256, 128]⟩
abbrev S128 : Shape := ⟨1, ![128]⟩
abbrev S128x3 : Shape := ⟨2, ![128, 3]⟩
abbrev S_ : Shape := ⟨0, ![]⟩
abbrev S128x512 : Shape := ⟨2, ![128, 512]⟩
abbrev S1x512 : Shape := ⟨2, ![1, 512]⟩
abbrev S2 : Shape := ⟨1, ![2]⟩
abbrev S1x256 : Shape := ⟨2, ![1, 256]⟩
abbrev S1x128 : Shape := ⟨2, ![1, 128]⟩
abbrev S256x1x512 : Shape := ⟨3, ![256, 1, 512]⟩
abbrev S257x1x512 : Shape := ⟨3, ![257, 1, 512]⟩
abbrev S256x1x1024 : Shape := ⟨3, ![256, 1, 1024]⟩
abbrev S257x1x1024 : Shape := ⟨3, ![257, 1, 1024]⟩
abbrev S4x1x128x256 : Shape := ⟨4, ![4, 1, 128, 256]⟩
abbrev S4x1x1x256 : Shape := ⟨4, ![4, 1, 1, 256]⟩
abbrev S4x2x256x128 : Shape := ⟨4, ![4, 2, 256, 128]⟩
abbrev S4x2x1x128 : Shape := ⟨4, ![4, 2, 1, 128]⟩
abbrev S4x2x128x256 : Shape := ⟨4, ![4, 2, 128, 256]⟩
abbrev S4x2x1x256 : Shape := ⟨4, ![4, 2, 1, 256]⟩
abbrev S1x256x128 : Shape := ⟨3, ![1, 256, 128]⟩
abbrev S256x512 : Shape := ⟨2, ![256, 512]⟩
abbrev S256x1 : Shape := ⟨2, ![256, 1]⟩
abbrev S256x1x128 : Shape := ⟨3, ![256, 1, 128]⟩
abbrev S1x1x128 : Shape := ⟨3, ![1, 1, 128]⟩
abbrev S256x256 : Shape := ⟨2, ![256, 256]⟩
abbrev S256x1x256 : Shape := ⟨3, ![256, 1, 256]⟩
abbrev S1x1x256 : Shape := ⟨3, ![1, 1, 256]⟩
abbrev S1x1x128x256 : Shape := ⟨4, ![1, 1, 128, 256]⟩
abbrev S1x1x1x256 : Shape := ⟨4, ![1, 1, 1, 256]⟩
abbrev S1x1x256x128 : Shape := ⟨4, ![1, 1, 256, 128]⟩
abbrev S1x1x1x128 : Shape := ⟨4, ![1, 1, 1, 128]⟩
abbrev S1x1x512 : Shape := ⟨3, ![1, 1, 512]⟩
abbrev S1x1x1024 : Shape := ⟨3, ![1, 1, 1024]⟩
abbrev S1x1024 : Shape := ⟨2, ![1, 1024]⟩
abbrev S1x1 : Shape := ⟨2, ![1, 1]⟩
abbrev S2x128 : Shape := ⟨2, ![2, 128]⟩
abbrev S2x256 : Shape := ⟨2, ![2, 256]⟩
abbrev S2x1 : Shape := ⟨2, ![2, 1]⟩
abbrev S256x4x128 : Shape := ⟨3, ![256, 4, 128]⟩

abbrev nBuf : Space → Nat
  | .hbm => 65
  | .vmem => 34
  | .smem => 0
  | _ => 0

abbrev bufTy : (tb : Table) → Fin (tcTables nBuf tb) → BufTy
  | .hbm, ⟨0, _⟩ => ⟨S4x256x128, .f32⟩
  | .hbm, ⟨1, _⟩ => ⟨S128x128, .f32⟩
  | .hbm, ⟨2, _⟩ => ⟨S128x128, .f32⟩
  | .hbm, ⟨3, _⟩ => ⟨S128x128, .f32⟩
  | .hbm, ⟨4, _⟩ => ⟨S128x1, .f32⟩
  | .hbm, ⟨5, _⟩ => ⟨S1, .f32⟩
  | .hbm, ⟨6, _⟩ => ⟨S128x1, .f32⟩
  | .hbm, ⟨7, _⟩ => ⟨S1, .f32⟩
  | .hbm, ⟨8, _⟩ => ⟨S128x1, .f32⟩
  | .hbm, ⟨9, _⟩ => ⟨S1, .f32⟩
  | .hbm, ⟨10, _⟩ => ⟨S128x256, .f32⟩
  | .hbm, ⟨11, _⟩ => ⟨S256, .f32⟩
  | .hbm, ⟨12, _⟩ => ⟨S256x128, .f32⟩
  | .hbm, ⟨13, _⟩ => ⟨S128, .f32⟩
  | .hbm, ⟨14, _⟩ => ⟨S128x256, .f32⟩
  | .hbm, ⟨15, _⟩ => ⟨S256, .f32⟩
  | .hbm, ⟨16, _⟩ => ⟨S256x128, .f32⟩
  | .hbm, ⟨17, _⟩ => ⟨S128, .f32⟩
  | .hbm, ⟨18, _⟩ => ⟨S128x256, .f32⟩
  | .hbm, ⟨19, _⟩ => ⟨S256, .f32⟩
  | .hbm, ⟨20, _⟩ => ⟨S256x128, .f32⟩
  | .hbm, ⟨21, _⟩ => ⟨S128, .f32⟩
  | .hbm, ⟨22, _⟩ => ⟨S128x256, .f32⟩
  | .hbm, ⟨23, _⟩ => ⟨S256, .f32⟩
  | .hbm, ⟨24, _⟩ => ⟨S256x128, .f32⟩
  | .hbm, ⟨25, _⟩ => ⟨S128, .f32⟩
  | .hbm, ⟨26, _⟩ => ⟨S128x3, .f32⟩
  | .hbm, ⟨27, _⟩ => ⟨S_, .i32⟩
  | .hbm, ⟨28, _⟩ => ⟨S_, .f32⟩
  | .hbm, ⟨29, _⟩ => ⟨S128x128, .f32⟩
  | .hbm, ⟨30, _⟩ => ⟨S128x512, .f32⟩
  | .hbm, ⟨31, _⟩ => ⟨S_, .f32⟩
  | .hbm, ⟨32, _⟩ => ⟨S1x512, .f32⟩
  | .hbm, ⟨33, _⟩ => ⟨S_, .f32⟩
  | .hbm, ⟨34, _⟩ => ⟨S_, .i32⟩
  | .hbm, ⟨35, _⟩ => ⟨S1, .i32⟩
  | .hbm, ⟨36, _⟩ => ⟨S_, .i32⟩
  | .hbm, ⟨37, _⟩ => ⟨S1, .i32⟩
  | .hbm, ⟨38, _⟩ => ⟨S2, .i32⟩
  | .hbm, ⟨39, _⟩ => ⟨S1x512, .f32⟩
  | .hbm, ⟨40, _⟩ => ⟨S_, .f32⟩
  | .hbm, ⟨41, _⟩ => ⟨S_, .i32⟩
  | .hbm, ⟨42, _⟩ => ⟨S1, .i32⟩
  | .hbm, ⟨43, _⟩ => ⟨S_, .i32⟩
  | .hbm, ⟨44, _⟩ => ⟨S1, .i32⟩
  | .hbm, ⟨45, _⟩ => ⟨S2, .i32⟩
  | .hbm, ⟨46, _⟩ => ⟨S1x512, .f32⟩
  | .hbm, ⟨47, _⟩ => ⟨S_, .f32⟩
  | .hbm, ⟨48, _⟩ => ⟨S_, .i32⟩
  | .hbm, ⟨49, _⟩ => ⟨S1, .i32⟩
  | .hbm, ⟨50, _⟩ => ⟨S_, .i32⟩
  | .hbm, ⟨51, _⟩ => ⟨S1, .i32⟩
  | .hbm, ⟨52, _⟩ => ⟨S2, .i32⟩
  | .hbm, ⟨53, _⟩ => ⟨S1x512, .f32⟩
  | .hbm, ⟨54, _⟩ => ⟨S1x256, .f32⟩
  | .hbm, ⟨55, _⟩ => ⟨S1x128, .f32⟩
  | .hbm, ⟨56, _⟩ => ⟨S1x256, .f32⟩
  | .hbm, ⟨57, _⟩ => ⟨S1x128, .f32⟩
  | .hbm, ⟨58, _⟩ => ⟨S1x256, .f32⟩
  | .hbm, ⟨59, _⟩ => ⟨S1x128, .f32⟩
  | .hbm, ⟨60, _⟩ => ⟨S1x256, .f32⟩
  | .hbm, ⟨61, _⟩ => ⟨S1x128, .f32⟩
  | .hbm, ⟨62, _⟩ => ⟨S256x1x512, .f32⟩
  | .hbm, ⟨63, _⟩ => ⟨S256x4x128, .f32⟩
  | .hbm, ⟨64, _⟩ => ⟨S4x256x128, .f32⟩
  | .local _ .vmem, ⟨0, _⟩ => ⟨S4x256x128, .f32⟩
  | .local _ .vmem, ⟨1, _⟩ => ⟨S128x512, .f32⟩
  | .local _ .vmem, ⟨2, _⟩ => ⟨S1x512, .f32⟩
  | .local _ .vmem, ⟨3, _⟩ => ⟨S128x256, .f32⟩
  | .local _ .vmem, ⟨4, _⟩ => ⟨S1x256, .f32⟩
  | .local _ .vmem, ⟨5, _⟩ => ⟨S256x128, .f32⟩
  | .local _ .vmem, ⟨6, _⟩ => ⟨S1x128, .f32⟩
  | .local _ .vmem, ⟨7, _⟩ => ⟨S128x256, .f32⟩
  | .local _ .vmem, ⟨8, _⟩ => ⟨S1x256, .f32⟩
  | .local _ .vmem, ⟨9, _⟩ => ⟨S256x128, .f32⟩
  | .local _ .vmem, ⟨10, _⟩ => ⟨S1x128, .f32⟩
  | .local _ .vmem, ⟨11, _⟩ => ⟨S128x256, .f32⟩
  | .local _ .vmem, ⟨12, _⟩ => ⟨S1x256, .f32⟩
  | .local _ .vmem, ⟨13, _⟩ => ⟨S256x128, .f32⟩
  | .local _ .vmem, ⟨14, _⟩ => ⟨S1x128, .f32⟩
  | .local _ .vmem, ⟨15, _⟩ => ⟨S128x256, .f32⟩
  | .local _ .vmem, ⟨16, _⟩ => ⟨S1x256, .f32⟩
  | .local _ .vmem, ⟨17, _⟩ => ⟨S256x128, .f32⟩
  | .local _ .vmem, ⟨18, _⟩ => ⟨S1x128, .f32⟩
  | .local _ .vmem, ⟨19, _⟩ => ⟨S256x1x512, .f32⟩
  | .local _ .vmem, ⟨20, _⟩ => ⟨S257x1x512, .f32⟩
  | .local _ .vmem, ⟨21, _⟩ => ⟨S256x1x512, .f32⟩
  | .local _ .vmem, ⟨22, _⟩ => ⟨S256x1x512, .f32⟩
  | .local _ .vmem, ⟨23, _⟩ => ⟨S256x1x512, .f32⟩
  | .local _ .vmem, ⟨24, _⟩ => ⟨S256x1x1024, .f32⟩
  | .local _ .vmem, ⟨25, _⟩ => ⟨S257x1x1024, .f32⟩
  | .local _ .vmem, ⟨26, _⟩ => ⟨S4x1x128x256, .f32⟩
  | .local _ .vmem, ⟨27, _⟩ => ⟨S4x1x1x256, .f32⟩
  | .local _ .vmem, ⟨28, _⟩ => ⟨S4x2x256x128, .f32⟩
  | .local _ .vmem, ⟨29, _⟩ => ⟨S4x2x1x128, .f32⟩
  | .local _ .vmem, ⟨30, _⟩ => ⟨S4x2x128x256, .f32⟩
  | .local _ .vmem, ⟨31, _⟩ => ⟨S4x2x1x256, .f32⟩
  | .local _ .vmem, ⟨32, _⟩ => ⟨S4x2x256x128, .f32⟩
  | .local _ .vmem, ⟨33, _⟩ => ⟨S4x2x1x128, .f32⟩
  | _, _ => ⟨S4x256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_c : Ref sig .tc := ⟨.hbm, 27, rfl⟩
abbrev main_call0_v0 : Ref sig .tc := ⟨.hbm, 28, rfl⟩
abbrev main_v1 : Ref sig .tc := ⟨.hbm, 29, rfl⟩
abbrev main_v2 : Ref sig .tc := ⟨.hbm, 30, rfl⟩
abbrev main_cst : Ref sig .tc := ⟨.hbm, 31, rfl⟩
abbrev main_v3 : Ref sig .tc := ⟨.hbm, 32, rfl⟩
abbrev main_v4 : Ref sig .tc := ⟨.hbm, 33, rfl⟩
abbrev main_c_0 : Ref sig .tc := ⟨.hbm, 34, rfl⟩
abbrev main_v5 : Ref sig .tc := ⟨.hbm, 35, rfl⟩
abbrev main_c_1 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_c_2 : Ref sig .tc := ⟨.hbm, 41, rfl⟩
abbrev main_v10 : Ref sig .tc := ⟨.hbm, 42, rfl⟩
abbrev main_c_3 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_c_4 : Ref sig .tc := ⟨.hbm, 48, rfl⟩
abbrev main_v15 : Ref sig .tc := ⟨.hbm, 49, rfl⟩
abbrev main_c_5 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_scratch5 : Ref sig .tc := ⟨.vmem, 25, rfl⟩
abbrev cc0_scratch6 : Ref sig .tc := ⟨.vmem, 26, rfl⟩
abbrev cc0_scratch7 : Ref sig .tc := ⟨.vmem, 27, rfl⟩
abbrev cc0_scratch8 : Ref sig .tc := ⟨.vmem, 28, rfl⟩
abbrev cc0_scratch9 : Ref sig .tc := ⟨.vmem, 29, rfl⟩
abbrev cc0_scratch10 : Ref sig .tc := ⟨.vmem, 30, rfl⟩
abbrev cc0_scratch11 : Ref sig .tc := ⟨.vmem, 31, rfl⟩
abbrev cc0_scratch12 : Ref sig .tc := ⟨.vmem, 32, rfl⟩
abbrev cc0_scratch13 : Ref sig .tc := ⟨.vmem, 33, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19

abbrev nD : Nat := 1
abbrev τ : Topo := Topo.v7x

variable {F : FTy → Type} [FloatOps F]

abbrev grid0 : Pipeline.Grid := ⟨1, ![1], ![false]⟩

@[reducible] def k0_t1_loop : Scf.Loop 32 :=
  let c0_i32 : BitVec 32 := 0#32
  let c32_i32 : BitVec 32 := 32#32
  let v654 : BitVec 32 := Scalar.addi c0_i32 c32_i32
  let c1_i32 : BitVec 32 := 1#32
  ⟨c0_i32, v654, c1_i32⟩
def k0_off1 (k0_t1 : Fin k0_t1_loop.trips) (c0_i32_538 : BitVec 32) : Fin 3 → Nat :=
  let c0_i32 : BitVec 32 := 0#32
  let c1_i32 : BitVec 32 := 1#32
  let arg35 : BitVec 32 := Scf.iv c0_i32 c1_i32 k0_t1
  let c8_i32 : BitVec 32 := 8#32
  let v656 : BitVec 32 := Scalar.muli arg35 c8_i32
  let v657 : BitVec 32 := Scalar.addi v656 c0_i32_538
  let c1_i32_539 : BitVec 32 := 1#32
  let v658 : BitVec 32 := Scalar.addi v657 c1_i32_539
  let v659 : Index := Scalar.indexCast v658
  let c0_540 : Index := 0#32
  let c0_541 : Index := 0#32
  ![v659.toNat, 0, 0]
def k0_off2 (k0_t1 : Fin k0_t1_loop.trips) (c0_i32_538 : BitVec 32) : Fin 3 → Nat :=
  let c0_i32 : BitVec 32 := 0#32
  let c1_i32 : BitVec 32 := 1#32
  let arg35 : BitVec 32 := Scf.iv c0_i32 c1_i32 k0_t1
  let c8_i32 : BitVec 32 := 8#32
  let v656 : BitVec 32 := Scalar.muli arg35 c8_i32
  let v657 : BitVec 32 := Scalar.addi v656 c0_i32_538
  let v662 : Index := Scalar.indexCast v657
  let c0_542 : Index := 0#32
  let c0_543 : Index := 0#32
  ![v662.toNat, 0, 0]
def k0_off3 (k0_t1 : Fin k0_t1_loop.trips) (c0_i32_538 : BitVec 32) : Fin 3 → Nat :=
  let c0_i32 : BitVec 32 := 0#32
  let c1_i32 : BitVec 32 := 1#32
  let arg35 : BitVec 32 := Scf.iv c0_i32 c1_i32 k0_t1
  let c8_i32 : BitVec 32 := 8#32
  let v656 : BitVec 32 := Scalar.muli arg35 c8_i32
  let v657 : BitVec 32 := Scalar.addi v656 c0_i32_538
  let v671 : Index := Scalar.indexCast v657
  let c0_548 : Index := 0#32
  let c0_549 : Index := 0#32
  ![v671.toNat, 0, 0]
def k0_off4 (k0_t1 : Fin k0_t1_loop.trips) (c0_i32_538 : BitVec 32) : Fin 3 → Nat :=
  let c0_i32 : BitVec 32 := 0#32
  let c1_i32 : BitVec 32 := 1#32
  let arg35 : BitVec 32 := Scf.iv c0_i32 c1_i32 k0_t1
  let c8_i32 : BitVec 32 := 8#32
  let v656 : BitVec 32 := Scalar.muli arg35 c8_i32
  let v657 : BitVec 32 := Scalar.addi v656 c0_i32_538
  let v674 : Index := Scalar.indexCast v657
  let c0_550 : Index := 0#32
  let c0_551 : Index := 0#32
  ![v674.toNat, 0, 0]
def k0_off5 (k0_t1 : Fin k0_t1_loop.trips) (c0_i32_538 : BitVec 32) : Fin 3 → Nat :=
  let c0_i32 : BitVec 32 := 0#32
  let c1_i32 : BitVec 32 := 1#32
  let arg35 : BitVec 32 := Scf.iv c0_i32 c1_i32 k0_t1
  let c8_i32 : BitVec 32 := 8#32
  let v656 : BitVec 32 := Scalar.muli arg35 c8_i32
  let v657 : BitVec 32 := Scalar.addi v656 c0_i32_538
  let c1_i32_552 : BitVec 32 := 1#32
  let v677 : BitVec 32 := Scalar.addi v657 c1_i32_552
  let v678 : Index := Scalar.indexCast v677
  let c0_553 : Index := 0#32
  let c0_554 : Index := 0#32
  ![v678.toNat, 0, 0]
def k0_off6 (k0_t1 : Fin k0_t1_loop.trips) (c0_i32_538 : BitVec 32) : Fin 3 → Nat :=
  let c0_i32 : BitVec 32 := 0#32
  let c1_i32 : BitVec 32 := 1#32
  let arg35 : BitVec 32 := Scf.iv c0_i32 c1_i32 k0_t1
  let c8_i32 : BitVec 32 := 8#32
  let v656 : BitVec 32 := Scalar.muli arg35 c8_i32
  let v657 : BitVec 32 := Scalar.addi v656 c0_i32_538
  let v882 : Index := Scalar.indexCast v657
  let c0_675 : Index := 0#32
  let c0_676 : Index := 0#32
  ![v882.toNat, 0, 0]
def k0_off7 (k0_t1 : Fin k0_t1_loop.trips) (c0_i32_538 : BitVec 32) : Fin 3 → Nat :=
  let c0_i32 : BitVec 32 := 0#32
  let c1_i32 : BitVec 32 := 1#32
  let arg35 : BitVec 32 := Scf.iv c0_i32 c1_i32 k0_t1
  let c8_i32 : BitVec 32 := 8#32
  let v656 : BitVec 32 := Scalar.muli arg35 c8_i32
  let v657 : BitVec 32 := Scalar.addi v656 c0_i32_538
  let v1091 : Index := Scalar.indexCast v657
  let c0_797 : Index := 0#32
  let c128_798 : Index := 128#32
  ![v1091.toNat, 0, 128]
def k0_off8 (k0_t1 : Fin k0_t1_loop.trips) (c0_i32_538 : BitVec 32) : Fin 3 → Nat :=
  let c0_i32 : BitVec 32 := 0#32
  let c1_i32 : BitVec 32 := 1#32
  let arg35 : BitVec 32 := Scf.iv c0_i32 c1_i32 k0_t1
  let c8_i32 : BitVec 32 := 8#32
  let v656 : BitVec 32 := Scalar.muli arg35 c8_i32
  let v657 : BitVec 32 := Scalar.addi v656 c0_i32_538
  let v1300 : Index := Scalar.indexCast v657
  let c0_919 : Index := 0#32
  let c256_920 : Index := 256#32
  ![v1300.toNat, 0, 256]
def k0_off9 (k0_t1 : Fin k0_t1_loop.trips) (c0_i32_538 : BitVec 32) : Fin 3 → Nat :=
  let c0_i32 : BitVec 32 := 0#32
  let c1_i32 : BitVec 32 := 1#32
  let arg35 : BitVec 32 := Scf.iv c0_i32 c1_i32 k0_t1
  let c8_i32 : BitVec 32 := 8#32
  let v656 : BitVec 32 := Scalar.muli arg35 c8_i32
  let v657 : BitVec 32 := Scalar.addi v656 c0_i32_538
  let v1509 : Index := Scalar.indexCast v657
  let c0_1041 : Index := 0#32
  let c384_1042 : Index := 384#32
  ![v1509.toNat, 0, 384]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S4x256x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S128x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S256x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S256x1x512 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]
-- ==== ReferenceIdeal.lean ====
abbrev S4x256x128 : Shape := ⟨3, ![4, 256, 128]⟩
abbrev S128x128 : Shape := ⟨2, ![128, 128]⟩
abbrev S128x1 : Shape := ⟨2, ![128, 1]⟩
abbrev S1 : Shape := ⟨1, ![1]⟩
abbrev S128x256 : Shape := ⟨2, ![128, 256]⟩
abbrev S256 : Shape := ⟨1, ![256]⟩
abbrev S256x128 : Shape := ⟨2, ![256, 128]⟩
abbrev S128 : Shape := ⟨1, ![128]⟩
abbrev S_ : Shape := ⟨0, ![]⟩
abbrev S4x256 : Shape := ⟨2, ![4, 256]⟩
abbrev S4x256x1 : Shape := ⟨3, ![4, 256, 1]⟩
abbrev S1x1x1 : Shape := ⟨3, ![1, 1, 1]⟩
abbrev S4x128x256 : Shape := ⟨3, ![4, 128, 256]⟩
abbrev S4x128 : Shape := ⟨2, ![4, 128]⟩
abbrev S256x4x128 : Shape := ⟨3, ![256, 4, 128]⟩
abbrev S256x4x1 : Shape := ⟨3, ![256, 4, 1]⟩
abbrev S1x4x128 : Shape := ⟨3, ![1, 4, 128]⟩
abbrev S1x4x1 : Shape := ⟨3, ![1, 4, 1]⟩
abbrev S4x1 : Shape := ⟨2, ![4, 1]⟩
abbrev S4x1x128 : Shape := ⟨3, ![4, 1, 128]⟩
abbrev S4x1x256 : Shape := ⟨3, ![4, 1, 256]⟩
abbrev S4 : Shape := ⟨1, ![4]⟩
abbrev S1x128 : Shape := ⟨2, ![1, 128]⟩
abbrev S1x1x128 : Shape := ⟨3, ![1, 1, 128]⟩
abbrev S4x1x1 : Shape := ⟨3, ![4, 1, 1]⟩

abbrev nBuf : Space → Nat
  | .hbm => 426
  | .vmem => 0
  | .smem => 0
  | _ => 0

abbrev hbmTy0_0 (i : Nat) : BufTy := match i % 128 with
  | 0 => ⟨S4x256x128, .f32⟩
  | 1 => ⟨S128x128, .f32⟩
  | 2 => ⟨S128x128, .f32⟩
  | 3 => ⟨S128x128, .f32⟩
  | 4 => ⟨S128x1, .f32⟩
  | 5 => ⟨S1, .f32⟩
  | 6 => ⟨S128x1, .f32⟩
  | 7 => ⟨S1, .f32⟩
  | 8 => ⟨S128x1, .f32⟩
  | 9 => ⟨S1, .f32⟩
  | 10 => ⟨S128x256, .f32⟩
  | 11 => ⟨S256, .f32⟩
  | 12 => ⟨S256x128, .f32⟩
  | 13 => ⟨S128, .f32⟩
  | 14 => ⟨S128x256, .f32⟩
  | 15 => ⟨S256, .f32⟩
  | 16 => ⟨S256x128, .f32⟩
  | 17 => ⟨S128, .f32⟩
  | 18 => ⟨S128x256, .f32⟩
  | 19 => ⟨S256, .f32⟩
  | 20 => ⟨S256x128, .f32⟩
  | 21 => ⟨S128, .f32⟩
  | 22 => ⟨S128x256, .f32⟩
  | 23 => ⟨S256, .f32⟩
  | 24 => ⟨S256x128, .f32⟩
  | 25 => ⟨S128, .f32⟩
  | 26 => ⟨S4x256x128, .f32⟩
  | 27 => ⟨S4x256x128, .f32⟩
  | 28 => ⟨S4x256x128, .f32⟩
  | 29 => ⟨S_, .f32⟩
  | 30 => ⟨S4x256x128, .f32⟩
  | 31 => ⟨S4x256x128, .f32⟩
  | 32 => ⟨S_, .f32⟩
  | 33 => ⟨S4x256x128, .f32⟩
  | 34 => ⟨S4x256x128, .f32⟩
  | 35 => ⟨S4x256x128, .f32⟩
  | 36 => ⟨S4x256x128, .f32⟩
  | 37 => ⟨S_, .f32⟩
  | 38 => ⟨S4x256, .f32⟩
  | 39 => ⟨S4x256x1, .f32⟩
  | 40 => ⟨S4x256x1, .f32⟩
  | 41 => ⟨S_, .f32⟩
  | 42 => ⟨S4x256x1, .f32⟩
  | 43 => ⟨S4x256x1, .f32⟩
  | 44 => ⟨S4x256x128, .f32⟩
  | 45 => ⟨S4x256x128, .f32⟩
  | 46 => ⟨S4x256x128, .f32⟩
  | 47 => ⟨S4x256x128, .f32⟩
  | 48 => ⟨S4x256x128, .f32⟩
  | 49 => ⟨S_, .f32⟩
  | 50 => ⟨S4x256x128, .f32⟩
  | 51 => ⟨S4x256x128, .f32⟩
  | 52 => ⟨S_, .f32⟩
  | 53 => ⟨S4x256x128, .f32⟩
  | 54 => ⟨S4x256x128, .f32⟩
  | 55 => ⟨S4x256x128, .f32⟩
  | 56 => ⟨S4x256x128, .f32⟩
  | 57 => ⟨S_, .f32⟩
  | 58 => ⟨S4x256, .f32⟩
  | 59 => ⟨S4x256x1, .f32⟩
  | 60 => ⟨S4x256x1, .f32⟩
  | 61 => ⟨S_, .f32⟩
  | 62 => ⟨S4x256x1, .f32⟩
  | 63 => ⟨S4x256x1, .f32⟩
  | 64 => ⟨S4x256x128, .f32⟩
  | 65 => ⟨S4x256x128, .f32⟩
  | 66 => ⟨S4x256x128, .f32⟩
  | 67 => ⟨S4x256x128, .f32⟩
  | 68 => ⟨S4x256x128, .f32⟩
  | 69 => ⟨S_, .f32⟩
  | 70 => ⟨S4x256x128, .f32⟩
  | 71 => ⟨S4x256x128, .f32⟩
  | 72 => ⟨S_, .f32⟩
  | 73 => ⟨S4x256x128, .f32⟩
  | 74 => ⟨S4x256x128, .f32⟩
  | 75 => ⟨S4x256x128, .f32⟩
  | 76 => ⟨S4x256x1, .f32⟩
  | 77 => ⟨S1x1x1, .f32⟩
  | 78 => ⟨S4x256x1, .f32⟩
  | 79 => ⟨S4x256x1, .f32⟩
  | 80 => ⟨S4x256x1, .f32⟩
  | 81 => ⟨S4x256x1, .f32⟩
  | 82 => ⟨S_, .f32⟩
  | 83 => ⟨S4x256x1, .f32⟩
  | 84 => ⟨S4x256x1, .f32⟩
  | 85 => ⟨S_, .f32⟩
  | 86 => ⟨S4x256x1, .f32⟩
  | 87 => ⟨S4x256x1, .f32⟩
  | 88 => ⟨S_, .f32⟩
  | 89 => ⟨S4x256x1, .f32⟩
  | 90 => ⟨S4x256x1, .f32⟩
  | 91 => ⟨S4x256x1, .f32⟩
  | 92 => ⟨S1x1x1, .f32⟩
  | 93 => ⟨S4x256x1, .f32⟩
  | 94 => ⟨S4x256x1, .f32⟩
  | 95 => ⟨S4x256x1, .f32⟩
  | 96 => ⟨S4x256x1, .f32⟩
  | 97 => ⟨S_, .f32⟩
  | 98 => ⟨S4x256x1, .f32⟩
  | 99 => ⟨S4x256x1, .f32⟩
  | 100 => ⟨S_, .f32⟩
  | 101 => ⟨S4x256x1, .f32⟩
  | 102 => ⟨S4x256x1, .f32⟩
  | 103 => ⟨S4x256x1, .f32⟩
  | 104 => ⟨S1x1x1, .f32⟩
  | 105 => ⟨S4x256x1, .f32⟩
  | 106 => ⟨S4x256x1, .f32⟩
  | 107 => ⟨S4x256x1, .f32⟩
  | 108 => ⟨S4x256x1, .f32⟩
  | 109 => ⟨S_, .f32⟩
  | 110 => ⟨S4x256x1, .f32⟩
  | 111 => ⟨S4x256x1, .f32⟩
  | 112 => ⟨S_, .f32⟩
  | 113 => ⟨S4x256x1, .f32⟩
  | 114 => ⟨S4x256x1, .f32⟩
  | 115 => ⟨S4x128x256, .f32⟩
  | 116 => ⟨S4x256, .f32⟩
  | 117 => ⟨S4x256x128, .f32⟩
  | 118 => ⟨S4x128, .f32⟩
  | 119 => ⟨S4x128x256, .f32⟩
  | 120 => ⟨S4x256, .f32⟩
  | 121 => ⟨S4x256x128, .f32⟩
  | 122 => ⟨S4x128, .f32⟩
  | 123 => ⟨S4x128x256, .f32⟩
  | 124 => ⟨S4x256, .f32⟩
  | 125 => ⟨S4x256x128, .f32⟩
  | 126 => ⟨S4x128, .f32⟩
  | 127 => ⟨S4x128x256, .f32⟩
  | _ => ⟨S4x256x128, .f32⟩

abbrev hbmTy0_1 (i : Nat) : BufTy := match i % 128 with
  | 0 => ⟨S4x256, .f32⟩
  | 1 => ⟨S4x256x128, .f32⟩
  | 2 => ⟨S4x128, .f32⟩
  | 3 => ⟨S256x4x128, .f32⟩
  | 4 => ⟨S256x4x128, .f32⟩
  | 5 => ⟨S256x4x128, .f32⟩
  | 6 => ⟨S256x4x1, .f32⟩
  | 7 => ⟨S256x4x1, .f32⟩
  | 8 => ⟨S256x4x1, .f32⟩
  | 9 => ⟨S_, .f32⟩
  | 10 => ⟨S256x4x128, .f32⟩
  | 11 => ⟨S_, .i32⟩
  | 12 => ⟨S256x4x128, .f32⟩
  | 13 => ⟨S256x4x128, .f32⟩
  | 14 => ⟨S256x4x128, .f32⟩
  | 15 => ⟨S256x4x1, .f32⟩
  | 16 => ⟨S256x4x1, .f32⟩
  | 17 => ⟨S256x4x1, .f32⟩
  | 18 => ⟨S4x128x256, .f32⟩
  | 19 => ⟨S4x256, .f32⟩
  | 20 => ⟨S4x256x128, .f32⟩
  | 21 => ⟨S4x128, .f32⟩
  | 22 => ⟨S4x128x256, .f32⟩
  | 23 => ⟨S4x256, .f32⟩
  | 24 => ⟨S4x256x128, .f32⟩
  | 25 => ⟨S4x128, .f32⟩
  | 26 => ⟨S_, .i32⟩
  | 27 => ⟨S4x128x256, .f32⟩
  | 28 => ⟨S4x256, .f32⟩
  | 29 => ⟨S4x256x128, .f32⟩
  | 30 => ⟨S4x128, .f32⟩
  | 31 => ⟨S4x128x256, .f32⟩
  | 32 => ⟨S4x256, .f32⟩
  | 33 => ⟨S4x256x128, .f32⟩
  | 34 => ⟨S4x128, .f32⟩
  | 35 => ⟨S4x128x256, .f32⟩
  | 36 => ⟨S4x256, .f32⟩
  | 37 => ⟨S4x256x128, .f32⟩
  | 38 => ⟨S4x128, .f32⟩
  | 39 => ⟨S4x128x256, .f32⟩
  | 40 => ⟨S4x256, .f32⟩
  | 41 => ⟨S4x256x128, .f32⟩
  | 42 => ⟨S4x128, .f32⟩
  | 43 => ⟨S256x4x128, .f32⟩
  | 44 => ⟨S_, .i32⟩
  | 45 => ⟨S_, .i1⟩
  | 46 => ⟨S_, .i32⟩
  | 47 => ⟨S_, .i32⟩
  | 48 => ⟨S1x4x128, .f32⟩
  | 49 => ⟨S4x128, .f32⟩
  | 50 => ⟨S_, .i32⟩
  | 51 => ⟨S_, .i32⟩
  | 52 => ⟨S1x4x128, .f32⟩
  | 53 => ⟨S4x128, .f32⟩
  | 54 => ⟨S_, .i32⟩
  | 55 => ⟨S_, .i32⟩
  | 56 => ⟨S1x4x128, .f32⟩
  | 57 => ⟨S4x128, .f32⟩
  | 58 => ⟨S_, .i32⟩
  | 59 => ⟨S_, .i32⟩
  | 60 => ⟨S1x4x1, .f32⟩
  | 61 => ⟨S4x1, .f32⟩
  | 62 => ⟨S_, .i32⟩
  | 63 => ⟨S_, .i32⟩
  | 64 => ⟨S1x4x1, .f32⟩
  | 65 => ⟨S4x1, .f32⟩
  | 66 => ⟨S_, .i32⟩
  | 67 => ⟨S_, .i32⟩
  | 68 => ⟨S1x4x1, .f32⟩
  | 69 => ⟨S4x1, .f32⟩
  | 70 => ⟨S4x1x128, .f32⟩
  | 71 => ⟨S4x1x128, .f32⟩
  | 72 => ⟨S4x1x256, .f32⟩
  | 73 => ⟨S4x1x256, .f32⟩
  | 74 => ⟨S4x1x256, .f32⟩
  | 75 => ⟨S4x1x256, .f32⟩
  | 76 => ⟨S4x1x256, .f32⟩
  | 77 => ⟨S_, .f32⟩
  | 78 => ⟨S4x1x256, .f32⟩
  | 79 => ⟨S4x1x256, .f32⟩
  | 80 => ⟨S_, .f32⟩
  | 81 => ⟨S4x1x256, .f32⟩
  | 82 => ⟨S4x1x256, .f32⟩
  | 83 => ⟨S_, .f32⟩
  | 84 => ⟨S4x1x256, .f32⟩
  | 85 => ⟨S4x1x256, .f32⟩
  | 86 => ⟨S4x1x256, .f32⟩
  | 87 => ⟨S4x1x256, .f32⟩
  | 88 => ⟨S4x1x128, .f32⟩
  | 89 => ⟨S4x1x128, .f32⟩
  | 90 => ⟨S4x1x128, .f32⟩
  | 91 => ⟨S4x1x128, .f32⟩
  | 92 => ⟨S4x1x256, .f32⟩
  | 93 => ⟨S4x1x256, .f32⟩
  | 94 => ⟨S4x1x256, .f32⟩
  | 95 => ⟨S4x1x256, .f32⟩
  | 96 => ⟨S4x1x256, .f32⟩
  | 97 => ⟨S_, .f32⟩
  | 98 => ⟨S4x1x256, .f32⟩
  | 99 => ⟨S4x1x256, .f32⟩
  | 100 => ⟨S_, .f32⟩
  | 101 => ⟨S4x1x256, .f32⟩
  | 102 => ⟨S4x1x256, .f32⟩
  | 103 => ⟨S_, .f32⟩
  | 104 => ⟨S4x1x256, .f32⟩
  | 105 => ⟨S4x1x256, .f32⟩
  | 106 => ⟨S4x1x256, .f32⟩
  | 107 => ⟨S4x1x256, .f32⟩
  | 108 => ⟨S4x1x128, .f32⟩
  | 109 => ⟨S4x1x128, .f32⟩
  | 110 => ⟨S4x1x128, .f32⟩
  | 111 => ⟨S4x1x128, .f32⟩
  | 112 => ⟨S4x1x128, .f32⟩
  | 113 => ⟨S4x1x128, .f32⟩
  | 114 => ⟨S_, .f32⟩
  | 115 => ⟨S4x1x128, .f32⟩
  | 116 => ⟨S4x1x128, .f32⟩
  | 117 => ⟨S_, .f32⟩
  | 118 => ⟨S4, .f32⟩
  | 119 => ⟨S_, .f32⟩
  | 120 => ⟨S4, .f32⟩
  | 121 => ⟨S4, .f32⟩
  | 122 => ⟨S_, .f32⟩
  | 123 => ⟨S_, .f32⟩
  | 124 => ⟨S_, .f32⟩
  | 125 => ⟨S1x128, .f32⟩
  | 126 => ⟨S1x1x128, .f32⟩
  | 127 => ⟨S4x1x128, .f32⟩
  | _ => ⟨S4x256x128, .f32⟩

abbrev hbmTy0_2 (i : Nat) : BufTy := match i % 128 with
  | 0 => ⟨S4x1x128, .f32⟩
  | 1 => ⟨S_, .f32⟩
  | 2 => ⟨S4x128, .f32⟩
  | 3 => ⟨S4x128x256, .f32⟩
  | 4 => ⟨S4x256x128, .f32⟩
  | 5 => ⟨S4x1x256, .f32⟩
  | 6 => ⟨S4x1x256, .f32⟩
  | 7 => ⟨S4x1x256, .f32⟩
  | 8 => ⟨S4x1x256, .f32⟩
  | 9 => ⟨S4x1x256, .f32⟩
  | 10 => ⟨S_, .f32⟩
  | 11 => ⟨S4x256, .f32⟩
  | 12 => ⟨S4x256x128, .f32⟩
  | 13 => ⟨S4x128x256, .f32⟩
  | 14 => ⟨S4x1x128, .f32⟩
  | 15 => ⟨S4x1x128, .f32⟩
  | 16 => ⟨S_, .f32⟩
  | 17 => ⟨S4x128, .f32⟩
  | 18 => ⟨S4x128x256, .f32⟩
  | 19 => ⟨S4x256x128, .f32⟩
  | 20 => ⟨S4x1x256, .f32⟩
  | 21 => ⟨S4x1x256, .f32⟩
  | 22 => ⟨S4x1x256, .f32⟩
  | 23 => ⟨S4x1x256, .f32⟩
  | 24 => ⟨S4x1x256, .f32⟩
  | 25 => ⟨S_, .f32⟩
  | 26 => ⟨S4x256, .f32⟩
  | 27 => ⟨S4x256x128, .f32⟩
  | 28 => ⟨S4x128x256, .f32⟩
  | 29 => ⟨S4x1x1, .f32⟩
  | 30 => ⟨S4x128x256, .f32⟩
  | 31 => ⟨S4x128x256, .f32⟩
  | 32 => ⟨S4x1x1, .f32⟩
  | 33 => ⟨S4x128x256, .f32⟩
  | 34 => ⟨S4x128x256, .f32⟩
  | 35 => ⟨S4x128x256, .f32⟩
  | 36 => ⟨S4x256, .f32⟩
  | 37 => ⟨S4x256, .f32⟩
  | 38 => ⟨S4x256, .f32⟩
  | 39 => ⟨S4x256, .f32⟩
  | 40 => ⟨S4x256, .f32⟩
  | 41 => ⟨S4x1x1, .f32⟩
  | 42 => ⟨S4x256x128, .f32⟩
  | 43 => ⟨S4x256x128, .f32⟩
  | 44 => ⟨S4x1x1, .f32⟩
  | 45 => ⟨S4x256x128, .f32⟩
  | 46 => ⟨S4x256x128, .f32⟩
  | 47 => ⟨S4x256x128, .f32⟩
  | 48 => ⟨S4x128, .f32⟩
  | 49 => ⟨S4x128, .f32⟩
  | 50 => ⟨S4x128, .f32⟩
  | 51 => ⟨S4x128, .f32⟩
  | 52 => ⟨S4x128, .f32⟩
  | 53 => ⟨S4x1x1, .f32⟩
  | 54 => ⟨S4x128x256, .f32⟩
  | 55 => ⟨S4x128x256, .f32⟩
  | 56 => ⟨S4x1x1, .f32⟩
  | 57 => ⟨S4x128x256, .f32⟩
  | 58 => ⟨S4x128x256, .f32⟩
  | 59 => ⟨S4x128x256, .f32⟩
  | 60 => ⟨S4x256, .f32⟩
  | 61 => ⟨S4x256, .f32⟩
  | 62 => ⟨S4x256, .f32⟩
  | 63 => ⟨S4x256, .f32⟩
  | 64 => ⟨S4x256, .f32⟩
  | 65 => ⟨S4x1x1, .f32⟩
  | 66 => ⟨S4x256x128, .f32⟩
  | 67 => ⟨S4x256x128, .f32⟩
  | 68 => ⟨S4x1x1, .f32⟩
  | 69 => ⟨S4x256x128, .f32⟩
  | 70 => ⟨S4x256x128, .f32⟩
  | 71 => ⟨S4x256x128, .f32⟩
  | 72 => ⟨S4x128, .f32⟩
  | 73 => ⟨S4x128, .f32⟩
  | 74 => ⟨S4x128, .f32⟩
  | 75 => ⟨S4x128, .f32⟩
  | 76 => ⟨S4x128, .f32⟩
  | 77 => ⟨S4x1x1, .f32⟩
  | 78 => ⟨S_, .f32⟩
  | 79 => ⟨S4x1x1, .f32⟩
  | 80 => ⟨S4x1x1, .f32⟩
  | 81 => ⟨S4x128x256, .f32⟩
  | 82 => ⟨S4x128x256, .f32⟩
  | 83 => ⟨S4x128x256, .f32⟩
  | 84 => ⟨S_, .f32⟩
  | 85 => ⟨S4x1, .f32⟩
  | 86 => ⟨S4x1, .f32⟩
  | 87 => ⟨S4x256, .f32⟩
  | 88 => ⟨S4x256, .f32⟩
  | 89 => ⟨S4x256, .f32⟩
  | 90 => ⟨S4x1x1, .f32⟩
  | 91 => ⟨S_, .f32⟩
  | 92 => ⟨S4x1x1, .f32⟩
  | 93 => ⟨S4x1x1, .f32⟩
  | 94 => ⟨S4x256x128, .f32⟩
  | 95 => ⟨S4x256x128, .f32⟩
  | 96 => ⟨S4x256x128, .f32⟩
  | 97 => ⟨S_, .f32⟩
  | 98 => ⟨S4x1, .f32⟩
  | 99 => ⟨S4x1, .f32⟩
  | 100 => ⟨S4x128, .f32⟩
  | 101 => ⟨S4x128, .f32⟩
  | 102 => ⟨S4x128, .f32⟩
  | 103 => ⟨S4x1x1, .f32⟩
  | 104 => ⟨S_, .f32⟩
  | 105 => ⟨S4x1x1, .f32⟩
  | 106 => ⟨S4x1x1, .f32⟩
  | 107 => ⟨S4x128x256, .f32⟩
  | 108 => ⟨S4x128x256, .f32⟩
  | 109 => ⟨S4x128x256, .f32⟩
  | 110 => ⟨S_, .f32⟩
  | 111 => ⟨S4x1, .f32⟩
  | 112 => ⟨S4x1, .f32⟩
  | 113 => ⟨S4x256, .f32⟩
  | 114 => ⟨S4x256, .f32⟩
  | 115 => ⟨S4x256, .f32⟩
  | 116 => ⟨S4x1x1, .f32⟩
  | 117 => ⟨S_, .f32⟩
  | 118 => ⟨S4x1x1, .f32⟩
  | 119 => ⟨S4x1x1, .f32⟩
  | 120 => ⟨S4x256x128, .f32⟩
  | 121 => ⟨S4x256x128, .f32⟩
  | 122 => ⟨S4x256x128, .f32⟩
  | 123 => ⟨S_, .f32⟩
  | 124 => ⟨S4x1, .f32⟩
  | 125 => ⟨S4x1, .f32⟩
  | 126 => ⟨S4x128, .f32⟩
  | 127 => ⟨S4x128, .f32⟩
  | _ => ⟨S4x256x128, .f32⟩

abbrev hbmTy0_3 (i : Nat) : BufTy := match i % 128 with
  | 0 => ⟨S4x128, .f32⟩
  | 1 => ⟨S4x1x128, .f32⟩
  | 2 => ⟨S4x1x256, .f32⟩
  | 3 => ⟨S4x1x256, .f32⟩
  | 4 => ⟨S4x1x256, .f32⟩
  | 5 => ⟨S4x1x256, .f32⟩
  | 6 => ⟨S4x1x256, .f32⟩
  | 7 => ⟨S_, .f32⟩
  | 8 => ⟨S4x1x256, .f32⟩
  | 9 => ⟨S4x1x256, .f32⟩
  | 10 => ⟨S_, .f32⟩
  | 11 => ⟨S4x1x256, .f32⟩
  | 12 => ⟨S4x1x256, .f32⟩
  | 13 => ⟨S4x1x256, .f32⟩
  | 14 => ⟨S4x1x128, .f32⟩
  | 15 => ⟨S4x1x128, .f32⟩
  | 16 => ⟨S4x1x128, .f32⟩
  | 17 => ⟨S4x1x128, .f32⟩
  | 18 => ⟨S4x1x256, .f32⟩
  | 19 => ⟨S4x1x256, .f32⟩
  | 20 => ⟨S4x1x256, .f32⟩
  | 21 => ⟨S4x1x256, .f32⟩
  | 22 => ⟨S4x1x256, .f32⟩
  | 23 => ⟨S_, .f32⟩
  | 24 => ⟨S4x1x256, .f32⟩
  | 25 => ⟨S4x1x256, .f32⟩
  | 26 => ⟨S_, .f32⟩
  | 27 => ⟨S4x1x256, .f32⟩
  | 28 => ⟨S4x1x256, .f32⟩
  | 29 => ⟨S4x1x256, .f32⟩
  | 30 => ⟨S4x1x128, .f32⟩
  | 31 => ⟨S4x1x128, .f32⟩
  | 32 => ⟨S4x1x128, .f32⟩
  | 33 => ⟨S4x1x128, .f32⟩
  | 34 => ⟨S4x128, .f32⟩
  | 35 => ⟨S1x4x128, .f32⟩
  | 36 => ⟨S_, .i32⟩
  | 37 => ⟨S_, .i32⟩
  | 38 => ⟨S256x4x128, .f32⟩
  | 39 => ⟨S_, .i32⟩
  | 40 => ⟨S_, .i32⟩
  | 41 => ⟨S4x256x128, .f32⟩
  | _ => ⟨S4x256x128, .f32⟩

abbrev hbmTy (i : Nat) : BufTy := match i / 128 with
  | 0 => hbmTy0_0 i
  | 1 => hbmTy0_1 i
  | 2 => hbmTy0_2 i
  | 3 => hbmTy0_3 i
  | _ => ⟨S4x256x128, .f32⟩

abbrev bufTy : (tb : Table) → Fin (tcTables nBuf tb) → BufTy
  | .hbm, ⟨i, _⟩ => hbmTy i
  | _, _ => ⟨S4x256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v1 : Ref sig .tc := ⟨.hbm, 35, rfl⟩
abbrev main_call1_v0 : Ref sig .tc := ⟨.hbm, 36, rfl⟩
abbrev main_call1_cst : Ref sig .tc := ⟨.hbm, 37, rfl⟩
abbrev main_call1_v1 : Ref sig .tc := ⟨.hbm, 38, rfl⟩
abbrev main_call1_v2 : Ref sig .tc := ⟨.hbm, 39, rfl⟩
abbrev main_v2 : Ref sig .tc := ⟨.hbm, 40, rfl⟩
abbrev main_cst : Ref sig .tc := ⟨.hbm, 41, rfl⟩
abbrev main_v3 : Ref sig .tc := ⟨.hbm, 42, rfl⟩
abbrev main_v4 : Ref sig .tc := ⟨.hbm, 43, rfl⟩
abbrev main_v5 : Ref sig .tc := ⟨.hbm, 44, rfl⟩
abbrev main_v6 : Ref sig .tc := ⟨.hbm, 45, rfl⟩
abbrev main_v7 : Ref sig .tc := ⟨.hbm, 46, rfl⟩
abbrev main_call2_v0 : Ref sig .tc := ⟨.hbm, 47, rfl⟩
abbrev main_call2_v1 : Ref sig .tc := ⟨.hbm, 48, rfl⟩
abbrev main_call2_cst : Ref sig .tc := ⟨.hbm, 49, rfl⟩
abbrev main_call2_v2 : Ref sig .tc := ⟨.hbm, 50, rfl⟩
abbrev main_call2_v3 : Ref sig .tc := ⟨.hbm, 51, rfl⟩
abbrev main_call2_cst_0 : Ref sig .tc := ⟨.hbm, 52, rfl⟩
abbrev main_call2_v4 : Ref sig .tc := ⟨.hbm, 53, rfl⟩
abbrev main_call2_v5 : Ref sig .tc := ⟨.hbm, 54, rfl⟩
abbrev main_v8 : Ref sig .tc := ⟨.hbm, 55, rfl⟩
abbrev main_call3_v0 : Ref sig .tc := ⟨.hbm, 56, rfl⟩
abbrev main_call3_cst : Ref sig .tc := ⟨.hbm, 57, rfl⟩
abbrev main_call3_v1 : Ref sig .tc := ⟨.hbm, 58, rfl⟩
abbrev main_call3_v2 : Ref sig .tc := ⟨.hbm, 59, rfl⟩
abbrev main_v9 : Ref sig .tc := ⟨.hbm, 60, rfl⟩
abbrev main_cst_0 : Ref sig .tc := ⟨.hbm, 61, rfl⟩
abbrev main_v10 : Ref sig .tc := ⟨.hbm, 62, rfl⟩
abbrev main_v11 : Ref sig .tc := ⟨.hbm, 63, rfl⟩
abbrev main_v12 : Ref sig .tc := ⟨.hbm, 64, rfl⟩
abbrev main_v13 : Ref sig .tc := ⟨.hbm, 65, rfl⟩
abbrev main_v14 : Ref sig .tc := ⟨.hbm, 66, rfl⟩
abbrev main_call4_v0 : Ref sig .tc := ⟨.hbm, 67, rfl⟩
abbrev main_call4_v1 : Ref sig .tc := ⟨.hbm, 68, rfl⟩
abbrev main_call4_cst : Ref sig .tc := ⟨.hbm, 69, rfl⟩
abbrev main_call4_v2 : Ref sig .tc := ⟨.hbm, 70, rfl⟩
abbrev main_call4_v3 : Ref sig .tc := ⟨.hbm, 71, rfl⟩
abbrev main_call4_cst_0 : Ref sig .tc := ⟨.hbm, 72, rfl⟩
abbrev main_call4_v4 : Ref sig .tc := ⟨.hbm, 73, rfl⟩
abbrev main_call4_v5 : Ref sig .tc := ⟨.hbm, 74, rfl⟩
abbrev main_v15 : Ref sig .tc := ⟨.hbm, 75, rfl⟩
abbrev main_v16 : Ref sig .tc := ⟨.hbm, 76, rfl⟩
abbrev main_v17 : Ref sig .tc := ⟨.hbm, 77, rfl⟩
abbrev main_v18 : Ref sig .tc := ⟨.hbm, 78, rfl⟩
abbrev main_v19 : Ref sig .tc := ⟨.hbm, 79, rfl⟩
abbrev main_v20 : Ref sig .tc := ⟨.hbm, 80, rfl⟩
abbrev main_v21 : Ref sig .tc := ⟨.hbm, 81, rfl⟩
abbrev main_cst_1 : Ref sig .tc := ⟨.hbm, 82, rfl⟩
abbrev main_v22 : Ref sig .tc := ⟨.hbm, 83, rfl⟩
abbrev main_v23 : Ref sig .tc := ⟨.hbm, 84, rfl⟩
abbrev main_cst_2 : Ref sig .tc := ⟨.hbm, 85, rfl⟩
abbrev main_v24 : Ref sig .tc := ⟨.hbm, 86, rfl⟩
abbrev main_v25 : Ref sig .tc := ⟨.hbm, 87, rfl⟩
abbrev main_cst_3 : Ref sig .tc := ⟨.hbm, 88, rfl⟩
abbrev main_v26 : Ref sig .tc := ⟨.hbm, 89, rfl⟩
abbrev main_v27 : Ref sig .tc := ⟨.hbm, 90, rfl⟩
abbrev main_v28 : Ref sig .tc := ⟨.hbm, 91, rfl⟩
abbrev main_v29 : Ref sig .tc := ⟨.hbm, 92, rfl⟩
abbrev main_v30 : Ref sig .tc := ⟨.hbm, 93, rfl⟩
abbrev main_v31 : Ref sig .tc := ⟨.hbm, 94, rfl⟩
abbrev main_v32 : Ref sig .tc := ⟨.hbm, 95, rfl⟩
abbrev main_v33 : Ref sig .tc := ⟨.hbm, 96, rfl⟩
abbrev main_cst_4 : Ref sig .tc := ⟨.hbm, 97, rfl⟩
abbrev main_v34 : Ref sig .tc := ⟨.hbm, 98, rfl⟩
abbrev main_v35 : Ref sig .tc := ⟨.hbm, 99, rfl⟩
abbrev main_cst_5 : Ref sig .tc := ⟨.hbm, 100, rfl⟩
abbrev main_v36 : Ref sig .tc := ⟨.hbm, 101, rfl⟩
abbrev main_v37 : Ref sig .tc := ⟨.hbm, 102, rfl⟩
abbrev main_v38 : Ref sig .tc := ⟨.hbm, 103, rfl⟩
abbrev main_v39 : Ref sig .tc := ⟨.hbm, 104, rfl⟩
abbrev main_v40 : Ref sig .tc := ⟨.hbm, 105, rfl⟩
abbrev main_v41 : Ref sig .tc := ⟨.hbm, 106, rfl⟩
abbrev main_v42 : Ref sig .tc := ⟨.hbm, 107, rfl⟩
abbrev main_v43 : Ref sig .tc := ⟨.hbm, 108, rfl⟩
abbrev main_cst_6 : Ref sig .tc := ⟨.hbm, 109, rfl⟩
abbrev main_v44 : Ref sig .tc := ⟨.hbm, 110, rfl⟩
abbrev main_v45 : Ref sig .tc := ⟨.hbm, 111, rfl⟩
abbrev main_cst_7 : Ref sig .tc := ⟨.hbm, 112, rfl⟩
abbrev main_v46 : Ref sig .tc := ⟨.hbm, 113, rfl⟩
abbrev main_v47 : Ref sig .tc := ⟨.hbm, 114, rfl⟩
abbrev main_v48 : Ref sig .tc := ⟨.hbm, 115, rfl⟩
abbrev main_v49 : Ref sig .tc := ⟨.hbm, 116, rfl⟩
abbrev main_v50 : Ref sig .tc := ⟨.hbm, 117, rfl⟩
abbrev main_v51 : Ref sig .tc := ⟨.hbm, 118, rfl⟩
abbrev main_v52 : Ref sig .tc := ⟨.hbm, 119, rfl⟩
abbrev main_v53 : Ref sig .tc := ⟨.hbm, 120, rfl⟩
abbrev main_v54 : Ref sig .tc := ⟨.hbm, 121, rfl⟩
abbrev main_v55 : Ref sig .tc := ⟨.hbm, 122, rfl⟩
abbrev main_v56 : Ref sig .tc := ⟨.hbm, 123, rfl⟩
abbrev main_v57 : Ref sig .tc := ⟨.hbm, 124, rfl⟩
abbrev main_v58 : Ref sig .tc := ⟨.hbm, 125, rfl⟩
abbrev main_v59 : Ref sig .tc := ⟨.hbm, 126, rfl⟩
abbrev main_v60 : Ref sig .tc := ⟨.hbm, 127, rfl⟩
abbrev main_v61 : Ref sig .tc := ⟨.hbm, 128, rfl⟩
abbrev main_v62 : Ref sig .tc := ⟨.hbm, 129, rfl⟩
abbrev main_v63 : Ref sig .tc := ⟨.hbm, 130, rfl⟩
abbrev main_v64 : Ref sig .tc := ⟨.hbm, 131, rfl⟩
abbrev main_v65 : Ref sig .tc := ⟨.hbm, 132, rfl⟩
abbrev main_v66 : Ref sig .tc := ⟨.hbm, 133, rfl⟩
abbrev main_v67 : Ref sig .tc := ⟨.hbm, 134, rfl⟩
abbrev main_v68 : Ref sig .tc := ⟨.hbm, 135, rfl⟩
abbrev main_v69 : Ref sig .tc := ⟨.hbm, 136, rfl⟩
abbrev main_cst_8 : Ref sig .tc := ⟨.hbm, 137, rfl⟩
abbrev main_v70 : Ref sig .tc := ⟨.hbm, 138, rfl⟩
abbrev main_c : Ref sig .tc := ⟨.hbm, 139, rfl⟩
abbrev main_v71_0 : Ref sig .tc := ⟨.hbm, 140, rfl⟩
abbrev main_v71_1 : Ref sig .tc := ⟨.hbm, 141, rfl⟩
abbrev main_v71_2 : Ref sig .tc := ⟨.hbm, 142, rfl⟩
abbrev main_v71_3 : Ref sig .tc := ⟨.hbm, 143, rfl⟩
abbrev main_v71_4 : Ref sig .tc := ⟨.hbm, 144, rfl⟩
abbrev main_v71_5 : Ref sig .tc := ⟨.hbm, 145, rfl⟩
abbrev main_v71_6 : Ref sig .tc := ⟨.hbm, 146, rfl⟩
abbrev main_v71_7 : Ref sig .tc := ⟨.hbm, 147, rfl⟩
abbrev main_v71_8 : Ref sig .tc := ⟨.hbm, 148, rfl⟩
abbrev main_v71_9 : Ref sig .tc := ⟨.hbm, 149, rfl⟩
abbrev main_v71_10 : Ref sig .tc := ⟨.hbm, 150, rfl⟩
abbrev main_v71_11 : Ref sig .tc := ⟨.hbm, 151, rfl⟩
abbrev main_v71_12 : Ref sig .tc := ⟨.hbm, 152, rfl⟩
abbrev main_v71_13 : Ref sig .tc := ⟨.hbm, 153, rfl⟩
abbrev main_v71_14 : Ref sig .tc := ⟨.hbm, 154, rfl⟩
abbrev main_v71_15 : Ref sig .tc := ⟨.hbm, 155, rfl⟩
abbrev main_v71_16 : Ref sig .tc := ⟨.hbm, 156, rfl⟩
abbrev main_v71_17 : Ref sig .tc := ⟨.hbm, 157, rfl⟩
abbrev main_v71_18 : Ref sig .tc := ⟨.hbm, 158, rfl⟩
abbrev main_v71_19 : Ref sig .tc := ⟨.hbm, 159, rfl⟩
abbrev main_v71_20 : Ref sig .tc := ⟨.hbm, 160, rfl⟩
abbrev main_v71_21 : Ref sig .tc := ⟨.hbm, 161, rfl⟩
abbrev main_v71_22 : Ref sig .tc := ⟨.hbm, 162, rfl⟩
abbrev main_v71_23 : Ref sig .tc := ⟨.hbm, 163, rfl⟩
abbrev main_v71_24 : Ref sig .tc := ⟨.hbm, 164, rfl⟩
abbrev main_v71_25 : Ref sig .tc := ⟨.hbm, 165, rfl⟩
abbrev main_v71_26 : Ref sig .tc := ⟨.hbm, 166, rfl⟩
abbrev main_v71_27 : Ref sig .tc := ⟨.hbm, 167, rfl⟩
abbrev main_v71_28 : Ref sig .tc := ⟨.hbm, 168, rfl⟩
abbrev main_v71_29 : Ref sig .tc := ⟨.hbm, 169, rfl⟩
abbrev main_v71_30 : Ref sig .tc := ⟨.hbm, 170, rfl⟩
abbrev main_v71_31 : Ref sig .tc := ⟨.hbm, 171, rfl⟩
abbrev main_while0c_c_40 : Ref sig .tc := ⟨.hbm, 172, rfl⟩
abbrev main_while0c_v73 : Ref sig .tc := ⟨.hbm, 173, rfl⟩
abbrev main_while0b_call5_c : Ref sig .tc := ⟨.hbm, 174, rfl⟩
abbrev main_while0b_call5_c_0 : Ref sig .tc := ⟨.hbm, 175, rfl⟩
abbrev main_while0b_call5_v0 : Ref sig .tc := ⟨.hbm, 176, rfl⟩
abbrev main_while0b_v73 : Ref sig .tc := ⟨.hbm, 177, rfl⟩
abbrev main_while0b_call6_c : Ref sig .tc := ⟨.hbm, 178, rfl⟩
abbrev main_while0b_call6_c_0 : Ref sig .tc := ⟨.hbm, 179, rfl⟩
abbrev main_while0b_call6_v0 : Ref sig .tc := ⟨.hbm, 180, rfl⟩
abbrev main_while0b_v74 : Ref sig .tc := ⟨.hbm, 181, rfl⟩
abbrev main_while0b_call7_c : Ref sig .tc := ⟨.hbm, 182, rfl⟩
abbrev main_while0b_call7_c_0 : Ref sig .tc := ⟨.hbm, 183, rfl⟩
abbrev main_while0b_call7_v0 : Ref sig .tc := ⟨.hbm, 184, rfl⟩
abbrev main_while0b_v75 : Ref sig .tc := ⟨.hbm, 185, rfl⟩
abbrev main_while0b_call8_c : Ref sig .tc := ⟨.hbm, 186, rfl⟩
abbrev main_while0b_call8_c_0 : Ref sig .tc := ⟨.hbm, 187, rfl⟩
abbrev main_while0b_call8_v0 : Ref sig .tc := ⟨.hbm, 188, rfl⟩
abbrev main_while0b_v76 : Ref sig .tc := ⟨.hbm, 189, rfl⟩
abbrev main_while0b_call9_c : Ref sig .tc := ⟨.hbm, 190, rfl⟩
abbrev main_while0b_call9_c_0 : Ref sig .tc := ⟨.hbm, 191, rfl⟩
abbrev main_while0b_call9_v0 : Ref sig .tc := ⟨.hbm, 192, rfl⟩
abbrev main_while0b_v77 : Ref sig .tc := ⟨.hbm, 193, rfl⟩
abbrev main_while0b_call10_c : Ref sig .tc := ⟨.hbm, 194, rfl⟩
abbrev main_while0b_call10_c_0 : Ref sig .tc := ⟨.hbm, 195, rfl⟩
abbrev main_while0b_call10_v0 : Ref sig .tc := ⟨.hbm, 196, rfl⟩
abbrev main_while0b_v78 : Ref sig .tc := ⟨.hbm, 197, rfl⟩
abbrev main_while0b_v79 : Ref sig .tc := ⟨.hbm, 198, rfl⟩
abbrev main_while0b_v80 : Ref sig .tc := ⟨.hbm, 199, rfl⟩
abbrev main_while0b_v81 : Ref sig .tc := ⟨.hbm, 200, rfl⟩
abbrev main_while0b_v82 : Ref sig .tc := ⟨.hbm, 201, rfl⟩
abbrev main_while0b_v83 : Ref sig .tc := ⟨.hbm, 202, rfl⟩
abbrev main_while0b_call11_v0 : Ref sig .tc := ⟨.hbm, 203, rfl⟩
abbrev main_while0b_call11_v1 : Ref sig .tc := ⟨.hbm, 204, rfl⟩
abbrev main_while0b_call11_cst : Ref sig .tc := ⟨.hbm, 205, rfl⟩
abbrev main_while0b_call11_v2 : Ref sig .tc := ⟨.hbm, 206, rfl⟩
abbrev main_while0b_call11_v3 : Ref sig .tc := ⟨.hbm, 207, rfl⟩
abbrev main_while0b_call11_cst_0 : Ref sig .tc := ⟨.hbm, 208, rfl⟩
abbrev main_while0b_call11_v4 : Ref sig .tc := ⟨.hbm, 209, rfl⟩
abbrev main_while0b_v84_2 : Ref sig .tc := ⟨.hbm, 210, rfl⟩
abbrev main_while0b_call11_cst_1 : Ref sig .tc := ⟨.hbm, 211, rfl⟩
abbrev main_while0b_call11_v6 : Ref sig .tc := ⟨.hbm, 212, rfl⟩
abbrev main_while0b_call11_v7 : Ref sig .tc := ⟨.hbm, 213, rfl⟩
abbrev main_while0b_v84_1 : Ref sig .tc := ⟨.hbm, 214, rfl⟩
abbrev main_while0b_v84_0 : Ref sig .tc := ⟨.hbm, 215, rfl⟩
abbrev main_while0b_v85 : Ref sig .tc := ⟨.hbm, 216, rfl⟩
abbrev main_while0b_v86 : Ref sig .tc := ⟨.hbm, 217, rfl⟩
abbrev main_while0b_v87 : Ref sig .tc := ⟨.hbm, 218, rfl⟩
abbrev main_while0b_v88 : Ref sig .tc := ⟨.hbm, 219, rfl⟩
abbrev main_while0b_v89 : Ref sig .tc := ⟨.hbm, 220, rfl⟩
abbrev main_while0b_v90 : Ref sig .tc := ⟨.hbm, 221, rfl⟩
abbrev main_while0b_v91 : Ref sig .tc := ⟨.hbm, 222, rfl⟩
abbrev main_while0b_call12_v0 : Ref sig .tc := ⟨.hbm, 223, rfl⟩
abbrev main_while0b_call12_v1 : Ref sig .tc := ⟨.hbm, 224, rfl⟩
abbrev main_while0b_call12_cst : Ref sig .tc := ⟨.hbm, 225, rfl⟩
abbrev main_while0b_call12_v2 : Ref sig .tc := ⟨.hbm, 226, rfl⟩
abbrev main_while0b_call12_v3 : Ref sig .tc := ⟨.hbm, 227, rfl⟩
abbrev main_while0b_call12_cst_0 : Ref sig .tc := ⟨.hbm, 228, rfl⟩
abbrev main_while0b_call12_v4 : Ref sig .tc := ⟨.hbm, 229, rfl⟩
abbrev main_while0b_v92_2 : Ref sig .tc := ⟨.hbm, 230, rfl⟩
abbrev main_while0b_call12_cst_1 : Ref sig .tc := ⟨.hbm, 231, rfl⟩
abbrev main_while0b_call12_v6 : Ref sig .tc := ⟨.hbm, 232, rfl⟩
abbrev main_while0b_call12_v7 : Ref sig .tc := ⟨.hbm, 233, rfl⟩
abbrev main_while0b_v92_1 : Ref sig .tc := ⟨.hbm, 234, rfl⟩
abbrev main_while0b_v92_0 : Ref sig .tc := ⟨.hbm, 235, rfl⟩
abbrev main_while0b_v93 : Ref sig .tc := ⟨.hbm, 236, rfl⟩
abbrev main_while0b_v94 : Ref sig .tc := ⟨.hbm, 237, rfl⟩
abbrev main_while0b_v95 : Ref sig .tc := ⟨.hbm, 238, rfl⟩
abbrev main_while0b_v96 : Ref sig .tc := ⟨.hbm, 239, rfl⟩
abbrev main_while0b_v97 : Ref sig .tc := ⟨.hbm, 240, rfl⟩
abbrev main_while0b_v98 : Ref sig .tc := ⟨.hbm, 241, rfl⟩
abbrev main_while0b_cst_40 : Ref sig .tc := ⟨.hbm, 242, rfl⟩
abbrev main_while0b_v99 : Ref sig .tc := ⟨.hbm, 243, rfl⟩
abbrev main_while0b_v100 : Ref sig .tc := ⟨.hbm, 244, rfl⟩
abbrev main_while0b_cst_41 : Ref sig .tc := ⟨.hbm, 245, rfl⟩
abbrev main_while0b_v101 : Ref sig .tc := ⟨.hbm, 246, rfl⟩
abbrev main_while0b_cst_42 : Ref sig .tc := ⟨.hbm, 247, rfl⟩
abbrev main_while0b_v102 : Ref sig .tc := ⟨.hbm, 248, rfl⟩
abbrev main_while0b_v103 : Ref sig .tc := ⟨.hbm, 249, rfl⟩
abbrev main_while0b_cst_43 : Ref sig .tc := ⟨.hbm, 250, rfl⟩
abbrev main_while0b_cst_44 : Ref sig .tc := ⟨.hbm, 251, rfl⟩
abbrev main_while0b_v104 : Ref sig .tc := ⟨.hbm, 252, rfl⟩
abbrev main_while0b_v105 : Ref sig .tc := ⟨.hbm, 253, rfl⟩
abbrev main_while0b_v106 : Ref sig .tc := ⟨.hbm, 254, rfl⟩
abbrev main_while0b_v107 : Ref sig .tc := ⟨.hbm, 255, rfl⟩
abbrev main_while0b_v108 : Ref sig .tc := ⟨.hbm, 256, rfl⟩
abbrev main_while0b_cst_45 : Ref sig .tc := ⟨.hbm, 257, rfl⟩
abbrev main_while0b_v109 : Ref sig .tc := ⟨.hbm, 258, rfl⟩
abbrev main_while0b_v110 : Ref sig .tc := ⟨.hbm, 259, rfl⟩
abbrev main_while0b_v111 : Ref sig .tc := ⟨.hbm, 260, rfl⟩
abbrev main_while0b_v112 : Ref sig .tc := ⟨.hbm, 261, rfl⟩
abbrev main_while0b_call13_v0 : Ref sig .tc := ⟨.hbm, 262, rfl⟩
abbrev main_while0b_call13_v1 : Ref sig .tc := ⟨.hbm, 263, rfl⟩
abbrev main_while0b_call13_v2 : Ref sig .tc := ⟨.hbm, 264, rfl⟩
abbrev main_while0b_v113 : Ref sig .tc := ⟨.hbm, 265, rfl⟩
abbrev main_while0b_cst_46 : Ref sig .tc := ⟨.hbm, 266, rfl⟩
abbrev main_while0b_v114 : Ref sig .tc := ⟨.hbm, 267, rfl⟩
abbrev main_while0b_v115 : Ref sig .tc := ⟨.hbm, 268, rfl⟩
abbrev main_while0b_v116 : Ref sig .tc := ⟨.hbm, 269, rfl⟩
abbrev main_while0b_v117 : Ref sig .tc := ⟨.hbm, 270, rfl⟩
abbrev main_while0b_v118 : Ref sig .tc := ⟨.hbm, 271, rfl⟩
abbrev main_while0b_cst_47 : Ref sig .tc := ⟨.hbm, 272, rfl⟩
abbrev main_while0b_v119 : Ref sig .tc := ⟨.hbm, 273, rfl⟩
abbrev main_while0b_v120 : Ref sig .tc := ⟨.hbm, 274, rfl⟩
abbrev main_while0b_v121 : Ref sig .tc := ⟨.hbm, 275, rfl⟩
abbrev main_while0b_v122 : Ref sig .tc := ⟨.hbm, 276, rfl⟩
abbrev main_while0b_call14_v0 : Ref sig .tc := ⟨.hbm, 277, rfl⟩
abbrev main_while0b_call14_v1 : Ref sig .tc := ⟨.hbm, 278, rfl⟩
abbrev main_while0b_call14_v2 : Ref sig .tc := ⟨.hbm, 279, rfl⟩
abbrev main_while0b_v123 : Ref sig .tc := ⟨.hbm, 280, rfl⟩
abbrev main_while0b_cst_48 : Ref sig .tc := ⟨.hbm, 281, rfl⟩
abbrev main_while0b_v124 : Ref sig .tc := ⟨.hbm, 282, rfl⟩
abbrev main_while0b_v125 : Ref sig .tc := ⟨.hbm, 283, rfl⟩
abbrev main_while0b_v126 : Ref sig .tc := ⟨.hbm, 284, rfl⟩
abbrev main_while0b_v127 : Ref sig .tc := ⟨.hbm, 285, rfl⟩
abbrev main_while0b_v128 : Ref sig .tc := ⟨.hbm, 286, rfl⟩
abbrev main_while0b_v129 : Ref sig .tc := ⟨.hbm, 287, rfl⟩
abbrev main_while0b_v130 : Ref sig .tc := ⟨.hbm, 288, rfl⟩
abbrev main_while0b_v131 : Ref sig .tc := ⟨.hbm, 289, rfl⟩
abbrev main_while0b_v132 : Ref sig .tc := ⟨.hbm, 290, rfl⟩
abbrev main_while0b_v133 : Ref sig .tc := ⟨.hbm, 291, rfl⟩
abbrev main_while0b_v134 : Ref sig .tc := ⟨.hbm, 292, rfl⟩
abbrev main_while0b_v135 : Ref sig .tc := ⟨.hbm, 293, rfl⟩
abbrev main_while0b_v136 : Ref sig .tc := ⟨.hbm, 294, rfl⟩
abbrev main_while0b_v137 : Ref sig .tc := ⟨.hbm, 295, rfl⟩
abbrev main_while0b_v138 : Ref sig .tc := ⟨.hbm, 296, rfl⟩
abbrev main_while0b_v139 : Ref sig .tc := ⟨.hbm, 297, rfl⟩
abbrev main_while0b_v140 : Ref sig .tc := ⟨.hbm, 298, rfl⟩
abbrev main_while0b_v141 : Ref sig .tc := ⟨.hbm, 299, rfl⟩
abbrev main_while0b_v142 : Ref sig .tc := ⟨.hbm, 300, rfl⟩
abbrev main_while0b_v143 : Ref sig .tc := ⟨.hbm, 301, rfl⟩
abbrev main_while0b_v144 : Ref sig .tc := ⟨.hbm, 302, rfl⟩
abbrev main_while0b_v145 : Ref sig .tc := ⟨.hbm, 303, rfl⟩
abbrev main_while0b_v146 : Ref sig .tc := ⟨.hbm, 304, rfl⟩
abbrev main_while0b_v147 : Ref sig .tc := ⟨.hbm, 305, rfl⟩
abbrev main_while0b_v148 : Ref sig .tc := ⟨.hbm, 306, rfl⟩
abbrev main_while0b_v149 : Ref sig .tc := ⟨.hbm, 307, rfl⟩
abbrev main_while0b_v150 : Ref sig .tc := ⟨.hbm, 308, rfl⟩
abbrev main_while0b_v151 : Ref sig .tc := ⟨.hbm, 309, rfl⟩
abbrev main_while0b_v152 : Ref sig .tc := ⟨.hbm, 310, rfl⟩
abbrev main_while0b_v153 : Ref sig .tc := ⟨.hbm, 311, rfl⟩
abbrev main_while0b_v154 : Ref sig .tc := ⟨.hbm, 312, rfl⟩
abbrev main_while0b_v155 : Ref sig .tc := ⟨.hbm, 313, rfl⟩
abbrev main_while0b_v156 : Ref sig .tc := ⟨.hbm, 314, rfl⟩
abbrev main_while0b_v157 : Ref sig .tc := ⟨.hbm, 315, rfl⟩
abbrev main_while0b_v158 : Ref sig .tc := ⟨.hbm, 316, rfl⟩
abbrev main_while0b_v159 : Ref sig .tc := ⟨.hbm, 317, rfl⟩
abbrev main_while0b_v160 : Ref sig .tc := ⟨.hbm, 318, rfl⟩
abbrev main_while0b_v161 : Ref sig .tc := ⟨.hbm, 319, rfl⟩
abbrev main_while0b_v162 : Ref sig .tc := ⟨.hbm, 320, rfl⟩
abbrev main_while0b_v163 : Ref sig .tc := ⟨.hbm, 321, rfl⟩
abbrev main_while0b_v164 : Ref sig .tc := ⟨.hbm, 322, rfl⟩
abbrev main_while0b_v165 : Ref sig .tc := ⟨.hbm, 323, rfl⟩
abbrev main_while0b_v166 : Ref sig .tc := ⟨.hbm, 324, rfl⟩
abbrev main_while0b_v167 : Ref sig .tc := ⟨.hbm, 325, rfl⟩
abbrev main_while0b_v168 : Ref sig .tc := ⟨.hbm, 326, rfl⟩
abbrev main_while0b_v169 : Ref sig .tc := ⟨.hbm, 327, rfl⟩
abbrev main_while0b_v170 : Ref sig .tc := ⟨.hbm, 328, rfl⟩
abbrev main_while0b_v171 : Ref sig .tc := ⟨.hbm, 329, rfl⟩
abbrev main_while0b_v172 : Ref sig .tc := ⟨.hbm, 330, rfl⟩
abbrev main_while0b_v173 : Ref sig .tc := ⟨.hbm, 331, rfl⟩
abbrev main_while0b_v174 : Ref sig .tc := ⟨.hbm, 332, rfl⟩
abbrev main_while0b_v175 : Ref sig .tc := ⟨.hbm, 333, rfl⟩
abbrev main_while0b_cst_49 : Ref sig .tc := ⟨.hbm, 334, rfl⟩
abbrev main_while0b_v176 : Ref sig .tc := ⟨.hbm, 335, rfl⟩
abbrev main_while0b_v177 : Ref sig .tc := ⟨.hbm, 336, rfl⟩
abbrev main_while0b_v178 : Ref sig .tc := ⟨.hbm, 337, rfl⟩
abbrev main_while0b_v179 : Ref sig .tc := ⟨.hbm, 338, rfl⟩
abbrev main_while0b_v180 : Ref sig .tc := ⟨.hbm, 339, rfl⟩
abbrev main_while0b_cst_50 : Ref sig .tc := ⟨.hbm, 340, rfl⟩
abbrev main_while0b_v181 : Ref sig .tc := ⟨.hbm, 341, rfl⟩
abbrev main_while0b_v182 : Ref sig .tc := ⟨.hbm, 342, rfl⟩
abbrev main_while0b_v183 : Ref sig .tc := ⟨.hbm, 343, rfl⟩
abbrev main_while0b_v184 : Ref sig .tc := ⟨.hbm, 344, rfl⟩
abbrev main_while0b_v185 : Ref sig .tc := ⟨.hbm, 345, rfl⟩
abbrev main_while0b_v186 : Ref sig .tc := ⟨.hbm, 346, rfl⟩
abbrev main_while0b_cst_51 : Ref sig .tc := ⟨.hbm, 347, rfl⟩
abbrev main_while0b_v187 : Ref sig .tc := ⟨.hbm, 348, rfl⟩
abbrev main_while0b_v188 : Ref sig .tc := ⟨.hbm, 349, rfl⟩
abbrev main_while0b_v189 : Ref sig .tc := ⟨.hbm, 350, rfl⟩
abbrev main_while0b_v190 : Ref sig .tc := ⟨.hbm, 351, rfl⟩
abbrev main_while0b_v191 : Ref sig .tc := ⟨.hbm, 352, rfl⟩
abbrev main_while0b_cst_52 : Ref sig .tc := ⟨.hbm, 353, rfl⟩
abbrev main_while0b_v192 : Ref sig .tc := ⟨.hbm, 354, rfl⟩
abbrev main_while0b_v193 : Ref sig .tc := ⟨.hbm, 355, rfl⟩
abbrev main_while0b_v194 : Ref sig .tc := ⟨.hbm, 356, rfl⟩
abbrev main_while0b_v195 : Ref sig .tc := ⟨.hbm, 357, rfl⟩
abbrev main_while0b_v196 : Ref sig .tc := ⟨.hbm, 358, rfl⟩
abbrev main_while0b_v197 : Ref sig .tc := ⟨.hbm, 359, rfl⟩
abbrev main_while0b_cst_53 : Ref sig .tc := ⟨.hbm, 360, rfl⟩
abbrev main_while0b_v198 : Ref sig .tc := ⟨.hbm, 361, rfl⟩
abbrev main_while0b_v199 : Ref sig .tc := ⟨.hbm, 362, rfl⟩
abbrev main_while0b_v200 : Ref sig .tc := ⟨.hbm, 363, rfl⟩
abbrev main_while0b_v201 : Ref sig .tc := ⟨.hbm, 364, rfl⟩
abbrev main_while0b_v202 : Ref sig .tc := ⟨.hbm, 365, rfl⟩
abbrev main_while0b_cst_54 : Ref sig .tc := ⟨.hbm, 366, rfl⟩
abbrev main_while0b_v203 : Ref sig .tc := ⟨.hbm, 367, rfl⟩
abbrev main_while0b_v204 : Ref sig .tc := ⟨.hbm, 368, rfl⟩
abbrev main_while0b_v205 : Ref sig .tc := ⟨.hbm, 369, rfl⟩
abbrev main_while0b_v206 : Ref sig .tc := ⟨.hbm, 370, rfl⟩
abbrev main_while0b_v207 : Ref sig .tc := ⟨.hbm, 371, rfl⟩
abbrev main_while0b_v208 : Ref sig .tc := ⟨.hbm, 372, rfl⟩
abbrev main_while0b_cst_55 : Ref sig .tc := ⟨.hbm, 373, rfl⟩
abbrev main_while0b_v209 : Ref sig .tc := ⟨.hbm, 374, rfl⟩
abbrev main_while0b_v210 : Ref sig .tc := ⟨.hbm, 375, rfl⟩
abbrev main_while0b_v211 : Ref sig .tc := ⟨.hbm, 376, rfl⟩
abbrev main_while0b_v212 : Ref sig .tc := ⟨.hbm, 377, rfl⟩
abbrev main_while0b_v213 : Ref sig .tc := ⟨.hbm, 378, rfl⟩
abbrev main_while0b_cst_56 : Ref sig .tc := ⟨.hbm, 379, rfl⟩
abbrev main_while0b_v214 : Ref sig .tc := ⟨.hbm, 380, rfl⟩
abbrev main_while0b_v215 : Ref sig .tc := ⟨.hbm, 381, rfl⟩
abbrev main_while0b_v216 : Ref sig .tc := ⟨.hbm, 382, rfl⟩
abbrev main_while0b_v217 : Ref sig .tc := ⟨.hbm, 383, rfl⟩
abbrev main_while0b_v218 : Ref sig .tc := ⟨.hbm, 384, rfl⟩
abbrev main_while0b_v219 : Ref sig .tc := ⟨.hbm, 385, rfl⟩
abbrev main_while0b_v220 : Ref sig .tc := ⟨.hbm, 386, rfl⟩
abbrev main_while0b_v221 : Ref sig .tc := ⟨.hbm, 387, rfl⟩
abbrev main_while0b_v222 : Ref sig .tc := ⟨.hbm, 388, rfl⟩
abbrev main_while0b_call15_v0 : Ref sig .tc := ⟨.hbm, 389, rfl⟩
abbrev main_while0b_call15_v1 : Ref sig .tc := ⟨.hbm, 390, rfl⟩
abbrev main_while0b_call15_cst : Ref sig .tc := ⟨.hbm, 391, rfl⟩
abbrev main_while0b_call15_v2 : Ref sig .tc := ⟨.hbm, 392, rfl⟩
abbrev main_while0b_call15_v3 : Ref sig .tc := ⟨.hbm, 393, rfl⟩
abbrev main_while0b_call15_cst_0 : Ref sig .tc := ⟨.hbm, 394, rfl⟩
abbrev main_while0b_call15_v4 : Ref sig .tc := ⟨.hbm, 395, rfl⟩
abbrev main_while0b_call15_v5 : Ref sig .tc := ⟨.hbm, 396, rfl⟩
abbrev main_while0b_v223 : Ref sig .tc := ⟨.hbm, 397, rfl⟩
abbrev main_while0b_v224 : Ref sig .tc := ⟨.hbm, 398, rfl⟩
abbrev main_while0b_v225 : Ref sig .tc := ⟨.hbm, 399, rfl⟩
abbrev main_while0b_v226 : Ref sig .tc := ⟨.hbm, 400, rfl⟩
abbrev main_while0b_v227 : Ref sig .tc := ⟨.hbm, 401, rfl⟩
abbrev main_while0b_v228 : Ref sig .tc := ⟨.hbm, 402, rfl⟩
abbrev main_while0b_v229 : Ref sig .tc := ⟨.hbm, 403, rfl⟩
abbrev main_while0b_v230 : Ref sig .tc := ⟨.hbm, 404, rfl⟩
abbrev main_while0b_call16_v0 : Ref sig .tc := ⟨.hbm, 405, rfl⟩
abbrev main_while0b_call16_v1 : Ref sig .tc := ⟨.hbm, 406, rfl⟩
abbrev main_while0b_call16_cst : Ref sig .tc := ⟨.hbm, 407, rfl⟩
abbrev main_while0b_call16_v2 : Ref sig .tc := ⟨.hbm, 408, rfl⟩
abbrev main_while0b_call16_v3 : Ref sig .tc := ⟨.hbm, 409, rfl⟩
abbrev main_while0b_call16_cst_0 : Ref sig .tc := ⟨.hbm, 410, rfl⟩
abbrev main_while0b_call16_v4 : Ref sig .tc := ⟨.hbm, 411, rfl⟩
abbrev main_while0b_call16_v5 : Ref sig .tc := ⟨.hbm, 412, rfl⟩
abbrev main_while0b_v231 : Ref sig .tc := ⟨.hbm, 413, rfl⟩
abbrev main_while0b_v232 : Ref sig .tc := ⟨.hbm, 414, rfl⟩
abbrev main_while0b_v233 : Ref sig .tc := ⟨.hbm, 415, rfl⟩
abbrev main_while0b_v234 : Ref sig .tc := ⟨.hbm, 416, rfl⟩
abbrev main_while0b_v235 : Ref sig .tc := ⟨.hbm, 417, rfl⟩
abbrev main_while0b_v236 : Ref sig .tc := ⟨.hbm, 418, rfl⟩
abbrev main_while0b_call17_v0 : Ref sig .tc := ⟨.hbm, 419, rfl⟩
abbrev main_while0b_call17_c : Ref sig .tc := ⟨.hbm, 420, rfl⟩
abbrev main_while0b_call17_c_0 : Ref sig .tc := ⟨.hbm, 421, rfl⟩
abbrev main_while0b_v237 : Ref sig .tc := ⟨.hbm, 422, rfl⟩
abbrev main_while0b_c_57 : Ref sig .tc := ⟨.hbm, 423, rfl⟩
abbrev main_while0b_v238 : Ref sig .tc := ⟨.hbm, 424, rfl⟩
abbrev main_v72 : Ref sig .tc := ⟨.hbm, 425, rfl⟩

abbrev nD : Nat := 1
abbrev τ : Topo := Topo.v7x

variable {F : FTy → Type} [FloatOps F]

abbrev main_while0_count : Scf.Loop 32 := ⟨0#32, 256#32, 1#32⟩
-- ==== Proof.Mem.lean ====
/-
  Straight-line programs over a fixed family of memory buffers.

  A program here only loads rectangles of the buffers and stores rectangles into them. Such a program has two
  readings: `interp` is the machine's program, with the memrefs put in for the buffers, and `run` is the plain
  function that maps the buffers' contents before the program to its result and their contents after it.
  `wp_interp` says that the machine's program does what `run` says.
-/
module

public import Idealize.ShloMosaic.Lib.Tactic
public import Idealize.ShloMosaic.Lib.Scf
public import Idealize.ShloMosaic.Lib.Memref
public import Idealize.ShloMosaic.Lib.Pipeline.Frame

@[expose] public section

noncomputable section

namespace Cert.Proof.Mem

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- One memory operation on the buffers `ι` of shapes `sh` with elements `V`. -/
inductive MemEff (ι : Type) (sh : ι → Shape) (V : Type) : Type → Type where
  /-- Load a rectangle of a buffer. -/
  | ld (f : ι) (r : Rect (sh f)) (h : 0 < r.shape.numel) : MemEff ι sh V (r.shape.Idx → V)
  /-- Store into a rectangle of a buffer. -/
  | st (f : ι) (r : Rect (sh f)) (h : 0 < r.shape.numel) (w : r.shape.Idx → V) : MemEff ι sh V PUnit

/-- The buffers' contents. -/
abbrev State (ι : Type) (sh : ι → Shape) (V : Type) : Type := (f : ι) → (sh f).Idx → V

/-- The contents with the rectangle `r` overwritten by `w`. -/
def put {s : Shape} {V : Type} (r : Rect s) (w : r.shape.Idx → V) (X : s.Idx → V) : s.Idx → V := fun i =>
  match preimage? r.emb i with
  | some j => w j
  | none => X i

theorem put_emb {s : Shape} {V : Type} (r : Rect s) (w : r.shape.Idx → V) (X : s.Idx → V) (j : r.shape.Idx) :
    put r w X (r.emb j) = w j := by simp [put, preimage?_emb]

theorem put_of_ne {s : Shape} {V : Type} (r : Rect s) (w : r.shape.Idx → V) (X : s.Idx → V) (i : s.Idx)
    (h : ∀ j, r.emb j ≠ i) : put r w X i = X i := by simp [put, preimage?_eq_none h]

section

variable {ι : Type} [DecidableEq ι] {sh : ι → Shape} {V : Type} {α β σ : Type}

/-- The result of a program and the contents it leaves. -/
def run (p : Prog (MemEff ι sh V) α) : State ι sh V → α × State ι sh V :=
  Prog.rec (motive := fun _ => State ι sh V → α × State ι sh V)
    (fun a S => (a, S))
    (fun e _ ih => MemEff.rec (motive := fun β _ => (β → State ι sh V → α × State ι sh V) → State ι sh V → α × State ι sh V)
      (fun f r _ ih S => ih (fun j => S f (r.emb j)) S)
      (fun f r _ w ih S => ih ⟨⟩ (Function.update S f (put r w (S f)))) e ih) p

@[simp] theorem run_ret (a : α) (S : State ι sh V) : run (.ret a) S = (a, S) := rfl
@[simp] theorem run_pure (a : α) (S : State ι sh V) : run (pure a) S = (a, S) := rfl
@[simp] theorem run_ld (f : ι) (r : Rect (sh f)) (h) (k : _ → Prog (MemEff ι sh V) α) (S : State ι sh V) :
    run (.op (.ld f r h) k) S = run (k fun j => S f (r.emb j)) S := rfl
@[simp] theorem run_st (f : ι) (r : Rect (sh f)) (h w) (k : _ → Prog (MemEff ι sh V) α) (S : State ι sh V) :
    run (.op (.st f r h w) k) S = run (k ⟨⟩) (Function.update S f (put r w (S f))) := rfl

theorem run_bind (p : Prog (MemEff ι sh V) α) (k : α → Prog (MemEff ι sh V) β) (S : State ι sh V) :
    run (p >>= k) S = run (k (run p S).1) (run p S).2 := by
  induction p generalizing S with
  | ret a => rfl
  | op e c ih => cases e <;> exact ih _ _

/-- A loop's result and contents: its trips in order. -/
theorem run_forFrom {n : Nat} (body : Fin n → σ → Prog (MemEff ι sh V) σ) (ks : List (Fin n)) (a : σ) (S : State ι sh V) :
    run (Scf.forFrom body ks a) S = ks.foldl (fun x k => run (body k x.1) x.2) (a, S) := by
  induction ks generalizing a S with
  | nil => rfl
  | cons k ks ih => rw [Scf.forFrom_cons, run_bind, ih]; rfl

theorem run_for {w : Nat} (l : Scf.Loop w) (hok : l.OK) (a : σ) (body : Fin l.trips → σ → Prog (MemEff ι sh V) σ)
    (S : State ι sh V) :
    run (Scf.Loop.for l hok a body) S = (List.finRange l.trips).foldl (fun x k => run (body k x.1) x.2) (a, S) := by
  unfold Scf.Loop.for; rw [Scf.for_eq, run_forFrom]

end

section

variable {nD : Nat} {τ : Topo} {sig : RefSig} {Val : EltTy → Type} {Λ : Labels}
variable {ι : Type} {sh : ι → Shape} {α β σ : Type}

/-- The machine's program: the memrefs `mr` put in for the buffers. -/
def interp (mr : (f : ι) → Memref sig .tc .vmem (sh f) .f32) (p : Prog (MemEff ι sh (Val .f32)) α) :
    Prog (TpuEff nD τ sig Val Λ .tc) α :=
  Prog.rec (motive := fun _ => Prog (TpuEff nD τ sig Val Λ .tc) α)
    (fun a => .ret a)
    (fun e _ ih => MemEff.rec (motive := fun β _ => (β → Prog (TpuEff nD τ sig Val Λ .tc) α) → Prog (TpuEff nD τ sig Val Λ .tc) α)
      (fun f r h ih => .op (.load (mr f) r.toLoadRect (View.loadsAt_vmem h)) ih)
      (fun f r h w ih => .op (.store (mr f) r w Finset.univ (View.stores_vmem_bits_univ h rfl) (.inl rfl)) ih) e ih) p

variable (mr : (f : ι) → Memref sig .tc .vmem (sh f) .f32)

theorem interp_bind (p : Prog (MemEff ι sh (Val .f32)) α) (k : α → Prog (MemEff ι sh (Val .f32)) β) :
    (interp mr (p >>= k) : Prog (TpuEff nD τ sig Val Λ .tc) β) = interp mr p >>= fun a => interp mr (k a) := by
  induction p with
  | ret a => rfl
  | op e c ih => cases e with
    | ld f r h => exact congrArg (Prog.op _) (funext fun x => ih x)
    | st f r h w => exact congrArg (Prog.op _) (funext fun x => ih x)

theorem interp_forFrom {n : Nat} (body : Fin n → σ → Prog (MemEff ι sh (Val .f32)) σ) (ks : List (Fin n)) (a : σ) :
    (interp mr (Scf.forFrom body ks a) : Prog (TpuEff nD τ sig Val Λ .tc) σ)
      = Scf.forFrom (fun k a => interp mr (body k a)) ks a := by
  induction ks generalizing a with
  | nil => rfl
  | cons k ks ih => rw [Scf.forFrom_cons, interp_bind, Scf.forFrom_cons]; exact congrArg _ (funext fun x => ih x)

theorem interp_for {w : Nat} (l : Scf.Loop w) (hok : l.OK) (a : σ)
    (body : Fin l.trips → σ → Prog (MemEff ι sh (Val .f32)) σ) :
    (interp mr (Scf.Loop.for l hok a body) : Prog (TpuEff nD τ sig Val Λ .tc) σ)
      = Scf.Loop.for l hok a (fun k a => interp mr (body k a)) := by
  unfold Scf.Loop.for; rw [Scf.for_eq, Scf.for_eq, interp_forFrom]

end

section

variable {nD : Nat} {τ : Topo} {sig : RefSig} {Val : EltTy → Type} {Λ : Labels}

/-- What a whole store through a rectangle of a memref leaves, read through the memref. -/
theorem read_write {s : Shape} (m : Memref sig .tc .vmem s .f32) (r : Rect s) (f : m.view.ty.Contents Val)
    (w : r.shape.Idx → Val .f32) :
    m.view.read Val ((m.access r).write Val f w Finset.univ) = put r w (m.view.read Val f) := by
  funext i
  by_cases h : ∃ j, r.emb j = i
  · obtain ⟨j, rfl⟩ := h
    rw [put_emb]; exact View.read_slice_write_emb r f w (Finset.mem_univ j)
  · rw [put_of_ne r w _ i fun j hj => h ⟨j, hj⟩]
    exact View.read_slice_write_of_not_mem r f w _ (by simpa using fun j hj => h ⟨j, hj⟩)

variable {ι : Type} [Fintype ι] [DecidableEq ι] {sh : ι → Shape} {α : Type}
variable {Ix : Type} [DecidableEq Ix] {Name : Type} [DecidableEq Name] {U : Type} [URA U] {Lvl : Type} [Preorder Lvl]

local notation "𝕄" => MT nD τ sig Ix Val Name U Lvl

/-- A load through an owned memref: it yields the rectangle of the contents. -/
theorem wp_ld (defs : Defs nD τ sig Val Λ) (𝒱 : Variants) (c : Dev nD) {s : Shape}
    (m : Memref sig .tc .vmem s .f32) (r : Rect s) (h) (E : Set Name) (Q : α → sProp 𝕄)
    (k : (r.shape.Idx → Val .f32) → Prog (TpuEff nD τ sig Val Λ .tc) α) (X : s.Idx → Val .f32) :
    owns (c : Thread nD τ) m fullShare X
      ⊢ iprop((owns (c : Thread nD τ) m fullShare X -∗ wp frame (wpE defs 𝒱 (c : Thread nD τ) none) E (k fun j => X (r.emb j)) Q)
        -∗ wp frame (wpE defs 𝒱 (c : Thread nD τ) none) E (.op (.load m r.toLoadRect h) k) Q) := by
  unfold owns
  iintro ⟨%f, %hf, H⟩ Hk
  subst hf
  have hS : (m.access r).set ⊆ m.view.set := View.set_slice_subset _ _
  iapply (wp_load_rect (defs := defs) 𝒱 (c : Thread nD τ) none E (Q := Q) (m := m) (r := r) (hl := h) (k := k) (f := f) hS) $$ H
  iintro H
  iapply Hk
  iexists f; isplitr; · ipureintro; rfl
  iexact H

/-- A store through an owned memref. -/
theorem wp_st (defs : Defs nD τ sig Val Λ) (𝒱 : Variants) (c : Dev nD) {s : Shape}
    (m : Memref sig .tc .vmem s .f32) (r : Rect s) (w : r.shape.Idx → Val .f32) (hx hm) (E : Set Name) (Q : α → sProp 𝕄)
    (k : PUnit → Prog (TpuEff nD τ sig Val Λ .tc) α) (X : s.Idx → Val .f32) :
    owns (c : Thread nD τ) m fullShare X
      ⊢ iprop((owns (c : Thread nD τ) m fullShare (put r w X) -∗ wp frame (wpE defs 𝒱 (c : Thread nD τ) none) E (k ⟨⟩) Q)
        -∗ wp frame (wpE defs 𝒱 (c : Thread nD τ) none) E (.op (.store m r w Finset.univ hx hm) k) Q) := by
  unfold owns
  iintro ⟨%f, %hf, H⟩ Hk
  subst hf
  have hS : (m.access r).setOn Finset.univ ⊆ m.view.set := View.set_slice_subset _ _
  iapply (wp_store (defs := defs) 𝒱 (c : Thread nD τ) none E (Q := Q) (m := m) (r := r) (w := w) (Mk := Finset.univ) (hx := hx) (hm := hm) (k := k) (f := f) hS) $$ H
  iintro H
  iapply Hk
  iexists ((m.access r).write Val f w Finset.univ); isplitr; · ipureintro; exact read_write m r f w
  iexact H

/-- All the buffers, at contents `S`. -/
def ownsAll (c : Dev nD) (mr : (f : ι) → Memref sig .tc .vmem (sh f) .f32) (S : State ι sh (Val .f32)) : sProp 𝕄 :=
  bigSep Finset.univ fun f => owns (c : Thread nD τ) (mr f) fullShare (S f)

theorem ownsAll_split (c : Dev nD) (mr : (f : ι) → Memref sig .tc .vmem (sh f) .f32) (S : State ι sh (Val .f32)) (f : ι) :
    (ownsAll c mr S : sProp 𝕄) = iprop(owns (c : Thread nD τ) (mr f) fullShare (S f)
      ∗ bigSep (Finset.univ.erase f) fun f => owns (c : Thread nD τ) (mr f) fullShare (S f)) :=
  bigSep_univ_split f

theorem ownsAll_update (c : Dev nD) (mr : (f : ι) → Memref sig .tc .vmem (sh f) .f32) (S : State ι sh (Val .f32)) (f : ι)
    (X : (sh f).Idx → Val .f32) :
    (ownsAll c mr (Function.update S f X) : sProp 𝕄) = iprop(owns (c : Thread nD τ) (mr f) fullShare X
      ∗ bigSep (Finset.univ.erase f) fun f => owns (c : Thread nD τ) (mr f) fullShare (S f)) := by
  rw [ownsAll_split c mr _ f, Function.update_self]
  congr 1
  exact bigSep_congr fun g hg => by rw [Function.update_of_ne (Finset.ne_of_mem_erase hg)]

/-- The machine's program does what `run` says. -/
theorem wp_interp (defs : Defs nD τ sig Val Λ) (𝒱 : Variants) (c : Dev nD)
    (mr : (f : ι) → Memref sig .tc .vmem (sh f) .f32) (E : Set Name) (Q : α → sProp 𝕄)
    (p : Prog (MemEff ι sh (Val .f32)) α) (S : State ι sh (Val .f32)) :
    iprop(ownsAll c mr S ∗ (ownsAll c mr (run p S).2 -∗ Q (run p S).1))
      ⊢ wp frame (wpE defs 𝒱 (c : Thread nD τ) none) E (interp mr p) Q := by
  induction p generalizing S with
  | ret a =>
    refine BIBase.Entails.trans ?_ (le_wp_ret _ _ _ _ _)
    change iprop(ownsAll c mr S ∗ (ownsAll c mr S -∗ Q a)) ⊢ Q a
    iintro ⟨H, Hk⟩
    iapply Hk; iexact H
  | op e k ih => cases e with
    | ld f r h =>
      have hk := ih (fun j => S f (r.emb j)) S
      change iprop(ownsAll c mr S ∗ (ownsAll c mr (run (k fun j => S f (r.emb j)) S).2 -∗ Q (run (k fun j => S f (r.emb j)) S).1))
        ⊢ wp frame (wpE defs 𝒱 (c : Thread nD τ) none) E
          (.op (.load (mr f) r.toLoadRect (View.loadsAt_vmem h)) fun x => interp mr (k x)) Q
      iintro ⟨H, Hk⟩
      ihave ⟨Hf, Hr⟩ := (BIBase.Entails.of_eq (ownsAll_split c mr S f)) $$ H
      iapply (wp_ld defs 𝒱 c (mr f) r _ E Q _ (S f)) $$ Hf
      iintro Hf
      iapply hk
      isplitr [Hk]
      · iapply (BIBase.Entails.of_eq (ownsAll_split c mr S f).symm)
        isplitl [Hf]; · iexact Hf
        iexact Hr
      iexact Hk
    | st f r h w =>
      have hk := ih ⟨⟩ (Function.update S f (put r w (S f)))
      change iprop(ownsAll c mr S ∗ (ownsAll c mr (run (k ⟨⟩) (Function.update S f (put r w (S f)))).2
          -∗ Q (run (k ⟨⟩) (Function.update S f (put r w (S f)))).1))
        ⊢ wp frame (wpE defs 𝒱 (c : Thread nD τ) none) E
          (.op (.store (mr f) r w Finset.univ (View.stores_vmem_bits_univ h rfl) (.inl rfl)) fun x => interp mr (k x)) Q
      iintro ⟨H, Hk⟩
      ihave ⟨Hf, Hr⟩ := (BIBase.Entails.of_eq (ownsAll_split c mr S f)) $$ H
      iapply (wp_st defs 𝒱 c (mr f) r w _ _ E Q _ (S f)) $$ Hf
      iintro Hf
      iapply hk
      isplitr [Hk]
      · iapply (BIBase.Entails.of_eq (ownsAll_update c mr S f _).symm)
        isplitl [Hf]; · iexact Hf
        iexact Hr
      iexact Hk

end

end Cert.Proof.Mem
-- ==== Proof.Tile.lean ====
/-
  What one step computes on tiles: the memory network's forward pass, the gradients of its loss, the update of
  momenta and weights, and the forward pass of the updated network on two rows at once.
-/
module

public import proofs.«01_k».proof.Proof.Gen.KernelIdeal

@[expose] public section

noncomputable section

namespace Cert.Proof

open Cert.KernelIdeal Cert.KernelIdeal.Gen
open Idealize.ShloMosaic Idealize.SL.Sem

variable {F : FTy → Type} [FloatOps F]

/-- The original weights of the two blocks. -/
structure Wts (F : FTy → Type) where
  w1a : Vec F S128x256 .f32
  b1a : FVec F S1x256 .f32
  w2a : Vec F S256x128 .f32
  b2a : FVec F S1x128 .f32
  w1b : Vec F S128x256 .f32
  b1b : FVec F S1x256 .f32
  w2b : Vec F S256x128 .f32
  b2b : FVec F S1x128 .f32

/-- What the forward pass of one token leaves for the backward pass. -/
structure Car (F : FTy → Type) where
  s1 : FVec F S1x256 .f32
  d1 : FVec F S1x256 .f32
  h1 : FVec F S1x128 .f32
  s2 : FVec F S1x256 .f32
  d2 : FVec F S1x256 .f32
  h2 : FVec F S1x128 .f32

/-- The value 1 in every place. -/
abbrev ones (s : Shape) : FVec F s .f32 := broadcast s (Scalar.ofBits .f32 0x3F800000#32)

/-- `x · σ(x)`. -/
def act {s : Shape} (x : FVec F s .f32) : FVec F s .f32 := mulf x (logistic x)
/-- The derivative of `x · σ(x)`. -/
def dact {s : Shape} (x : FVec F s .f32) : FVec F s .f32 :=
  mulf (logistic x) (addf (ones s) (mulf x (subf (ones s) (logistic x))))

/-- The forward pass of one token through the original network. -/
def fwd1 (w : Wts F) (kt : FVec F S1x128 .f32) : Car F :=
  have p1 : FVec F S1x256 .f32 := addf (matmul dot_S1x128_S128x256_S1x256_1_0_0_1_n_n none kt w.w1a (constant S1x256 .f32 0x00000000#32)) w.b1a
  have h1 : FVec F S1x128 .f32 := addf (addf kt (matmul dot_S1x256_S256x128_S1x128_1_0_0_1_n_n none (act p1) w.w2a (constant S1x128 .f32 0x00000000#32))) w.b2a
  have p2 : FVec F S1x256 .f32 := addf (matmul dot_S1x128_S128x256_S1x256_1_0_0_1_n_n none h1 w.w1b (constant S1x256 .f32 0x00000000#32)) w.b1b
  have h2 : FVec F S1x128 .f32 := addf (addf h1 (matmul dot_S1x256_S256x128_S1x128_1_0_0_1_n_n none (act p2) w.w2b (constant S1x128 .f32 0x00000000#32))) w.b2b
  ⟨act p1, dact p1, h1, act p2, dact p2, h2⟩

/-- The gradients of the loss. -/
structure Grad (F : FTy → Type) where
  w1a : FVec F S128x256 .f32
  b1a : FVec F S1x256 .f32
  w2a : FVec F S256x128 .f32
  b2a : FVec F S1x128 .f32
  w1b : FVec F S128x256 .f32
  b1b : FVec F S1x256 .f32
  w2b : FVec F S256x128 .f32
  b2b : FVec F S1x128 .f32

/-- The backward pass of one token: the gradients, from the forward pass and the current weights. -/
def bwd (c : Car F) (kt vt : FVec F S1x128 .f32) (w1b : FVec F S128x256 .f32) (w2a w2b : FVec F S256x128 .f32) : Grad F :=
  have err : FVec F S1x128 .f32 := mulf (broadcast S1x128 (Scalar.ofBits .f32 0x3C800000#32)) (subf c.h2 vt)
  have da2 : FVec F S1x256 .f32 := mulf (matmul dot_S1x128_S256x128_S1x256_1_1_0_0_n_n none err w2b (constant S1x256 .f32 0x00000000#32)) c.d2
  have dh1 : FVec F S1x128 .f32 := addf err (matmul dot_S1x256_S128x256_S1x128_1_1_0_0_n_n none da2 w1b (constant S1x128 .f32 0x00000000#32))
  have da1 : FVec F S1x256 .f32 := mulf (matmul dot_S1x128_S256x128_S1x256_1_1_0_0_n_n none dh1 w2a (constant S1x256 .f32 0x00000000#32)) c.d1
  { w2b := matmul dot_S1x256_S1x128_S256x128_0_0_1_1_n_n none c.s2 err (constant S256x128 .f32 0x00000000#32)
    b2b := err
    w1b := matmul dot_S1x128_S1x256_S128x256_0_0_1_1_n_n none c.h1 da2 (constant S128x256 .f32 0x00000000#32)
    b1b := da2
    w2a := matmul dot_S1x256_S1x128_S256x128_0_0_1_1_n_n none c.s1 dh1 (constant S256x128 .f32 0x00000000#32)
    b2a := dh1
    w1a := matmul dot_S1x128_S1x256_S128x256_0_0_1_1_n_n none kt da1 (constant S128x256 .f32 0x00000000#32)
    b1a := da1 }

/-- A momentum's update `eta · m − theta · g`. -/
def mom {s : Shape} (hb : S1x1.Broadcasts s) (et th : FVec F S1x1 .f32) (m g : FVec F s .f32) : FVec F s .f32 :=
  subf (mulf (broadcastTo s et hb) m) (mulf (broadcastTo s th hb) g)

/-- A weight's update `p · (1 − alpha) + m`, `p` the original weight. -/
def par {s : Shape} (hb : S1x1.Broadcasts s) (oma : FVec F S1x1 .f32) (p m : FVec F s .f32) : FVec F s .f32 :=
  addf (mulf p (broadcastTo s oma hb)) m

/-- The momenta of one batch. -/
abbrev Moms := Grad

def moms (et th : FVec F S1x1 .f32) (m : Moms F) (g : Grad F) : Moms F where
  w1a := mom broadcasts_S1x1_S128x256 et th m.w1a g.w1a
  b1a := mom broadcasts_S1x1_S1x256 et th m.b1a g.b1a
  w2a := mom broadcasts_S1x1_S256x128 et th m.w2a g.w2a
  b2a := mom broadcasts_S1x1_S1x128 et th m.b2a g.b2a
  w1b := mom broadcasts_S1x1_S128x256 et th m.w1b g.w1b
  b1b := mom broadcasts_S1x1_S1x256 et th m.b1b g.b1b
  w2b := mom broadcasts_S1x1_S256x128 et th m.w2b g.w2b
  b2b := mom broadcasts_S1x1_S1x128 et th m.b2b g.b2b

/-- The weights past the first layer after the update; the first layer's are only ever used folded. -/
structure Pars (F : FTy → Type) where
  w2a : FVec F S256x128 .f32
  b2a : FVec F S1x128 .f32
  w1b : FVec F S128x256 .f32
  b1b : FVec F S1x256 .f32
  w2b : FVec F S256x128 .f32
  b2b : FVec F S1x128 .f32

def pars (oma : FVec F S1x1 .f32) (w : Wts F) (m : Moms F) : Pars F where
  w2a := par broadcasts_S1x1_S256x128 oma w.w2a m.w2a
  b2a := par broadcasts_S1x1_S1x128 oma w.b2a m.b2a
  w1b := par broadcasts_S1x1_S128x256 oma w.w1b m.w1b
  b1b := par broadcasts_S1x1_S1x256 oma w.b1b m.b1b
  w2b := par broadcasts_S1x1_S256x128 oma w.w2b m.w2b
  b2b := par broadcasts_S1x1_S1x128 oma w.b2b m.b2b

/-- The first layer's values before the activation, of the two rows `x2` under the updated weights, from the
    projections `p2` under the original ones and the momenta before the step. -/
def pre1 (b1a : FVec F S1x256 .f32) (oma th et : FVec F S1x1 .f32) (x2 : FVec F S2x128 .f32) (p2 : FVec F S2x256 .f32)
    (kt : FVec F S1x128 .f32) (mw1a : FVec F S128x256 .f32) (mb1a da1 : FVec F S1x256 .f32) : FVec F S2x256 .f32 :=
  have mx : FVec F S2x256 .f32 := matmul dot_S2x128_S128x256_S2x256_1_0_0_1_n_n none x2 mw1a (constant S2x256 .f32 0x00000000#32)
  have rr : FVec F S2x1 .f32 := shapeCast S2x1 (multiReduction .add [1] S2 (mulf x2 (broadcastTo S2x128 kt broadcasts_S1x128_S2x128)) 0x00000000#32 reduces_S2x128_S2 (.inl rfl) rfl) shapeCasts_S2_S2x1
  subf
    (addf (mulf (broadcastTo S2x256 oma broadcasts_S1x1_S2x256) (addf p2 (broadcastTo S2x256 b1a broadcasts_S1x256_S2x256)))
      (mulf (broadcastTo S2x256 et broadcasts_S1x1_S2x256) (addf mx (broadcastTo S2x256 mb1a broadcasts_S1x256_S2x256))))
    (mulf (broadcastTo S2x256 th broadcasts_S1x1_S2x256)
      (mulf (broadcastTo S2x256 (addf rr (ones S2x1)) broadcasts_S2x1_S2x256) (broadcastTo S2x256 da1 broadcasts_S1x256_S2x256)))

/-- The rows after the first block. -/
def blk1 (p : Pars F) (x2 : FVec F S2x128 .f32) (c1 : FVec F S2x256 .f32) : FVec F S2x128 .f32 :=
  addf (addf x2 (matmul dot_S2x256_S256x128_S2x128_1_0_0_1_n_n none (act c1) p.w2a (constant S2x128 .f32 0x00000000#32)))
    (broadcastTo S2x128 p.b2a broadcasts_S1x128_S2x128)

/-- The second block's values before the activation. -/
def pre2 (p : Pars F) (u1 : FVec F S2x128 .f32) : FVec F S2x256 .f32 :=
  addf (matmul dot_S2x128_S128x256_S2x256_1_0_0_1_n_n none u1 p.w1b (constant S2x256 .f32 0x00000000#32))
    (broadcastTo S2x256 p.b1b broadcasts_S1x256_S2x256)

/-- The rows after the second block. -/
def blk2 (p : Pars F) (u1 : FVec F S2x128 .f32) (c2 : FVec F S2x256 .f32) : FVec F S2x128 .f32 :=
  addf (addf u1 (matmul dot_S2x256_S256x128_S2x128_1_0_0_1_n_n none (act c2) p.w2b (constant S2x128 .f32 0x00000000#32)))
    (broadcastTo S2x128 p.b2b broadcasts_S1x128_S2x128)

/-- Row 0 of the result: the step's output. -/
def outRow (c1 : FVec F S2x256 .f32) (u1 : FVec F S2x128 .f32) (c2 : FVec F S2x256 .f32) (u2 : FVec F S2x128 .f32) : FVec F S1x128 .f32 :=
  extractStridedSlice S1x128 ![0, 0] u2 slices_S2x128_o0_0_S1x128

/-- Row 1 of each: the next token's forward pass. -/
def carRow (c1 : FVec F S2x256 .f32) (u1 : FVec F S2x128 .f32) (c2 : FVec F S2x256 .f32) (u2 : FVec F S2x128 .f32) : Car F where
  s1 := extractStridedSlice S1x256 ![1, 0] (act c1) slices_S2x256_o1_0_S1x256
  d1 := extractStridedSlice S1x256 ![1, 0] (dact c1) slices_S2x256_o1_0_S1x256
  h1 := extractStridedSlice S1x128 ![1, 0] u1 slices_S2x128_o1_0_S1x128
  s2 := extractStridedSlice S1x256 ![1, 0] (act c2) slices_S2x256_o1_0_S1x256
  d2 := extractStridedSlice S1x256 ![1, 0] (dact c2) slices_S2x256_o1_0_S1x256
  h2 := extractStridedSlice S1x128 ![1, 0] u2 slices_S2x128_o1_0_S1x128

/-! ## The projections of all tokens of one batch -/

/-- All four projections of a batch's tokens. -/
def proj (x : FVec F S256x128 .f32) (w : FVec F S128x512 .f32) (b : FVec F S1x512 .f32) : FVec F S256x512 .f32 :=
  addf (matmul dot_S256x128_S128x512_S256x512_1_0_0_1_n_n none x w (constant S256x512 .f32 0x00000000#32))
    (broadcastTo S256x512 b broadcasts_S1x512_S256x512)

/-- `x · σ(x)` with each row divided by its norm. -/
def unit (x : FVec F S256x128 .f32) : FVec F S256x128 .f32 :=
  divf (act x) (broadcastTo S256x128
    (maximumf (sqrt (shapeCast S256x1 (multiReduction .add [1] S256 (mulf (act x) (act x)) 0x00000000#32 reduces_S256x128_S256 (.inl rfl) rfl) shapeCasts_S256_S256x1))
      (broadcast S256x1 (Scalar.ofBits .f32 0x2B8CBCCC#32))) broadcasts_S256x1_S256x128)

/-- The tokens under the first layer's original weights. -/
def prj (q : FVec F S256x128 .f32) (w : FVec F S128x256 .f32) : FVec F S256x256 .f32 :=
  matmul dot_S256x128_S128x256_S256x256_1_0_0_1_n_n none q w (constant S256x256 .f32 0x00000000#32)

end Cert.Proof
-- ==== Proof.Prog.lean ====
/-
  The kernel, as a program over its buffers.
-/
module

public import proofs.«01_k».proof.Proof.Mem
public import proofs.«01_k».proof.Proof.Tile

@[expose] public section

noncomputable section

namespace Cert.Proof

open Cert.KernelIdeal Cert.KernelIdeal.Gen
open Idealize.ShloMosaic Idealize.SL.Sem
open Cert.Proof.Mem

variable {F : FTy → Type} [FloatOps F]

/-- The kernel's buffers: its operands, its result, its scratch. -/
inductive Fld
  | x | wbig | bbig | w1a | b1a | w2a | b2a | w1b | b1b | w2b | b2b
  | iw1a | ib1a | iw2a | ib2a | iw1b | ib1b | iw2b | ib2b
  | out
  | kr | vr | qr | gr | pq | pk
  | pw1b | pb1b | pw2 | pb2 | mw1 | mb1 | mw2 | mb2
  deriving DecidableEq

/-- All of them, in order. -/
def Fld.all : List Fld :=
  [.x, .wbig, .bbig, .w1a, .b1a, .w2a, .b2a, .w1b, .b1b, .w2b, .b2b,
   .iw1a, .ib1a, .iw2a, .ib2a, .iw1b, .ib1b, .iw2b, .ib2b, .out,
   .kr, .vr, .qr, .gr, .pq, .pk, .pw1b, .pb1b, .pw2, .pb2, .mw1, .mb1, .mw2, .mb2]

instance : Fintype Fld := ⟨⟨Fld.all, by decide⟩, by intro f; cases f <;> decide⟩

/-- Their shapes. -/
@[reducible] def sh : Fld → Shape
  | .x => S4x256x128 | .wbig => S128x512 | .bbig => S1x512
  | .w1a => S128x256 | .b1a => S1x256 | .w2a => S256x128 | .b2a => S1x128
  | .w1b => S128x256 | .b1b => S1x256 | .w2b => S256x128 | .b2b => S1x128
  | .iw1a => S128x256 | .ib1a => S1x256 | .iw2a => S256x128 | .ib2a => S1x128
  | .iw1b => S128x256 | .ib1b => S1x256 | .iw2b => S256x128 | .ib2b => S1x128
  | .out => S256x1x512
  | .kr => S257x1x512 | .vr => S256x1x512 | .qr => S256x1x512 | .gr => S256x1x512
  | .pq => S256x1x1024 | .pk => S257x1x1024
  | .pw1b => S4x1x128x256 | .pb1b => S4x1x1x256 | .pw2 => S4x2x256x128 | .pb2 => S4x2x1x128
  | .mw1 => S4x2x128x256 | .mb1 => S4x2x1x256 | .mw2 => S4x2x256x128 | .mb2 => S4x2x1x128

abbrev Eff (F : FTy → Type) : Type → Type := MemEff Fld sh (Elt F .f32)
abbrev M (F : FTy → Type) : Type → Type 1 := Prog (Eff F)
abbrev St (F : FTy → Type) : Type := State Fld sh (Elt F .f32)

/-- Load a rectangle. -/
abbrev ld (f : Fld) (r : Rect (sh f)) (h : 0 < r.shape.numel) : M F (r.shape.Idx → Elt F .f32) :=
  .op (.ld f r h) .ret
/-- Store into a rectangle, loading it first. -/
abbrev st (f : Fld) (r : Rect (sh f)) (h : 0 < r.shape.numel) (w : r.shape.Idx → Elt F .f32) : M F PUnit :=
  .op (.ld f r h) fun _ => .op (.st f r h w) .ret

/-! ## The rectangles -/

theorem inb4 {d1 d2 d3 : Nat} (b : Fin 4) (l : Fin d1) : ∀ a, (![b.val, l.val, 0, 0] : Fin 4 → Nat) a + (![1, 1, d2, d3] : Fin 4 → Nat) a ≤ (![4, d1, d2, d3] : Fin 4 → Nat) a := by
  intro a; fin_cases a <;> simp <;> omega

abbrev rW1 (b : Fin 4) (l : Fin 2) : Rect S4x2x128x256 := Rect.unit (s := S4x2x128x256) ![b.val, l.val, 0, 0] S1x1x128x256.size (inb4 b l)
abbrev rB1 (b : Fin 4) (l : Fin 2) : Rect S4x2x1x256 := Rect.unit (s := S4x2x1x256) ![b.val, l.val, 0, 0] S1x1x1x256.size (inb4 b l)
abbrev rW2 (b : Fin 4) (l : Fin 2) : Rect S4x2x256x128 := Rect.unit (s := S4x2x256x128) ![b.val, l.val, 0, 0] S1x1x256x128.size (inb4 b l)
abbrev rB2 (b : Fin 4) (l : Fin 2) : Rect S4x2x1x128 := Rect.unit (s := S4x2x1x128) ![b.val, l.val, 0, 0] S1x1x1x128.size (inb4 b l)
abbrev rV1 (b : Fin 4) : Rect S4x1x128x256 := Rect.unit (s := S4x1x128x256) ![b.val, 0, 0, 0] S1x1x128x256.size (inb4 b (0 : Fin 1))
abbrev rC1 (b : Fin 4) : Rect S4x1x1x256 := Rect.unit (s := S4x1x1x256) ![b.val, 0, 0, 0] S1x1x1x256.size (inb4 b (0 : Fin 1))

/-- A batch's columns of a row buffer, `w` columns to a batch: `n` rows from row `i`. -/
abbrev rCols (n m w i : Nat) (b : Fin 4) (h : i + n ≤ m) : Rect ⟨3, ![m, 1, 4 * w]⟩ :=
  Rect.unit (s := ⟨3, ![m, 1, 4 * w]⟩) ![i, 0, w * b.val] ![n, 1, w] (by
    have := b.isLt
    intro a; fin_cases a <;> simp
    · exact h
    · rw [← Nat.mul_succ, Nat.mul_comm 4 w]; exact Nat.mul_le_mul_left _ (by omega))

theorem slices128 (b : Fin 4) : S1x512.Slices ![0, 128 * b.val] S1x128 := by
  fin_cases b
  · exact slices_S1x512_o0_0_S1x128
  · exact slices_S1x512_o0_128_S1x128
  · exact slices_S1x512_o0_256_S1x128
  · exact slices_S1x512_o0_384_S1x128

theorem slices256 (b : Fin 4) : S1x1024.Slices ![0, 256 * b.val] S1x256 := by
  fin_cases b
  · exact slices_S1x1024_o0_0_S1x256
  · exact slices_S1x1024_o0_256_S1x256
  · exact slices_S1x1024_o0_512_S1x256
  · exact slices_S1x1024_o0_768_S1x256

theorem slicesTh (b : Fin 4) : S1x512.Slices ![0, 128 * b.val] S1x1 := by
  fin_cases b
  · exact slices_S1x512_o0_0_S1x1
  · exact slices_S1x512_o0_128_S1x1
  · exact slices_S1x512_o0_256_S1x1
  · exact slices_S1x512_o0_384_S1x1

theorem slicesAl (b : Fin 4) : S1x512.Slices ![0, 128 * b.val + 1] S1x1 := by
  fin_cases b
  · exact slices_S1x512_o0_1_S1x1
  · exact slices_S1x512_o0_129_S1x1
  · exact slices_S1x512_o0_257_S1x1
  · exact slices_S1x512_o0_385_S1x1

theorem slicesEt (b : Fin 4) : S1x512.Slices ![0, 128 * b.val + 2] S1x1 := by
  fin_cases b
  · exact slices_S1x512_o0_2_S1x1
  · exact slices_S1x512_o0_130_S1x1
  · exact slices_S1x512_o0_258_S1x1
  · exact slices_S1x512_o0_386_S1x1

/-- A batch's part of a row of vectors. -/
abbrev part (b : Fin 4) (v : FVec F S1x512 .f32) : FVec F S1x128 .f32 := extractStridedSlice S1x128 ![0, 128 * b.val] v (slices128 b)
/-- A batch's part of a row of projections. -/
abbrev partP (b : Fin 4) (v : FVec F S1x1024 .f32) : FVec F S1x256 .f32 := extractStridedSlice S1x256 ![0, 256 * b.val] v (slices256 b)

/-! ## One step of one batch -/

/-- The rows of the buffers one step reads. -/
structure Rows (F : FTy → Type) where
  k1 : FVec F S1x512 .f32
  v : FVec F S1x512 .f32
  q : FVec F S1x512 .f32
  g : FVec F S1x512 .f32
  k0 : FVec F S1x512 .f32
  pq : FVec F S1x1024 .f32
  pk : FVec F S1x1024 .f32

/-- The step's rate, scaled. -/
abbrev thOf (b : Fin 4) (g : FVec F S1x512 .f32) : FVec F S1x1 .f32 :=
  mulf (extractStridedSlice S1x1 ![0, 128 * b.val] g (slicesTh b)) (broadcast S1x1 (Scalar.ofBits .f32 0x3C23D70A#32))
/-- One less the step's decay. -/
abbrev omaOf (b : Fin 4) (g : FVec F S1x512 .f32) : FVec F S1x1 .f32 :=
  subf (ones S1x1) (extractStridedSlice S1x1 ![0, 128 * b.val + 1] g (slicesAl b))
/-- The step's momentum factor. -/
abbrev etOf (b : Fin 4) (g : FVec F S1x512 .f32) : FVec F S1x1 .f32 := extractStridedSlice S1x1 ![0, 128 * b.val + 2] g (slicesEt b)

/-- The current query and the next key, one above the other. -/
abbrev rows2 (b : Fin 4) (r : Rows F) : FVec F S2x128 .f32 :=
  concatenate S2x128 0 [⟨S1x128, part b r.q⟩, ⟨S1x128, part b r.k1⟩] concatenates_S1x128_S1x128_S2x128_d0
/-- Their projections. -/
abbrev prjs2 (b : Fin 4) (r : Rows F) : FVec F S2x256 .f32 :=
  concatenate S2x256 0 [⟨S1x256, partP b r.pq⟩, ⟨S1x256, partP b r.pk⟩] concatenates_S1x256_S1x256_S2x256_d0

/-- One step of batch `b`: the output row goes to the offsets `off`. -/
def piece (w : Wts F) (b : Fin 4) (off : Fin 3 → Nat) (inb : ∀ a, off a + S1x1x128.size a ≤ S256x1x512.size a)
    (r : Rows F) (c : Car F) : M F (Car F) := do
  let vw1b ← ld .pw1b (rV1 b) h_S1x1x128x256
  have w1b : FVec F S128x256 .f32 := shapeCast S128x256 (vw1b : Vec F S1x1x128x256 .f32) shapeCasts_S1x1x128x256_S128x256
  let vw2a ← ld .pw2 (rW2 b 0) h_S1x1x256x128
  have w2a : FVec F S256x128 .f32 := shapeCast S256x128 (vw2a : Vec F S1x1x256x128 .f32) shapeCasts_S1x1x256x128_S256x128
  let vw2b ← ld .pw2 (rW2 b 1) h_S1x1x256x128
  have w2b : FVec F S256x128 .f32 := shapeCast S256x128 (vw2b : Vec F S1x1x256x128 .f32) shapeCasts_S1x1x256x128_S256x128
  let vm1a ← ld .mw1 (rW1 b 0) h_S1x1x128x256
  let vn1a ← ld .mb1 (rB1 b 0) h_S1x1x1x256
  let vm2a ← ld .mw2 (rW2 b 0) h_S1x1x256x128
  let vn2a ← ld .mb2 (rB2 b 0) h_S1x1x1x128
  let vm1b ← ld .mw1 (rW1 b 1) h_S1x1x128x256
  let vn1b ← ld .mb1 (rB1 b 1) h_S1x1x1x256
  let vm2b ← ld .mw2 (rW2 b 1) h_S1x1x256x128
  let vn2b ← ld .mb2 (rB2 b 1) h_S1x1x1x128
  have m : Moms F :=
    { w1a := shapeCast S128x256 (vm1a : Vec F S1x1x128x256 .f32) shapeCasts_S1x1x128x256_S128x256
      b1a := shapeCast S1x256 (vn1a : Vec F S1x1x1x256 .f32) shapeCasts_S1x1x1x256_S1x256
      w2a := shapeCast S256x128 (vm2a : Vec F S1x1x256x128 .f32) shapeCasts_S1x1x256x128_S256x128
      b2a := shapeCast S1x128 (vn2a : Vec F S1x1x1x128 .f32) shapeCasts_S1x1x1x128_S1x128
      w1b := shapeCast S128x256 (vm1b : Vec F S1x1x128x256 .f32) shapeCasts_S1x1x128x256_S128x256
      b1b := shapeCast S1x256 (vn1b : Vec F S1x1x1x256 .f32) shapeCasts_S1x1x1x256_S1x256
      w2b := shapeCast S256x128 (vm2b : Vec F S1x1x256x128 .f32) shapeCasts_S1x1x256x128_S256x128
      b2b := shapeCast S1x128 (vn2b : Vec F S1x1x1x128 .f32) shapeCasts_S1x1x1x128_S1x128 }
  have g : Grad F := bwd c (part b r.k0) (part b r.v) w1b w2a w2b
  have nm : Moms F := moms (etOf b r.g) (thOf b r.g) m g
  have np : Pars F := pars (omaOf b r.g) w nm
  st .mw1 (rW1 b 0) h_S1x1x128x256 (shapeCast S1x1x128x256 nm.w1a shapeCasts_S128x256_S1x1x128x256)
  st .mb1 (rB1 b 0) h_S1x1x1x256 (shapeCast S1x1x1x256 nm.b1a shapeCasts_S1x256_S1x1x1x256)
  st .mw2 (rW2 b 0) h_S1x1x256x128 (shapeCast S1x1x256x128 nm.w2a shapeCasts_S256x128_S1x1x256x128)
  st .mb2 (rB2 b 0) h_S1x1x1x128 (shapeCast S1x1x1x128 nm.b2a shapeCasts_S1x128_S1x1x1x128)
  st .mw1 (rW1 b 1) h_S1x1x128x256 (shapeCast S1x1x128x256 nm.w1b shapeCasts_S128x256_S1x1x128x256)
  st .mb1 (rB1 b 1) h_S1x1x1x256 (shapeCast S1x1x1x256 nm.b1b shapeCasts_S1x256_S1x1x1x256)
  st .mw2 (rW2 b 1) h_S1x1x256x128 (shapeCast S1x1x256x128 nm.w2b shapeCasts_S256x128_S1x1x256x128)
  st .mb2 (rB2 b 1) h_S1x1x1x128 (shapeCast S1x1x1x128 nm.b2b shapeCasts_S1x128_S1x1x1x128)
  st .pw2 (rW2 b 0) h_S1x1x256x128 (shapeCast S1x1x256x128 np.w2a shapeCasts_S256x128_S1x1x256x128)
  st .pb2 (rB2 b 0) h_S1x1x1x128 (shapeCast S1x1x1x128 np.b2a shapeCasts_S1x128_S1x1x1x128)
  st .pw1b (rV1 b) h_S1x1x128x256 (shapeCast S1x1x128x256 np.w1b shapeCasts_S128x256_S1x1x128x256)
  st .pb1b (rC1 b) h_S1x1x1x256 (shapeCast S1x1x1x256 np.b1b shapeCasts_S1x256_S1x1x1x256)
  st .pw2 (rW2 b 1) h_S1x1x256x128 (shapeCast S1x1x256x128 np.w2b shapeCasts_S256x128_S1x1x256x128)
  st .pb2 (rB2 b 1) h_S1x1x1x128 (shapeCast S1x1x1x128 np.b2b shapeCasts_S1x128_S1x1x1x128)
  have c1 : FVec F S2x256 .f32 := pre1 w.b1a (omaOf b r.g) (thOf b r.g) (etOf b r.g) (rows2 b r) (prjs2 b r) (part b r.k0) m.w1a m.b1a g.b1a
  have u1 : FVec F S2x128 .f32 := blk1 np (rows2 b r) c1
  have c2 : FVec F S2x256 .f32 := pre2 np u1
  have u2 : FVec F S2x128 .f32 := blk2 np u1 c2
  st .out (Rect.unit (s := S256x1x512) off S1x1x128.size inb) h_S1x1x128 (shapeCast S1x1x128 (outRow c1 u1 c2 u2) shapeCasts_S1x128_S1x1x128)
  pure (carRow c1 u1 c2 u2)

/-! ## One trip of the loop: eight steps -/

/-- The rows step `j` of trip `k` reads. -/
def rows (k : Fin k0_t1_loop.trips) (j : Fin 8) : M F (Rows F) := do
  let k1 ← ld .kr (Rect.unit (s := S257x1x512) (k0_off1 k (BitVec.ofNat 32 j.val)) S1x1x512.size (k0_off1_inb k j)) h_S1x1x512
  let v ← ld .vr (Rect.unit (s := S256x1x512) (k0_off2 k (BitVec.ofNat 32 j.val)) S1x1x512.size (k0_off2_inb k j)) h_S1x1x512
  let q ← ld .qr (Rect.unit (s := S256x1x512) (k0_off2 k (BitVec.ofNat 32 j.val)) S1x1x512.size (k0_off2_inb k j)) h_S1x1x512
  let g ← ld .gr (Rect.unit (s := S256x1x512) (k0_off2 k (BitVec.ofNat 32 j.val)) S1x1x512.size (k0_off2_inb k j)) h_S1x1x512
  let k0 ← ld .kr (Rect.unit (s := S257x1x512) (k0_off3 k (BitVec.ofNat 32 j.val)) S1x1x512.size (k0_off3_inb k j)) h_S1x1x512
  let pq ← ld .pq (Rect.unit (s := S256x1x1024) (k0_off4 k (BitVec.ofNat 32 j.val)) S1x1x1024.size (k0_off4_inb k j)) h_S1x1x1024
  let pk ← ld .pk (Rect.unit (s := S257x1x1024) (k0_off5 k (BitVec.ofNat 32 j.val)) S1x1x1024.size (k0_off5_inb k j)) h_S1x1x1024
  pure
    { k1 := shapeCast S1x512 (k1 : Vec F S1x1x512 .f32) shapeCasts_S1x1x512_S1x512
      v := shapeCast S1x512 (v : Vec F S1x1x512 .f32) shapeCasts_S1x1x512_S1x512
      q := shapeCast S1x512 (q : Vec F S1x1x512 .f32) shapeCasts_S1x1x512_S1x512
      g := shapeCast S1x512 (g : Vec F S1x1x512 .f32) shapeCasts_S1x1x512_S1x512
      k0 := shapeCast S1x512 (k0 : Vec F S1x1x512 .f32) shapeCasts_S1x1x512_S1x512
      pq := shapeCast S1x1024 (pq : Vec F S1x1x1024 .f32) shapeCasts_S1x1x1024_S1x1024
      pk := shapeCast S1x1024 (pk : Vec F S1x1x1024 .f32) shapeCasts_S1x1x1024_S1x1024 }

/-- The four batches' forward passes. -/
structure Cars (F : FTy → Type) where
  c0 : Car F
  c1 : Car F
  c2 : Car F
  c3 : Car F

/-- Step `j` of trip `k`: every batch in turn. -/
def step (w : Wts F) (k : Fin k0_t1_loop.trips) (j : Fin 8) (c : Cars F) : M F (Cars F) := do
  let r ← rows k j
  let c0 ← piece w 0 (k0_off6 k (BitVec.ofNat 32 j.val)) (k0_off6_inb k j) r c.c0
  let c1 ← piece w 1 (k0_off7 k (BitVec.ofNat 32 j.val)) (k0_off7_inb k j) r c.c1
  let c2 ← piece w 2 (k0_off8 k (BitVec.ofNat 32 j.val)) (k0_off8_inb k j) r c.c2
  let c3 ← piece w 3 (k0_off9 k (BitVec.ofNat 32 j.val)) (k0_off9_inb k j) r c.c3
  pure ⟨c0, c1, c2, c3⟩

/-- Trip `k`. -/
def trip (w : Wts F) (k : Fin k0_t1_loop.trips) (c : Cars F) : M F (Cars F) := do
  let c ← step w k 0 c
  let c ← step w k 1 c
  let c ← step w k 2 c
  let c ← step w k 3 c
  let c ← step w k 4 c
  let c ← step w k 5 c
  let c ← step w k 6 c
  step w k 7 c

/-! ## The set-up -/

abbrev r2 (m n : Nat) : Rect ⟨2, ![m, n]⟩ := Rect.unit (s := ⟨2, ![m, n]⟩) ![0, 0] ![m, n] (by intro a; fin_cases a <;> simp)

abbrev rX (b : Fin 4) : Rect S4x256x128 := Rect.unit (s := S4x256x128) ![b.val, 0, 0] S1x256x128.size (by
  intro a; fin_cases a <;> simp; omega)

/-- The original weights. -/
def loadW : M F (Wts F) := do
  let w1a ← ld .w1a (r2 128 256) h_S128x256
  let b1a ← ld .b1a (r2 1 256) h_S1x256
  let w2a ← ld .w2a (r2 256 128) h_S256x128
  let b2a ← ld .b2a (r2 1 128) h_S1x128
  let w1b ← ld .w1b (r2 128 256) h_S128x256
  let b1b ← ld .b1b (r2 1 256) h_S1x256
  let w2b ← ld .w2b (r2 256 128) h_S256x128
  let b2b ← ld .b2b (r2 1 128) h_S1x128
  pure
    { w1a := w1a
      b1a := shapeCast S1x256 (b1a : Vec F S1x256 .f32) shapeCasts_S1x256_S1x256
      w2a := w2a
      b2a := shapeCast S1x128 (b2a : Vec F S1x128 .f32) shapeCasts_S1x128_S1x128
      w1b := w1b
      b1b := shapeCast S1x256 (b1b : Vec F S1x256 .f32) shapeCasts_S1x256_S1x256
      w2b := w2b
      b2b := shapeCast S1x128 (b2b : Vec F S1x128 .f32) shapeCasts_S1x128_S1x128 }

/-- The tokens' vectors, laid out as rows of a buffer. -/
abbrev row3 (v : FVec F S256x128 .f32) : FVec F S256x1x128 .f32 :=
  shapeCast S256x1x128 (shapeCast S256x1x128 v shapeCasts_S256x128_S256x1x128) shapeCasts_S256x1x128_S256x1x128
/-- Their projections, laid out as rows of a buffer. -/
abbrev row3P (v : FVec F S256x256 .f32) : FVec F S256x1x256 .f32 :=
  shapeCast S256x1x256 (shapeCast S256x1x256 v shapeCasts_S256x256_S256x1x256) shapeCasts_S256x1x256_S256x1x256

/-- A batch's copies of the weights and of the initial momenta. -/
def copies (b : Fin 4) : M F PUnit := do
  let v ← ld .w1b (r2 128 256) h_S128x256
  st .pw1b (rV1 b) h_S1x1x128x256 (shapeCast S1x1x128x256 (v : Vec F S128x256 .f32) shapeCasts_S128x256_S1x1x128x256)
  let v ← ld .b1b (r2 1 256) h_S1x256
  st .pb1b (rC1 b) h_S1x1x1x256 (shapeCast S1x1x1x256 (shapeCast S1x256 (v : Vec F S1x256 .f32) shapeCasts_S1x256_S1x256) shapeCasts_S1x256_S1x1x1x256)
  let v ← ld .w2a (r2 256 128) h_S256x128
  st .pw2 (rW2 b 0) h_S1x1x256x128 (shapeCast S1x1x256x128 (v : Vec F S256x128 .f32) shapeCasts_S256x128_S1x1x256x128)
  let v ← ld .b2a (r2 1 128) h_S1x128
  st .pb2 (rB2 b 0) h_S1x1x1x128 (shapeCast S1x1x1x128 (shapeCast S1x128 (v : Vec F S1x128 .f32) shapeCasts_S1x128_S1x128) shapeCasts_S1x128_S1x1x1x128)
  let v ← ld .iw1a (r2 128 256) h_S128x256
  st .mw1 (rW1 b 0) h_S1x1x128x256 (shapeCast S1x1x128x256 (v : Vec F S128x256 .f32) shapeCasts_S128x256_S1x1x128x256)
  let v ← ld .ib1a (r2 1 256) h_S1x256
  st .mb1 (rB1 b 0) h_S1x1x1x256 (shapeCast S1x1x1x256 (shapeCast S1x256 (v : Vec F S1x256 .f32) shapeCasts_S1x256_S1x256) shapeCasts_S1x256_S1x1x1x256)
  let v ← ld .iw2a (r2 256 128) h_S256x128
  st .mw2 (rW2 b 0) h_S1x1x256x128 (shapeCast S1x1x256x128 (v : Vec F S256x128 .f32) shapeCasts_S256x128_S1x1x256x128)
  let v ← ld .ib2a (r2 1 128) h_S1x128
  st .mb2 (rB2 b 0) h_S1x1x1x128 (shapeCast S1x1x1x128 (shapeCast S1x128 (v : Vec F S1x128 .f32) shapeCasts_S1x128_S1x128) shapeCasts_S1x128_S1x1x1x128)
  let v ← ld .w2b (r2 256 128) h_S256x128
  st .pw2 (rW2 b 1) h_S1x1x256x128 (shapeCast S1x1x256x128 (v : Vec F S256x128 .f32) shapeCasts_S256x128_S1x1x256x128)
  let v ← ld .b2b (r2 1 128) h_S1x128
  st .pb2 (rB2 b 1) h_S1x1x1x128 (shapeCast S1x1x1x128 (shapeCast S1x128 (v : Vec F S1x128 .f32) shapeCasts_S1x128_S1x128) shapeCasts_S1x128_S1x1x1x128)
  let v ← ld .iw1b (r2 128 256) h_S128x256
  st .mw1 (rW1 b 1) h_S1x1x128x256 (shapeCast S1x1x128x256 (v : Vec F S128x256 .f32) shapeCasts_S128x256_S1x1x128x256)
  let v ← ld .ib1b (r2 1 256) h_S1x256
  st .mb1 (rB1 b 1) h_S1x1x1x256 (shapeCast S1x1x1x256 (shapeCast S1x256 (v : Vec F S1x256 .f32) shapeCasts_S1x256_S1x256) shapeCasts_S1x256_S1x1x1x256)
  let v ← ld .iw2b (r2 256 128) h_S256x128
  st .mw2 (rW2 b 1) h_S1x1x256x128 (shapeCast S1x1x256x128 (v : Vec F S256x128 .f32) shapeCasts_S256x128_S1x1x256x128)
  let v ← ld .ib2b (r2 1 128) h_S1x128
  st .mb2 (rB2 b 1) h_S1x1x1x128 (shapeCast S1x1x1x128 (shapeCast S1x128 (v : Vec F S1x128 .f32) shapeCasts_S1x128_S1x128) shapeCasts_S1x128_S1x1x1x128)

/-- The set-up of batch `b`: the projections of its tokens, then its copies of weights and momenta. -/
def setup (w1a : Vec F S128x256 .f32) (b : Fin 4) : M F PUnit := do
  let x ← ld .x (rX b) h_S1x256x128
  let wb ← ld .wbig (r2 128 512) h_S128x512
  let bb ← ld .bbig (r2 1 512) h_S1x512
  have p : FVec F S256x512 .f32 := proj (shapeCast S256x128 (x : Vec F S1x256x128 .f32) shapeCasts_S1x256x128_S256x128)
    (shapeCast S128x512 (wb : Vec F S128x512 .f32) shapeCasts_S128x512_S128x512) (shapeCast S1x512 (bb : Vec F S1x512 .f32) shapeCasts_S1x512_S1x512)
  have q : FVec F S256x128 .f32 := unit (extractStridedSlice S256x128 ![0, 0] p slices_S256x512_o0_0_S256x128)
  have k : FVec F S256x128 .f32 := unit (extractStridedSlice S256x128 ![0, 128] p slices_S256x512_o0_128_S256x128)
  have v : FVec F S256x128 .f32 := act (extractStridedSlice S256x128 ![0, 256] p slices_S256x512_o0_256_S256x128)
  have g : FVec F S256x128 .f32 := logistic (extractStridedSlice S256x128 ![0, 384] p slices_S256x512_o0_384_S256x128)
  st .qr (rCols 256 256 128 0 b (by decide)) h_S256x1x128 (row3 q)
  st .kr (rCols 256 257 128 0 b (by decide)) h_S256x1x128 (row3 k)
  st .kr (rCols 1 257 128 256 b (by decide)) h_S1x1x128 (shapeCast S1x1x128 (broadcast S1x1x128 (Scalar.ofBits .f32 0x00000000#32)) shapeCasts_S1x1x128_S1x1x128)
  st .vr (rCols 256 256 128 0 b (by decide)) h_S256x1x128 (row3 v)
  st .gr (rCols 256 256 128 0 b (by decide)) h_S256x1x128 (row3 g)
  st .pq (rCols 256 256 256 0 b (by decide)) h_S256x1x256 (row3P (prj q w1a))
  st .pk (rCols 256 257 256 0 b (by decide)) h_S256x1x256 (row3P (prj k w1a))
  st .pk (rCols 1 257 256 256 b (by decide)) h_S1x1x256 (shapeCast S1x1x256 (broadcast S1x1x256 (Scalar.ofBits .f32 0x00000000#32)) shapeCasts_S1x1x256_S1x1x256)
  copies b

/-- The forward pass of the first tokens. -/
def first (w : Wts F) : M F (Cars F) := do
  let v ← ld .kr (Rect.unit (s := S257x1x512) ![0, 0, 0] S1x1x512.size inb_S257x1x512_S1x1x512_0_0_0) h_S1x1x512
  have k : FVec F S1x512 .f32 := shapeCast S1x512 (v : Vec F S1x1x512 .f32) shapeCasts_S1x1x512_S1x512
  pure ⟨fwd1 w (part 0 k), fwd1 w (part 1 k), fwd1 w (part 2 k), fwd1 w (part 3 k)⟩

/-- Everything before the loop: the weights and the first tokens' forward passes. -/
def before : M F (Wts F × Cars F) := do
  let w ← loadW
  setup w.w1a 0
  setup w.w1a 1
  setup w.w1a 2
  setup w.w1a 3
  let c ← first w
  pure (w, c)

/-- The loop's carried values, as the loop carries them. -/
abbrev Tup (F : FTy → Type) : Type :=
  FVec F S1x256 .f32 × FVec F S1x256 .f32 × FVec F S1x128 .f32 × FVec F S1x256 .f32 × FVec F S1x256 .f32 × FVec F S1x128 .f32
  × FVec F S1x256 .f32 × FVec F S1x256 .f32 × FVec F S1x128 .f32 × FVec F S1x256 .f32 × FVec F S1x256 .f32 × FVec F S1x128 .f32
  × FVec F S1x256 .f32 × FVec F S1x256 .f32 × FVec F S1x128 .f32 × FVec F S1x256 .f32 × FVec F S1x256 .f32 × FVec F S1x128 .f32
  × FVec F S1x256 .f32 × FVec F S1x256 .f32 × FVec F S1x128 .f32 × FVec F S1x256 .f32 × FVec F S1x256 .f32 × FVec F S1x128 .f32

def pack (c : Cars F) : Tup F :=
  (c.c0.s1, c.c0.d1, c.c0.h1, c.c0.s2, c.c0.d2, c.c0.h2, c.c1.s1, c.c1.d1, c.c1.h1, c.c1.s2, c.c1.d2, c.c1.h2,
   c.c2.s1, c.c2.d1, c.c2.h1, c.c2.s2, c.c2.d2, c.c2.h2, c.c3.s1, c.c3.d1, c.c3.h1, c.c3.s2, c.c3.d2, c.c3.h2)

def unpack (t : Tup F) : Cars F :=
  match t with
  | (a0, a1, a2, a3, a4, a5, b0, b1, b2, b3, b4, b5, c0, c1, c2, c3, c4, c5, d0, d1, d2, d3, d4, d5) =>
    ⟨⟨a0, a1, a2, a3, a4, a5⟩, ⟨b0, b1, b2, b3, b4, b5⟩, ⟨c0, c1, c2, c3, c4, c5⟩, ⟨d0, d1, d2, d3, d4, d5⟩⟩

theorem unpack_pack (c : Cars F) : unpack (pack c) = c := rfl

/-- Trip `k`, on the values the loop carries. -/
def tripT (w : Wts F) (k : Fin k0_t1_loop.trips) (t : Tup F) : M F (Tup F) := do
  let c ← trip w k (unpack t)
  pure (pack c)

/-- The second half of a trip. -/
def half2 (w : Wts F) (k : Fin k0_t1_loop.trips) (c : Cars F) : M F (Tup F) := do
  let c ← step w k 4 c
  let c ← step w k 5 c
  let c ← step w k 6 c
  let c ← step w k 7 c
  pure (pack c)

/-- A trip by its halves. -/
def half1 (w : Wts F) (k : Fin k0_t1_loop.trips) (c : Cars F) : M F (Tup F) := do
  let c ← step w k 0 c
  let c ← step w k 1 c
  let c ← step w k 2 c
  let c ← step w k 3 c
  half2 w k c

theorem tripT_eq (w : Wts F) (k : Fin k0_t1_loop.trips) (t : Tup F) : tripT w k t = half1 w k (unpack t) := by
  simp only [tripT, trip, half1, half2, bind_assoc]

/-- The whole kernel. -/
def whole : M F PUnit := do
  let wc ← before
  let _ ← Scf.Loop.for k0_t1_loop k0_t1_ok (pack wc.2) (tripT wc.1)
  pure ⟨⟩

end Cert.Proof
-- ==== Proof.Sem.lean ====
/-
  What one step of the kernel does to the buffers: each batch's momenta and weights become the updated ones, the
  output row is written, and everything else stays.
-/
module

public import proofs.«01_k».proof.Proof.Prog
public import Idealize.ShloMosaic.Lib.Pipeline.Value

@[expose] public section

noncomputable section

namespace Cert.Proof

open Cert.KernelIdeal Cert.KernelIdeal.Gen
open Idealize.ShloMosaic Idealize.SL.Sem
open Cert.Proof.Mem

variable {F : FTy → Type} [FloatOps F]

/-! ## Rectangles apart -/

/-- Two boxes that one axis separates have no place in common. -/
theorem unit_ne {s : Shape} {off off' size size' : Fin s.rank → Nat} (inb) (inb') (a : Fin s.rank)
    (h : off a + size a ≤ off' a ∨ off' a + size' a ≤ off a)
    (i : (Rect.unit (s := s) off size inb).shape.Idx) (j : (Rect.unit (s := s) off' size' inb').shape.Idx) :
    (Rect.unit (s := s) off size inb).emb i ≠ (Rect.unit (s := s) off' size' inb').emb j := by
  intro e
  have e1 := congrArg (fun x => (x a).val) e
  have hi : (i a).val < size a := (i a).isLt
  have hj : (j a).val < size' a := (j a).isLt
  replace e1 : off a + 1 * (i a).val = off' a + 1 * (j a).val := e1
  omega

/-- Reading a box that another one, just overwritten, does not meet. -/
theorem put_unit_ne {s : Shape} {V : Type} {off off' size size' : Fin s.rank → Nat} (inb) (inb') (a : Fin s.rank)
    (h : off a + size a ≤ off' a ∨ off' a + size' a ≤ off a)
    (w : (Rect.unit (s := s) off size inb).shape.Idx → V) (X : s.Idx → V) (j : (Rect.unit (s := s) off' size' inb').shape.Idx) :
    put (Rect.unit (s := s) off size inb) w X ((Rect.unit (s := s) off' size' inb').emb j) = X ((Rect.unit (s := s) off' size' inb').emb j) :=
  put_of_ne _ _ _ _ fun i => unit_ne _ _ a h i j

section
variable {V : Type}

theorem apart {b b' : Fin 4} {l l' : Fin 2} (h : b ≠ b' ∨ l ≠ l') :
    (b.val + 1 ≤ b'.val ∨ b'.val + 1 ≤ b.val) ∨ (l.val + 1 ≤ l'.val ∨ l'.val + 1 ≤ l.val) := by omega

theorem put_rW1 {b b' : Fin 4} {l l' : Fin 2} (h : b ≠ b' ∨ l ≠ l') (w X) (j : (rW1 b' l').shape.Idx) :
    put (V := V) (rW1 b l) w X ((rW1 b' l').emb j) = X ((rW1 b' l').emb j) := by
  rcases apart h with h | h
  · exact put_unit_ne _ _ 0 h w X j
  · exact put_unit_ne _ _ 1 h w X j
theorem put_rB1 {b b' : Fin 4} {l l' : Fin 2} (h : b ≠ b' ∨ l ≠ l') (w X) (j : (rB1 b' l').shape.Idx) :
    put (V := V) (rB1 b l) w X ((rB1 b' l').emb j) = X ((rB1 b' l').emb j) := by
  rcases apart h with h | h
  · exact put_unit_ne _ _ 0 h w X j
  · exact put_unit_ne _ _ 1 h w X j
theorem put_rW2 {b b' : Fin 4} {l l' : Fin 2} (h : b ≠ b' ∨ l ≠ l') (w X) (j : (rW2 b' l').shape.Idx) :
    put (V := V) (rW2 b l) w X ((rW2 b' l').emb j) = X ((rW2 b' l').emb j) := by
  rcases apart h with h | h
  · exact put_unit_ne _ _ 0 h w X j
  · exact put_unit_ne _ _ 1 h w X j
theorem put_rB2 {b b' : Fin 4} {l l' : Fin 2} (h : b ≠ b' ∨ l ≠ l') (w X) (j : (rB2 b' l').shape.Idx) :
    put (V := V) (rB2 b l) w X ((rB2 b' l').emb j) = X ((rB2 b' l').emb j) := by
  rcases apart h with h | h
  · exact put_unit_ne _ _ 0 h w X j
  · exact put_unit_ne _ _ 1 h w X j
theorem put_rV1 {b b' : Fin 4} (h : b ≠ b') (w X) (j : (rV1 b').shape.Idx) :
    put (V := V) (rV1 b) w X ((rV1 b').emb j) = X ((rV1 b').emb j) :=
  put_unit_ne _ _ 0 (by show b.val + 1 ≤ b'.val ∨ b'.val + 1 ≤ b.val; omega) w X j

end

/-! ## One batch's values in the buffers -/

/-- One batch's momenta and the current weights its backward pass reads. -/
structure Bat (F : FTy → Type) where
  m : Moms F
  w1b : FVec F S128x256 .f32
  w2a : FVec F S256x128 .f32
  w2b : FVec F S256x128 .f32

/-- Batch `b`'s, as the buffers hold them. -/
def batch (S : St F) (b : Fin 4) : Bat F where
  m :=
    { w1a := shapeCast S128x256 ((fun j => S .mw1 ((rW1 b 0).emb j)) : Vec F S1x1x128x256 .f32) shapeCasts_S1x1x128x256_S128x256
      b1a := shapeCast S1x256 ((fun j => S .mb1 ((rB1 b 0).emb j)) : Vec F S1x1x1x256 .f32) shapeCasts_S1x1x1x256_S1x256
      w2a := shapeCast S256x128 ((fun j => S .mw2 ((rW2 b 0).emb j)) : Vec F S1x1x256x128 .f32) shapeCasts_S1x1x256x128_S256x128
      b2a := shapeCast S1x128 ((fun j => S .mb2 ((rB2 b 0).emb j)) : Vec F S1x1x1x128 .f32) shapeCasts_S1x1x1x128_S1x128
      w1b := shapeCast S128x256 ((fun j => S .mw1 ((rW1 b 1).emb j)) : Vec F S1x1x128x256 .f32) shapeCasts_S1x1x128x256_S128x256
      b1b := shapeCast S1x256 ((fun j => S .mb1 ((rB1 b 1).emb j)) : Vec F S1x1x1x256 .f32) shapeCasts_S1x1x1x256_S1x256
      w2b := shapeCast S256x128 ((fun j => S .mw2 ((rW2 b 1).emb j)) : Vec F S1x1x256x128 .f32) shapeCasts_S1x1x256x128_S256x128
      b2b := shapeCast S1x128 ((fun j => S .mb2 ((rB2 b 1).emb j)) : Vec F S1x1x1x128 .f32) shapeCasts_S1x1x1x128_S1x128 }
  w1b := shapeCast S128x256 ((fun j => S .pw1b ((rV1 b).emb j)) : Vec F S1x1x128x256 .f32) shapeCasts_S1x1x128x256_S128x256
  w2a := shapeCast S256x128 ((fun j => S .pw2 ((rW2 b 0).emb j)) : Vec F S1x1x256x128 .f32) shapeCasts_S1x1x256x128_S256x128
  w2b := shapeCast S256x128 ((fun j => S .pw2 ((rW2 b 1).emb j)) : Vec F S1x1x256x128 .f32) shapeCasts_S1x1x256x128_S256x128

/-- What one step reads of one token of one batch. -/
structure Tok (F : FTy → Type) where
  k0 : FVec F S1x128 .f32
  v : FVec F S1x128 .f32
  q : FVec F S1x128 .f32
  k1 : FVec F S1x128 .f32
  pq : FVec F S1x256 .f32
  pk : FVec F S1x256 .f32
  th : FVec F S1x1 .f32
  oma : FVec F S1x1 .f32
  et : FVec F S1x1 .f32

/-- Batch `b`'s part of the rows. -/
def Rows.tok (r : Rows F) (b : Fin 4) : Tok F :=
  ⟨part b r.k0, part b r.v, part b r.q, part b r.k1, partP b r.pq, partP b r.pk, thOf b r.g, omaOf b r.g, etOf b r.g⟩

/-- One step of one batch: the new momenta and weights, the next token's forward pass, the output row. -/
structure Res (F : FTy → Type) where
  bat : Bat F
  car : Car F
  out : FVec F S1x128 .f32

def stepB (w : Wts F) (t : Tok F) (B : Bat F) (c : Car F) : Res F :=
  have g : Grad F := bwd c t.k0 t.v B.w1b B.w2a B.w2b
  have nm : Moms F := moms t.et t.th B.m g
  have np : Pars F := pars t.oma w nm
  have x2 : FVec F S2x128 .f32 := concatenate S2x128 0 [⟨S1x128, t.q⟩, ⟨S1x128, t.k1⟩] concatenates_S1x128_S1x128_S2x128_d0
  have p2 : FVec F S2x256 .f32 := concatenate S2x256 0 [⟨S1x256, t.pq⟩, ⟨S1x256, t.pk⟩] concatenates_S1x256_S1x256_S2x256_d0
  have c1 : FVec F S2x256 .f32 := pre1 w.b1a t.oma t.th t.et x2 p2 t.k0 B.m.w1a B.m.b1a g.b1a
  have u1 : FVec F S2x128 .f32 := blk1 np x2 c1
  have c2 : FVec F S2x256 .f32 := pre2 np u1
  have u2 : FVec F S2x128 .f32 := blk2 np u1 c2
  ⟨⟨nm, np.w1b, np.w2a, np.w2b⟩, carRow c1 u1 c2 u2, outRow c1 u1 c2 u2⟩

section
variable (w : Wts F) (b : Fin 4) (off : Fin 3 → Nat) (inb : ∀ a, off a + S1x1x128.size a ≤ S256x1x512.size a)
  (r : Rows F) (c : Car F) (S : St F)

theorem piece_car : (run (piece w b off inb r c) S).1 = (stepB w (r.tok b) (batch S b) c).car := by
  simp only [piece, run_bind, run_ld, run_st, run_ret, run_pure]
  rfl

theorem piece_out : (run (piece w b off inb r c) S).2 .out
    = put (Rect.unit (s := S256x1x512) off S1x1x128.size inb)
        (shapeCast S1x1x128 (stepB w (r.tok b) (batch S b) c).out shapeCasts_S1x128_S1x1x128) (S .out) := by
  simp only [piece, run_bind, run_ld, run_st, run_ret, run_pure, ne_eq, reduceCtorEq, not_false_eq_true, Function.update_of_ne, Function.update_self]
  rfl

/-- The buffers a step only reads. -/
def Fld.kept : Fld → Bool
  | .out | .pw1b | .pb1b | .pw2 | .pb2 | .mw1 | .mb1 | .mw2 | .mb2 => false
  | _ => true

theorem piece_kept (f : Fld) (hf : f.kept = true) : (run (piece w b off inb r c) S).2 f = S f := by
  simp only [piece, run_bind, run_ld, run_st, run_ret, run_pure]
  have h (g : Fld) (hg : g.kept = false) : f ≠ g := fun e => by rw [e, hg] at hf; exact absurd hf (by decide)
  simp only [ne_eq, h .out rfl, h .pw1b rfl, h .pb1b rfl, h .pw2 rfl, h .pb2 rfl, h .mw1 rfl, h .mb1 rfl, h .mw2 rfl, h .mb2 rfl,
    not_false_eq_true, Function.update_of_ne]

theorem piece_batch : batch (run (piece w b off inb r c) S).2 b = (stepB w (r.tok b) (batch S b) c).bat := by
  simp only [piece, run_bind, run_ld, run_st, run_ret, run_pure]
  simp (disch := simp) only [batch, ne_eq, reduceCtorEq, not_false_eq_true, Function.update_of_ne, Function.update_self, put_emb,
    put_rW1, put_rB1, put_rW2, put_rB2]
  simp only [shapeCast_shapeCast]
  rfl

theorem piece_batch_ne (b' : Fin 4) (hb : b ≠ b') : batch (run (piece w b off inb r c) S).2 b' = batch S b' := by
  simp only [piece, run_bind, run_ld, run_st, run_ret, run_pure]
  simp only [batch, ne_eq, reduceCtorEq, not_false_eq_true, Function.update_of_ne, Function.update_self,
    put_rW1 (Or.inl hb), put_rB1 (Or.inl hb), put_rW2 (Or.inl hb), put_rB2 (Or.inl hb), put_rV1 hb]

end

end Cert.Proof
-- ==== Proof.Loop.lean ====
/-
  The kernel's loop: after `n` steps every batch is `n` times one step from where it began, and the first `n` output
  rows are written.
-/
module

public import proofs.«01_k».proof.Proof.Sem

@[expose] public section

noncomputable section

namespace Cert.Proof

open Cert.KernelIdeal Cert.KernelIdeal.Gen
open Idealize.ShloMosaic Idealize.SL.Sem
open Cert.Proof.Mem

variable {F : FTy → Type} [FloatOps F]

/-! ## The rows of step `n` -/

theorem inbRow {n m d : Nat} (h : n < m) : ∀ a, (![n, 0, 0] : Fin 3 → Nat) a + (![1, 1, d] : Fin 3 → Nat) a ≤ (![m, 1, d] : Fin 3 → Nat) a := by
  intro a; fin_cases a <;> simp <;> omega

theorem inbOut {n : Nat} (h : n < 256) (b : Fin 4) :
    ∀ a, (![n, 0, 128 * b.val] : Fin 3 → Nat) a + (![1, 1, 128] : Fin 3 → Nat) a ≤ (![256, 1, 512] : Fin 3 → Nat) a := by
  intro a; fin_cases a <;> simp <;> omega

/-- The rows step `n` reads, of the buffers' contents. -/
def rowsAt (S : St F) (n : Fin 256) : Rows F where
  k1 := shapeCast S1x512 ((fun j => S .kr ((Rect.unit (s := S257x1x512) ![n.val + 1, 0, 0] S1x1x512.size (inbRow (by omega))).emb j)) : Vec F S1x1x512 .f32) shapeCasts_S1x1x512_S1x512
  v := shapeCast S1x512 ((fun j => S .vr ((Rect.unit (s := S256x1x512) ![n.val, 0, 0] S1x1x512.size (inbRow n.isLt)).emb j)) : Vec F S1x1x512 .f32) shapeCasts_S1x1x512_S1x512
  q := shapeCast S1x512 ((fun j => S .qr ((Rect.unit (s := S256x1x512) ![n.val, 0, 0] S1x1x512.size (inbRow n.isLt)).emb j)) : Vec F S1x1x512 .f32) shapeCasts_S1x1x512_S1x512
  g := shapeCast S1x512 ((fun j => S .gr ((Rect.unit (s := S256x1x512) ![n.val, 0, 0] S1x1x512.size (inbRow n.isLt)).emb j)) : Vec F S1x1x512 .f32) shapeCasts_S1x1x512_S1x512
  k0 := shapeCast S1x512 ((fun j => S .kr ((Rect.unit (s := S257x1x512) ![n.val, 0, 0] S1x1x512.size (inbRow (by omega))).emb j)) : Vec F S1x1x512 .f32) shapeCasts_S1x1x512_S1x512
  pq := shapeCast S1x1024 ((fun j => S .pq ((Rect.unit (s := S256x1x1024) ![n.val, 0, 0] S1x1x1024.size (inbRow n.isLt)).emb j)) : Vec F S1x1x1024 .f32) shapeCasts_S1x1x1024_S1x1024
  pk := shapeCast S1x1024 ((fun j => S .pk ((Rect.unit (s := S257x1x1024) ![n.val + 1, 0, 0] S1x1x1024.size (inbRow (by omega))).emb j)) : Vec F S1x1x1024 .f32) shapeCasts_S1x1x1024_S1x1024

/-- The step's number. -/
def stepNo (k : Fin k0_t1_loop.trips) (j : Fin 8) : Fin 256 := ⟨8 * k.val + j.val, by
  have : k0_t1_loop.trips = 32 := by decide
  have := k.isLt; have := j.isLt; omega⟩

/-- A box read at equal offsets. -/
theorem read_congr {s : Shape} {V : Type} (X : s.Idx → V) {off off' size : Fin s.rank → Nat} (h : off = off') (inb inb') :
    (fun j : (⟨s.rank, size⟩ : Shape).Idx => X ((Rect.unit (s := s) off size inb).emb j))
      = fun j => X ((Rect.unit (s := s) off' size inb').emb j) := by
  subst h; rfl

/-- An output row just written is apart from another step's or another batch's. -/
theorem put_outRow_ne {V : Type} {n s : Nat} {b b' : Fin 4} (h : n ≠ s ∨ b.val ≠ b'.val) (inb inb')
    (w : S1x1x128.Idx → V) (X : S256x1x512.Idx → V) (j : S1x1x128.Idx) :
    put (Rect.unit (s := S256x1x512) ![n, 0, 128 * b.val] S1x1x128.size inb) w X
        ((Rect.unit (s := S256x1x512) ![s, 0, 128 * b'.val] S1x1x128.size inb').emb j)
      = X ((Rect.unit (s := S256x1x512) ![s, 0, 128 * b'.val] S1x1x128.size inb').emb j) := by
  have h' : (n + 1 ≤ s ∨ s + 1 ≤ n) ∨ (128 * b.val + 128 ≤ 128 * b'.val ∨ 128 * b'.val + 128 ≤ 128 * b.val) := by omega
  rcases h' with h | h
  · exact put_unit_ne (s := S256x1x512) (off := ![n, 0, 128 * b.val]) (off' := ![s, 0, 128 * b'.val]) (size := S1x1x128.size) (size' := S1x1x128.size) inb inb' (0 : Fin 3) h w X j
  · exact put_unit_ne (s := S256x1x512) (off := ![n, 0, 128 * b.val]) (off' := ![s, 0, 128 * b'.val]) (size := S1x1x128.size) (size' := S1x1x128.size) inb inb' (2 : Fin 3) h w X j

theorem run_rows (k : Fin k0_t1_loop.trips) (j : Fin 8) (S : St F) : run (rows k j) S = (rowsAt S (stepNo k j), S) := by
  simp only [rows, run_bind, run_ld, run_ret, run_pure]
  refine Prod.ext ?_ rfl
  show Rows.mk _ _ _ _ _ _ _ = Rows.mk _ _ _ _ _ _ _
  rw [Rows.mk.injEq]
  exact ⟨congrArg (fun x => shapeCast S1x512 x shapeCasts_S1x1x512_S1x512) (read_congr (S .kr) (k0_off1_eq k j) _ _),
    congrArg (fun x => shapeCast S1x512 x shapeCasts_S1x1x512_S1x512) (read_congr (S .vr) (k0_off2_eq k j) _ _),
    congrArg (fun x => shapeCast S1x512 x shapeCasts_S1x1x512_S1x512) (read_congr (S .qr) (k0_off2_eq k j) _ _),
    congrArg (fun x => shapeCast S1x512 x shapeCasts_S1x1x512_S1x512) (read_congr (S .gr) (k0_off2_eq k j) _ _),
    congrArg (fun x => shapeCast S1x512 x shapeCasts_S1x1x512_S1x512) (read_congr (S .kr) (k0_off3_eq k j) _ _),
    congrArg (fun x => shapeCast S1x1024 x shapeCasts_S1x1x1024_S1x1024) (read_congr (S .pq) (k0_off4_eq k j) _ _),
    congrArg (fun x => shapeCast S1x1024 x shapeCasts_S1x1x1024_S1x1024) (read_congr (S .pk) (k0_off5_eq k j) _ _)⟩

theorem rowsAt_congr {S S' : St F} (h : ∀ f : Fld, f.kept = true → S f = S' f) (n : Fin 256) : rowsAt S n = rowsAt S' n := by
  simp only [rowsAt, h .kr rfl, h .vr rfl, h .qr rfl, h .gr rfl, h .pq rfl, h .pk rfl]

/-! ## The steps of one batch -/

/-- One batch's carried values. -/
structure Cur (F : FTy → Type) where
  bat : Bat F
  car : Car F

/-- One step, of the carried values. -/
def next (w : Wts F) (t : Tok F) (u : Cur F) : Cur F := ⟨(stepB w t u.bat u.car).bat, (stepB w t u.bat u.car).car⟩

/-- The carried values after the first `n` steps. -/
def after (w : Wts F) (t : Fin 256 → Tok F) (u : Cur F) : Nat → Cur F
  | 0 => u
  | n + 1 => if h : n < 256 then next w (t ⟨n, h⟩) (after w t u n) else after w t u n

/-- Step `n`'s output row. -/
def outAt (w : Wts F) (t : Fin 256 → Tok F) (u : Cur F) (n : Fin 256) : FVec F S1x128 .f32 :=
  (stepB w (t n) (after w t u n.val).bat (after w t u n.val).car).out

theorem after_succ (w : Wts F) (t : Fin 256 → Tok F) (u : Cur F) (n : Fin 256) :
    after w t u (n.val + 1) = next w (t n) (after w t u n.val) := by simp [after]

/-- A batch's forward pass. -/
def Cars.get (c : Cars F) : Fin 4 → Car F
  | 0 => c.c0
  | 1 => c.c1
  | 2 => c.c2
  | 3 => c.c3

/-- What the buffers and the carried values are after `n` steps from `S₀` and `c₀`. -/
structure Reached (w : Wts F) (S₀ : St F) (c₀ : Cars F) (n : Nat) (S : St F) (c : Cars F) : Prop where
  kept : ∀ f : Fld, f.kept = true → S f = S₀ f
  cur : ∀ b, Cur.mk (batch S b) (c.get b) = after w (fun s => (rowsAt S₀ s).tok b) ⟨batch S₀ b, c₀.get b⟩ n
  out : ∀ (b : Fin 4) (s : Fin 256), s.val < n → ∀ j : S1x1x128.Idx,
    S .out ((Rect.unit (s := S256x1x512) ![s.val, 0, 128 * b.val] S1x1x128.size (inbOut s.isLt b)).emb j)
      = shapeCast S1x1x128 (outAt w (fun s => (rowsAt S₀ s).tok b) ⟨batch S₀ b, c₀.get b⟩ s) shapeCasts_S1x128_S1x1x128 j

/-- The same in the middle of step `n`: the batches before `p` are done. -/
structure Mid (w : Wts F) (S₀ : St F) (c₀ : Cars F) (n : Fin 256) (p : Nat) (S : St F) (c : Fin 4 → Car F) : Prop where
  kept : ∀ f : Fld, f.kept = true → S f = S₀ f
  cur : ∀ b : Fin 4, Cur.mk (batch S b) (c b) = after w (fun s => (rowsAt S₀ s).tok b) ⟨batch S₀ b, c₀.get b⟩ (if b.val < p then n.val + 1 else n.val)
  out : ∀ (b : Fin 4) (s : Fin 256), (s.val < n.val ∨ s = n ∧ b.val < p) → ∀ j : S1x1x128.Idx,
    S .out ((Rect.unit (s := S256x1x512) ![s.val, 0, 128 * b.val] S1x1x128.size (inbOut s.isLt b)).emb j)
      = shapeCast S1x1x128 (outAt w (fun s => (rowsAt S₀ s).tok b) ⟨batch S₀ b, c₀.get b⟩ s) shapeCasts_S1x128_S1x1x128 j

theorem Mid.piece {w : Wts F} {S₀ : St F} {c₀ : Cars F} {n : Fin 256} {b : Fin 4} {S : St F} {c : Fin 4 → Car F} (cb : Car F) (hcb : c b = cb)
    (h : Mid w S₀ c₀ n b.val S c) (off : Fin 3 → Nat) (inb : ∀ a, off a + S1x1x128.size a ≤ S256x1x512.size a)
    (hoff : off = ![n.val, 0, 128 * b.val]) :
    Mid w S₀ c₀ n (b.val + 1) (run (piece w b off inb (rowsAt S₀ n) cb) S).2
      (Function.update c b (run (piece w b off inb (rowsAt S₀ n) cb) S).1) := by
  subst hoff hcb
  have hb := h.cur b
  rw [if_neg (by omega)] at hb
  have h1 : batch S b = (after w (fun s => (rowsAt S₀ s).tok b) ⟨batch S₀ b, c₀.get b⟩ n.val).bat := congrArg Cur.bat hb
  have h2 : c b = (after w (fun s => (rowsAt S₀ s).tok b) ⟨batch S₀ b, c₀.get b⟩ n.val).car := congrArg Cur.car hb
  refine ⟨fun f hf => (piece_kept w b _ inb _ _ S f hf).trans (h.kept f hf), fun b' => ?_, fun b' s hs j => ?_⟩
  · by_cases e : b = b'
    · subst e
      rw [piece_batch, piece_car, Function.update_self, if_pos (by omega), after_succ, h1, h2]
      rfl
    · rw [piece_batch_ne _ _ _ _ _ _ _ _ e, Function.update_of_ne (Ne.symm e)]
      refine (h.cur b').trans ?_
      have : b'.val ≠ b.val := fun e' => e (Fin.ext e'.symm)
      by_cases hl : b'.val < b.val
      · rw [if_pos hl, if_pos (by omega)]
      · rw [if_neg hl, if_neg (by omega)]
  · rw [piece_out]
    by_cases e : s = n ∧ b' = b
    · obtain ⟨rfl, rfl⟩ := e
      rw [put_emb, h1, h2]
      rfl
    · have hn : n.val ≠ s.val ∨ b.val ≠ b'.val := by
        by_contra hc
        exact e ⟨Fin.ext (not_not.mp fun h => hc (.inl (Ne.symm h))), Fin.ext (not_not.mp fun h => hc (.inr (Ne.symm h)))⟩
      rw [put_outRow_ne hn]
      refine h.out b' s ?_ j
      rcases hs with hs | ⟨hs, hb'⟩
      · exact .inl hs
      · refine .inr ⟨hs, ?_⟩
        rcases hn with hn | hn
        · exact absurd (congrArg Fin.val hs).symm hn
        · omega

/-- The four batches' forward passes, as a function. -/
theorem get_mk (c : Fin 4 → Car F) : (⟨c 0, c 1, c 2, c 3⟩ : Cars F).get = c := by
  funext b; fin_cases b <;> rfl

/-- A step is its four batches' steps in turn. -/
theorem run_step (w : Wts F) (k : Fin k0_t1_loop.trips) (j : Fin 8) (c : Cars F) (S : St F) {R : Rows F} {x0 x1 x2 x3 : Car F × St F}
    (hR : rowsAt S (stepNo k j) = R)
    (h0 : run (piece w 0 (k0_off6 k (BitVec.ofNat 32 j.val)) (k0_off6_inb k j) R c.c0) S = x0)
    (h1 : run (piece w 1 (k0_off7 k (BitVec.ofNat 32 j.val)) (k0_off7_inb k j) R c.c1) x0.2 = x1)
    (h2 : run (piece w 2 (k0_off8 k (BitVec.ofNat 32 j.val)) (k0_off8_inb k j) R c.c2) x1.2 = x2)
    (h3 : run (piece w 3 (k0_off9 k (BitVec.ofNat 32 j.val)) (k0_off9_inb k j) R c.c3) x2.2 = x3) :
    run (step w k j c) S = (⟨x0.1, x1.1, x2.1, x3.1⟩, x3.2) := by
  unfold step
  rw [run_bind, run_rows, hR, run_bind, h0, run_bind, h1, run_bind, h2, run_bind, h3, run_pure]

theorem Reached.step {w : Wts F} {S₀ : St F} {c₀ : Cars F} {S : St F} {c : Cars F} (k : Fin k0_t1_loop.trips) (j : Fin 8)
    (h : Reached w S₀ c₀ (stepNo k j).val S c) :
    Reached w S₀ c₀ ((stepNo k j).val + 1) (run (step w k j c) S).2 (run (step w k j c) S).1 := by
  have m0 : Mid w S₀ c₀ (stepNo k j) 0 S c.get :=
    ⟨h.kept, fun b => by rw [if_neg (by omega)]; exact h.cur b, fun b s hs => h.out b s (by omega)⟩
  have hr : rowsAt S (stepNo k j) = rowsAt S₀ (stepNo k j) := rowsAt_congr h.kept _
  have m1 := Mid.piece (b := 0) c.c0 rfl m0 (k0_off6 k (BitVec.ofNat 32 j.val)) (k0_off6_inb k j) (k0_off6_eq k j)
  obtain ⟨x0, e0⟩ : ∃ x, run (piece w 0 (k0_off6 k (BitVec.ofNat 32 j.val)) (k0_off6_inb k j) (rowsAt S₀ (stepNo k j)) c.c0) S = x := ⟨_, rfl⟩
  rw [e0] at m1
  have m2 := Mid.piece (b := 1) c.c1 rfl m1 (k0_off7 k (BitVec.ofNat 32 j.val)) (k0_off7_inb k j) (k0_off7_eq k j)
  obtain ⟨x1, e1⟩ : ∃ x, run (piece w 1 (k0_off7 k (BitVec.ofNat 32 j.val)) (k0_off7_inb k j) (rowsAt S₀ (stepNo k j)) c.c1) x0.2 = x := ⟨_, rfl⟩
  rw [e1] at m2
  have m3 := Mid.piece (b := 2) c.c2 rfl m2 (k0_off8 k (BitVec.ofNat 32 j.val)) (k0_off8_inb k j) (k0_off8_eq k j)
  obtain ⟨x2, e2⟩ : ∃ x, run (piece w 2 (k0_off8 k (BitVec.ofNat 32 j.val)) (k0_off8_inb k j) (rowsAt S₀ (stepNo k j)) c.c2) x1.2 = x := ⟨_, rfl⟩
  rw [e2] at m3
  have m4 := Mid.piece (b := 3) c.c3 rfl m3 (k0_off9 k (BitVec.ofNat 32 j.val)) (k0_off9_inb k j) (k0_off9_eq k j)
  obtain ⟨x3, e3⟩ : ∃ x, run (piece w 3 (k0_off9 k (BitVec.ofNat 32 j.val)) (k0_off9_inb k j) (rowsAt S₀ (stepNo k j)) c.c3) x2.2 = x := ⟨_, rfl⟩
  rw [e3] at m4
  rw [run_step w k j c S hr e0 e1 e2 e3]
  clear e0 e1 e2 e3 m1 m2 m3 hr
  refine ⟨m4.kept, fun b => ?_, fun b s hs => ?_⟩
  · have := m4.cur b
    rw [if_pos (show b.val < (3 : Fin 4).val + 1 from b.isLt)] at this
    rw [← this]
    congr 1
    fin_cases b <;> rfl
  · have e : s.val < (stepNo k j).val ∨ s = stepNo k j ∧ b.val < (3 : Fin 4).val + 1 := by
      by_cases e : s = stepNo k j
      · exact .inr ⟨e, b.isLt⟩
      · have : s.val ≠ (stepNo k j).val := fun e' => e (Fin.ext e')
        exact .inl (by omega)
    exact m4.out b s e

theorem Reached.trip {w : Wts F} {S₀ : St F} {c₀ : Cars F} {S : St F} {c : Cars F} (k : Fin k0_t1_loop.trips)
    (h : Reached w S₀ c₀ (8 * k.val) S c) :
    Reached w S₀ c₀ (8 * (k.val + 1)) (run (trip w k c) S).2 (run (trip w k c) S).1 := by
  have h1 := Reached.step k 0 h
  have h2 := Reached.step k 1 h1
  have h3 := Reached.step k 2 h2
  have h4 := Reached.step k 3 h3
  have h5 := Reached.step k 4 h4
  have h6 := Reached.step k 5 h5
  have h7 := Reached.step k 6 h6
  have h8 := Reached.step k 7 h7
  simp only [Cert.Proof.trip, run_bind]
  exact h8

/-- A property of the number of trips done holds after all of them. -/
theorem foldl_finRange {σ : Type} {n : Nat} (f : σ → Fin n → σ) (P : Nat → σ → Prop) (a : σ) (h0 : P 0 a)
    (hs : ∀ (k : Fin n) (x : σ), P k.val x → P (k.val + 1) (f x k)) : P n ((List.finRange n).foldl f a) := by
  induction n generalizing a P with
  | zero => simpa using h0
  | succ n ih =>
    rw [List.finRange_succ, List.foldl_cons, List.foldl_map]
    exact ih (fun x k => f x k.succ) (fun i => P (i + 1)) (f a 0) (hs 0 a h0) fun k x hx => hs k.succ x hx

theorem run_loop (w : Wts F) (S₀ : St F) (c₀ : Cars F) :
    Reached w S₀ c₀ 256 (run (Scf.Loop.for k0_t1_loop k0_t1_ok (pack c₀) (tripT w)) S₀).2
      (unpack (run (Scf.Loop.for k0_t1_loop k0_t1_ok (pack c₀) (tripT w)) S₀).1) := by
  rw [run_for]
  have ht : k0_t1_loop.trips = 32 := by decide
  have h := foldl_finRange (n := k0_t1_loop.trips) (fun (x : Tup F × St F) k => run (tripT w k x.1) x.2)
    (fun n x => Reached w S₀ c₀ (8 * n) x.2 (unpack x.1)) (pack c₀, S₀)
    ⟨fun _ _ => rfl, fun _ => rfl, fun _ s hs => absurd hs (by omega)⟩
    (fun k x hx => by
      have := Reached.trip k hx
      simp only [tripT, run_bind, run_pure, unpack_pack]
      exact this)
  have h8 : 8 * k0_t1_loop.trips = 256 := by rw [ht]
  rwa [h8] at h

end Cert.Proof
-- ==== Proof.Setup.lean ====
/-
  What the set-up leaves in the buffers: each batch's tokens as rows, a row of zeros after the last, and a copy of
  the weights and of the initial momenta.
-/
module

public import proofs.«01_k».proof.Proof.Loop
public import Idealize.ShloMosaic.Lib.Pointwise

@[expose] public section

noncomputable section

namespace Cert.Proof

open Cert.KernelIdeal Cert.KernelIdeal.Gen
open Idealize.ShloMosaic Idealize.SL.Sem
open Cert.Proof.Mem

variable {F : FTy → Type} [FloatOps F]

/-! ## Rows of a buffer -/

/-- Row `n` of `v`; zeros after the last. -/
def rowOf {w : Nat} (v : FVec F ⟨2, ![256, w]⟩ .f32) (n : Nat) : FVec F ⟨2, ![1, w]⟩ .f32 :=
  fun i => if h : n < 256 then v (ix2 ⟨n, h⟩ (i 1)) else Scalar.ofBits .f32 0x00000000#32

/-- Column `l` of batch `b`. -/
def col {w : Nat} (b : Fin 4) (l : Fin w) : Fin (4 * w) :=
  ⟨w * b.val + l.val, by
    have h : w * (b.val + 1) ≤ w * 4 := Nat.mul_le_mul_left _ (by omega)
    rw [Nat.mul_succ] at h
    omega⟩

/-- Batch `b`'s columns of a row buffer hold the rows of `v`. -/
def Holds {m w : Nat} (X : (⟨3, ![m, 1, 4 * w]⟩ : Shape).Idx → Elt F .f32) (b : Fin 4) (v : FVec F ⟨2, ![256, w]⟩ .f32) : Prop :=
  ∀ (n : Fin m) (l : Fin w), X (ix3 n 0 (col b l)) = rowOf v n.val (ix2 0 l)

section
variable {m w : Nat}

theorem put_rCols_in {V : Type} (n i : Nat) (b : Fin 4) (h : i + n ≤ m) (W) (X : (⟨3, ![m, 1, 4 * w]⟩ : Shape).Idx → V) (t : Fin n) (l : Fin w)
    (r : Fin m) (hr : r.val = i + t.val) :
    put (rCols n m w i b h) W X (ix3 r 0 (col b l)) = W (ix3 t 0 l) := by
  have e : (ix3 r 0 (col b l) : (⟨3, ![m, 1, 4 * w]⟩ : Shape).Idx) = (rCols n m w i b h).emb (ix3 t 0 l) := by
    funext a
    match a with
    | ⟨0, _⟩ => exact Fin.ext (show r.val = i + 1 * t.val by omega)
    | ⟨1, _⟩ => exact Fin.ext rfl
    | ⟨2, _⟩ => exact Fin.ext (show w * b.val + l.val = w * b.val + 1 * l.val by omega)
  rw [e, put_emb]

theorem put_rCols_row {V : Type} (n i : Nat) (b : Fin 4) (h : i + n ≤ m) (W) (X : (⟨3, ![m, 1, 4 * w]⟩ : Shape).Idx → V) (c : Fin (4 * w))
    (r : Fin m) (hr : r.val < i ∨ i + n ≤ r.val) :
    put (rCols n m w i b h) W X (ix3 r 0 c) = X (ix3 r 0 c) :=
  put_of_ne _ _ _ _ fun j e => by
    have e1 := congrArg (fun x => (x 0).val) e
    have hj : (j 0).val < n := (j 0).isLt
    replace e1 : i + 1 * (j 0).val = r.val := e1
    omega

theorem put_rCols_col {V : Type} (n i : Nat) {b b' : Fin 4} (h : i + n ≤ m) (W) (X : (⟨3, ![m, 1, 4 * w]⟩ : Shape).Idx → V) (l : Fin w)
    (r : Fin m) (hb : b ≠ b') :
    put (rCols n m w i b h) W X (ix3 r 0 (col b' l)) = X (ix3 r 0 (col b' l)) :=
  put_of_ne _ _ _ _ fun j e => by
    have e1 := congrArg (fun x => (x 2).val) e
    have hj : (j 2).val < w := (j 2).isLt
    have hl := l.isLt
    replace e1 : w * b.val + 1 * (j 2).val = w * b'.val + l.val := e1
    rcases Nat.lt_or_gt_of_ne (fun e => hb (Fin.ext e) : b.val ≠ b'.val) with hlt | hlt
    · have := Nat.mul_le_mul_left w (show b.val + 1 ≤ b'.val from hlt)
      rw [Nat.mul_succ] at this; omega
    · have := Nat.mul_le_mul_left w (show b'.val + 1 ≤ b.val from hlt)
      rw [Nat.mul_succ] at this; omega

theorem Holds.put_ne {X : (⟨3, ![m, 1, 4 * w]⟩ : Shape).Idx → Elt F .f32} {b b' : Fin 4} {v : FVec F ⟨2, ![256, w]⟩ .f32} (hX : Holds X b' v)
    (n i : Nat) (h : i + n ≤ m) (W) (hb : b ≠ b') : Holds (put (rCols n m w i b h) W X) b' v :=
  fun r l => (put_rCols_col n i h W X l r hb).trans (hX r l)

theorem holds_put (b : Fin 4) (h) (W) (X : (⟨3, ![256, 1, 4 * w]⟩ : Shape).Idx → Elt F .f32) (v : FVec F ⟨2, ![256, w]⟩ .f32)
    (hW : ∀ t l, W (ix3 t 0 l) = v (ix2 t l)) : Holds (put (rCols 256 256 w 0 b h) W X) b v := fun r l => by
  rw [put_rCols_in 256 0 b h W X r l r (by omega), hW, rowOf, dif_pos r.isLt]; rfl

theorem holds_put_zero (b : Fin 4) (h h') (W Z) (X : (⟨3, ![257, 1, 4 * w]⟩ : Shape).Idx → Elt F .f32) (v : FVec F ⟨2, ![256, w]⟩ .f32)
    (hW : ∀ t l, W (ix3 t 0 l) = v (ix2 t l)) (hZ : ∀ t l, Z (ix3 t 0 l) = Scalar.ofBits .f32 0x00000000#32) :
    Holds (put (rCols 1 257 w 256 b h') Z (put (rCols 256 257 w 0 b h) W X)) b v := fun r l => by
  by_cases hr : r.val < 256
  · rw [put_rCols_row 1 256 b h' _ _ _ r (by omega), put_rCols_in 256 0 b h W X ⟨r.val, hr⟩ l r (by simp), hW, rowOf, dif_pos hr]; rfl
  · rw [put_rCols_in 1 256 b h' Z _ 0 l r (by have := r.isLt; simp; omega), hZ, rowOf, dif_neg hr]

end

theorem row3_apply (v : FVec F S256x128 .f32) (t : Fin 256) (l : Fin 128) : row3 v (ix3 t 0 l) = v (ix2 t l) := by
  rw [row3, shapeCast_self]
  exact shapeCast_apply _ _ _ _ (by simp only [Shape.rowMajor_val_three, Shape.rowMajor_val_two]; simp)

theorem row3P_apply (v : FVec F S256x256 .f32) (t : Fin 256) (l : Fin 256) : row3P v (ix3 t 0 l) = v (ix2 t l) := by
  rw [row3P, shapeCast_self]
  exact shapeCast_apply _ _ _ _ (by simp only [Shape.rowMajor_val_three, Shape.rowMajor_val_two]; simp)

/-! ## Reading a batch's part of a row -/

/-- A row of a buffer read at column `c`. -/
theorem rowRead {m d : Nat} (X : (⟨3, ![m, 1, d]⟩ : Shape).Idx → Elt F .f32) (n : Nat) (hn : n < m) (inb) (sc : (⟨3, ![1, 1, d]⟩ : Shape).ShapeCasts ⟨2, ![1, d]⟩)
    (c : Fin d) :
    shapeCast ⟨2, ![1, d]⟩ ((fun j => X ((Rect.unit (s := ⟨3, ![m, 1, d]⟩) ![n, 0, 0] ![1, 1, d] inb).emb j)) : Vec F ⟨3, ![1, 1, d]⟩ .f32) sc (ix2 0 c)
      = X (ix3 ⟨n, hn⟩ 0 c) := by
  rw [shapeCast_apply _ _ _ (ix3 0 0 c) (by simp only [Shape.rowMajor_val_three, Shape.rowMajor_val_two]; simp)]
  refine congrArg X (funext fun a => ?_)
  match a with
  | ⟨0, _⟩ => exact Fin.ext rfl
  | ⟨1, _⟩ => exact Fin.ext rfl
  | ⟨2, _⟩ => exact Fin.ext (show 0 + 1 * c.val = c.val by omega)

theorem idx_row {d : Nat} (i : (⟨2, ![1, d]⟩ : Shape).Idx) : ∃ c : Fin d, i = ix2 0 c :=
  ⟨i 1, funext fun a => by
    match a with
    | ⟨0, _⟩ => exact Fin.ext (show (i 0).val = 0 by have := ValueIdx.idx2_lt0 i; omega)
    | ⟨1, _⟩ => rfl⟩

theorem part_read {m : Nat} (X : (⟨3, ![m, 1, 4 * 128]⟩ : Shape).Idx → Elt F .f32) (b : Fin 4) (v : FVec F S256x128 .f32) (hX : Holds X b v)
    (n : Nat) (hn : n < m) (inb) :
    part b (shapeCast S1x512 ((fun j => X ((Rect.unit (s := ⟨3, ![m, 1, 4 * 128]⟩) ![n, 0, 0] S1x1x512.size inb).emb j)) : Vec F S1x1x512 .f32) shapeCasts_S1x1x512_S1x512)
      = rowOf v n := by
  funext i
  obtain ⟨c, rfl⟩ := idx_row i
  exact (extractStridedSlice_apply _ _ _ _ (ix2 0 (col b c)) (by
    intro a; match a with | ⟨0, _⟩ => rfl | ⟨1, _⟩ => rfl)).trans ((rowRead X n hn inb _ (col b c)).trans (hX ⟨n, hn⟩ c))

theorem partP_read {m : Nat} (X : (⟨3, ![m, 1, 4 * 256]⟩ : Shape).Idx → Elt F .f32) (b : Fin 4) (v : FVec F S256x256 .f32) (hX : Holds X b v)
    (n : Nat) (hn : n < m) (inb) :
    partP b (shapeCast S1x1024 ((fun j => X ((Rect.unit (s := ⟨3, ![m, 1, 4 * 256]⟩) ![n, 0, 0] S1x1x1024.size inb).emb j)) : Vec F S1x1x1024 .f32) shapeCasts_S1x1x1024_S1x1024)
      = rowOf v n := by
  funext i
  obtain ⟨c, rfl⟩ := idx_row i
  exact (extractStridedSlice_apply _ _ _ _ (ix2 0 (col b c)) (by
    intro a; match a with | ⟨0, _⟩ => rfl | ⟨1, _⟩ => rfl)).trans ((rowRead X n hn inb _ (col b c)).trans (hX ⟨n, hn⟩ c))

/-- One entry of a batch's part. -/
theorem entry_read {m : Nat} (X : (⟨3, ![m, 1, 4 * 128]⟩ : Shape).Idx → Elt F .f32) (b : Fin 4) (v : FVec F S256x128 .f32) (hX : Holds X b v)
    (n : Nat) (hn : n < m) (inb) (o : Nat) (l : Fin 128) (hl : o = 128 * b.val + l.val) (hs : S1x512.Slices ![0, o] S1x1) :
    extractStridedSlice S1x1 ![0, o] (shapeCast S1x512 ((fun j => X ((Rect.unit (s := ⟨3, ![m, 1, 4 * 128]⟩) ![n, 0, 0] S1x1x512.size inb).emb j)) : Vec F S1x1x512 .f32) shapeCasts_S1x1x512_S1x512) hs
      = fun _ => rowOf v n (ix2 0 l) := by
  funext i
  subst hl
  exact (extractStridedSlice_apply _ _ _ _ (ix2 0 (col b l)) (by
    intro a
    match a with
    | ⟨0, _⟩ => show 0 = 0 + (i 0).val; have := ValueIdx.idx2_lt0 i; omega
    | ⟨1, _⟩ => show 128 * b.val + l.val = 128 * b.val + l.val + (i 1).val; have := ValueIdx.idx2_lt1 i; omega)).trans
    ((rowRead X n hn inb _ (col b l)).trans (hX ⟨n, hn⟩ l))

/-! ## The inputs -/

theorem r2_emb {m n : Nat} (i : (⟨2, ![m, n]⟩ : Shape).Idx) : (r2 m n).emb i = i := by
  funext a
  match a with
  | ⟨0, _⟩ => exact Fin.ext (show 0 + 1 * (i 0).val = (i 0).val by omega)
  | ⟨1, _⟩ => exact Fin.ext (show 0 + 1 * (i 1).val = (i 1).val by omega)

theorem shapeCast_r2 {m n : Nat} {α : Type} (v : (r2 m n).shape.Idx → α) (h : (r2 m n).shape.ShapeCasts ⟨2, ![m, n]⟩) :
    shapeCast ⟨2, ![m, n]⟩ v h = v :=
  shapeCast_self (s := ⟨2, ![m, n]⟩) v h

/-- The original weights, as the buffers hold them. -/
def wts (S : St F) : Wts F := ⟨S .w1a, S .b1a, S .w2a, S .b2a, S .w1b, S .b1b, S .w2b, S .b2b⟩

/-- The initial momenta, and the weights before the first step. -/
def bat₀ (S : St F) : Bat F :=
  ⟨⟨S .iw1a, S .ib1a, S .iw2a, S .ib2a, S .iw1b, S .ib1b, S .iw2b, S .ib2b⟩, S .w1b, S .w2a, S .w2b⟩

/-- Batch `b`'s tokens. -/
def xOf (S : St F) (b : Fin 4) : FVec F S256x128 .f32 :=
  shapeCast S256x128 ((fun j => S .x ((rX b).emb j)) : Vec F S1x256x128 .f32) shapeCasts_S1x256x128_S256x128
/-- Their four projections. -/
def pOf (S : St F) (b : Fin 4) : FVec F S256x512 .f32 := proj (xOf S b) (S .wbig) (S .bbig)
def qOf (S : St F) (b : Fin 4) : FVec F S256x128 .f32 := unit (extractStridedSlice S256x128 ![0, 0] (pOf S b) slices_S256x512_o0_0_S256x128)
def kOf (S : St F) (b : Fin 4) : FVec F S256x128 .f32 := unit (extractStridedSlice S256x128 ![0, 128] (pOf S b) slices_S256x512_o0_128_S256x128)
def vOf (S : St F) (b : Fin 4) : FVec F S256x128 .f32 := act (extractStridedSlice S256x128 ![0, 256] (pOf S b) slices_S256x512_o0_256_S256x128)
def gOf (S : St F) (b : Fin 4) : FVec F S256x128 .f32 := logistic (extractStridedSlice S256x128 ![0, 384] (pOf S b) slices_S256x512_o0_384_S256x128)

/-- What step `n` reads of batch `b`. -/
def tokOf (S : St F) (b : Fin 4) (n : Fin 256) : Tok F where
  k0 := rowOf (kOf S b) n.val
  v := rowOf (vOf S b) n.val
  q := rowOf (qOf S b) n.val
  k1 := rowOf (kOf S b) (n.val + 1)
  pq := rowOf (prj (qOf S b) (S .w1a)) n.val
  pk := rowOf (prj (kOf S b) (S .w1a)) (n.val + 1)
  th := mulf (fun _ => rowOf (gOf S b) n.val (ix2 0 0)) (broadcast S1x1 (Scalar.ofBits .f32 0x3C23D70A#32))
  oma := subf (ones S1x1) (fun _ => rowOf (gOf S b) n.val (ix2 0 1))
  et := fun _ => rowOf (gOf S b) n.val (ix2 0 2)

/-- The buffers the set-up only reads. -/
def Fld.given : Fld → Bool
  | .x | .wbig | .bbig | .w1a | .b1a | .w2a | .b2a | .w1b | .b1b | .w2b | .b2b
  | .iw1a | .ib1a | .iw2a | .ib2a | .iw1b | .ib1b | .iw2b | .ib2b => true
  | _ => false

/-- The set-up of batch `b`, from `S₀`, is in the buffers. -/
structure Ready (S₀ S : St F) (b : Fin 4) : Prop where
  q : Holds (m := 256) (w := 128) (S .qr) b (qOf S₀ b)
  k : Holds (m := 257) (w := 128) (S .kr) b (kOf S₀ b)
  v : Holds (m := 256) (w := 128) (S .vr) b (vOf S₀ b)
  g : Holds (m := 256) (w := 128) (S .gr) b (gOf S₀ b)
  pq : Holds (m := 256) (w := 256) (S .pq) b (prj (qOf S₀ b) (S₀ .w1a))
  pk : Holds (m := 257) (w := 256) (S .pk) b (prj (kOf S₀ b) (S₀ .w1a))
  bat : batch S b = bat₀ S₀

theorem Ready.tok {S₀ S : St F} {b : Fin 4} (h : Ready S₀ S b) (n : Fin 256) : (rowsAt S n).tok b = tokOf S₀ b n := by
  have hn := n.isLt
  unfold Rows.tok tokOf rowsAt thOf omaOf etOf
  congr 1
  · exact part_read _ b _ h.k n.val (by omega) _
  · exact part_read _ b _ h.v n.val hn _
  · exact part_read _ b _ h.q n.val hn _
  · exact part_read _ b _ h.k (n.val + 1) (by omega) _
  · exact partP_read _ b _ h.pq n.val hn _
  · exact partP_read _ b _ h.pk (n.val + 1) (by omega) _
  · exact congrArg (fun x => mulf x _) (entry_read _ b _ h.g n.val hn _ _ 0 (by simp) _)
  · exact congrArg (fun x => subf _ x) (entry_read _ b _ h.g n.val hn _ _ 1 (by simp) _)
  · exact entry_read _ b _ h.g n.val hn _ _ 2 (by simp) _

theorem Ready.congr {S₀ S₁ S : St F} {b : Fin 4} (h : Ready S₀ S b) (e : ∀ f : Fld, f.given = true → S₀ f = S₁ f) : Ready S₁ S b := by
  have hx : xOf S₀ b = xOf S₁ b := by unfold xOf; rw [e .x rfl]
  have hp : pOf S₀ b = pOf S₁ b := by unfold pOf; rw [hx, e .wbig rfl, e .bbig rfl]
  have hq : qOf S₀ b = qOf S₁ b := by unfold qOf; rw [hp]
  have hk : kOf S₀ b = kOf S₁ b := by unfold kOf; rw [hp]
  have hv : vOf S₀ b = vOf S₁ b := by unfold vOf; rw [hp]
  have hg : gOf S₀ b = gOf S₁ b := by unfold gOf; rw [hp]
  have hw : S₀ .w1a = S₁ .w1a := e .w1a rfl
  have hb : bat₀ S₀ = bat₀ S₁ := by
    unfold bat₀
    rw [e .iw1a rfl, e .ib1a rfl, e .iw2a rfl, e .ib2a rfl, e .iw1b rfl, e .ib1b rfl, e .iw2b rfl, e .ib2b rfl, e .w1b rfl, e .w2a rfl, e .w2b rfl]
  exact ⟨hq ▸ h.q, hk ▸ h.k, hv ▸ h.v, hg ▸ h.g, hw ▸ hq ▸ h.pq, hw ▸ hk ▸ h.pk, h.bat.trans hb⟩

section
variable (S : St F) (b : Fin 4)

theorem setup_given (w : Vec F S128x256 .f32) (f : Fld) (hf : f.given = true) : (run (setup w b) S).2 f = S f := by
  simp only [setup, copies, run_bind, run_ld, run_st, run_ret, run_pure]
  have h (g : Fld) (hg : g.given = false) : f ≠ g := fun e => by rw [e, hg] at hf; exact absurd hf (by decide)
  simp only [ne_eq, h .qr rfl, h .kr rfl, h .vr rfl, h .gr rfl, h .pq rfl, h .pk rfl, h .pw1b rfl, h .pb1b rfl, h .pw2 rfl, h .pb2 rfl,
    h .mw1 rfl, h .mb1 rfl, h .mw2 rfl, h .mb2 rfl, not_false_eq_true, Function.update_of_ne]

theorem setup_ready : Ready S (run (setup (S .w1a) b) S).2 b := by
  constructor <;> simp only [setup, copies, run_bind, run_ld, run_st, run_ret, run_pure] <;>
    simp only [ne_eq, reduceCtorEq, not_false_eq_true, Function.update_of_ne, Function.update_self, shapeCast_r2, r2_emb]
  · exact holds_put b _ _ _ _ fun t l => row3_apply (qOf S b) t l
  · exact holds_put_zero b _ _ _ _ _ _ (fun t l => row3_apply (kOf S b) t l) fun t l => congrFun (shapeCast_self (s := S1x1x128) _ _) _
  · exact holds_put b _ _ _ _ fun t l => row3_apply (vOf S b) t l
  · exact holds_put b _ _ _ _ fun t l => row3_apply (gOf S b) t l
  · exact holds_put b _ _ _ _ fun t l => row3P_apply (prj (qOf S b) (S .w1a)) t l
  · exact holds_put_zero b _ _ _ _ _ _ (fun t l => row3P_apply (prj (kOf S b) (S .w1a)) t l) fun t l => congrFun (shapeCast_self (s := S1x1x256) _ _) _
  · simp (disch := simp) only [batch, ne_eq, reduceCtorEq, not_false_eq_true, Function.update_of_ne, Function.update_self, put_emb,
      put_rW1, put_rB1, put_rW2, put_rB2]
    simp only [shapeCast_shapeCast, shapeCast_r2, r2_emb]
    rfl

theorem setup_ready_ne {S₀ : St F} (w : Vec F S128x256 .f32) (b' : Fin 4) (hb : b ≠ b') (h : Ready S₀ S b') : Ready S₀ (run (setup w b) S).2 b' := by
  constructor <;> simp only [setup, copies, run_bind, run_ld, run_st, run_ret, run_pure] <;>
    simp only [ne_eq, reduceCtorEq, not_false_eq_true, Function.update_of_ne, Function.update_self]
  · exact h.q.put_ne _ _ _ _ hb
  · exact (h.k.put_ne _ _ _ _ hb).put_ne _ _ _ _ hb
  · exact h.v.put_ne _ _ _ _ hb
  · exact h.g.put_ne _ _ _ _ hb
  · exact h.pq.put_ne _ _ _ _ hb
  · exact (h.pk.put_ne _ _ _ _ hb).put_ne _ _ _ _ hb
  · rw [← h.bat]
    simp only [batch, ne_eq, reduceCtorEq, not_false_eq_true, Function.update_of_ne, Function.update_self,
      put_rW1 (Or.inl hb), put_rB1 (Or.inl hb), put_rW2 (Or.inl hb), put_rB2 (Or.inl hb), put_rV1 hb]

end

/-! ## The whole kernel -/

theorem run_loadW (S : St F) : run loadW S = (wts S, S) := by
  simp only [loadW, run_bind, run_ld, run_ret, run_pure, r2_emb, shapeCast_r2]
  rfl

theorem run_first (w : Wts F) (S₀ S : St F) (h : ∀ b, Ready S₀ S b) :
    (run (first w) S).2 = S ∧ ∀ b, (run (first w) S).1.get b = fwd1 w (rowOf (kOf S₀ b) 0) := by
  simp only [first, run_bind, run_ld, run_ret, run_pure]
  refine ⟨trivial, fun b => ?_⟩
  have e := part_read _ b _ (h b).k 0 (by omega) inb_S257x1x512_S1x1x512_0_0_0
  rw [← e]
  match b with
  | 0 => rfl
  | 1 => rfl
  | 2 => rfl
  | 3 => rfl

theorem run_before (S : St F) :
    (run before S).1.1 = wts S ∧ (∀ b, Ready S (run before S).2 b) ∧ (∀ f : Fld, f.given = true → (run before S).2 f = S f)
      ∧ ∀ b, (run before S).1.2.get b = fwd1 (wts S) (rowOf (kOf S b) 0) := by
  simp only [before, run_bind, run_pure]
  rw [run_loadW]
  dsimp only
  have g (T : St F) (b : Fin 4) (f : Fld) (hf : f.given = true) := setup_given T b (wts S).w1a f hf
  generalize e0 : (run (setup (wts S).w1a 0) S).2 = S0
  generalize e1 : (run (setup (wts S).w1a 1) S0).2 = S1
  generalize e2 : (run (setup (wts S).w1a 2) S1).2 = S2
  generalize e3 : (run (setup (wts S).w1a 3) S2).2 = S3
  have g0 (f : Fld) (hf : f.given = true) : S0 f = S f := e0 ▸ g S 0 f hf
  have g1 (f : Fld) (hf : f.given = true) : S1 f = S f := (e1 ▸ g S0 1 f hf : S1 f = S0 f).trans (g0 f hf)
  have g2 (f : Fld) (hf : f.given = true) : S2 f = S f := (e2 ▸ g S1 2 f hf : S2 f = S1 f).trans (g1 f hf)
  have g3 (f : Fld) (hf : f.given = true) : S3 f = S f := (e3 ▸ g S2 3 f hf : S3 f = S2 f).trans (g2 f hf)
  have r0 : Ready S S0 0 := e0 ▸ setup_ready S 0
  have r1 : Ready S S1 1 := by
    have h := setup_ready S0 1
    rw [g0 .w1a rfl] at h
    exact e1 ▸ h.congr g0
  have r2 : Ready S S2 2 := by
    have h := setup_ready S1 2
    rw [g1 .w1a rfl] at h
    exact e2 ▸ h.congr g1
  have r3 : Ready S S3 3 := by
    have h := setup_ready S2 3
    rw [g2 .w1a rfl] at h
    exact e3 ▸ h.congr g2
  have r (b : Fin 4) : Ready S S3 b := by
    match b with
    | 0 =>
      rw [← e3]; refine setup_ready_ne _ 3 _ 0 (by decide) ?_
      rw [← e2]; refine setup_ready_ne _ 2 _ 0 (by decide) ?_
      rw [← e1]; exact setup_ready_ne _ 1 _ 0 (by decide) r0
    | 1 =>
      rw [← e3]; refine setup_ready_ne _ 3 _ 1 (by decide) ?_
      rw [← e2]; exact setup_ready_ne _ 2 _ 1 (by decide) r1
    | 2 => rw [← e3]; exact setup_ready_ne _ 3 _ 2 (by decide) r2
    | 3 => exact r3
  have f := run_first (wts S) S S3 r
  exact ⟨rfl, fun b => f.1.symm ▸ r b, fun x hx => by rw [f.1]; exact g3 x hx, f.2⟩

/-- Row `n` of batch `b`'s result. -/
def result (S : St F) (b : Fin 4) (n : Fin 256) : FVec F S1x128 .f32 :=
  outAt (wts S) (tokOf S b) ⟨bat₀ S, fwd1 (wts S) (rowOf (kOf S b) 0)⟩ n

/-- The result, as the kernel lays it out. -/
def resultAll (S : St F) : FVec F S256x1x512 .f32 := fun i =>
  result S ⟨(i 2).val / 128, by have : (i 2).val < 512 := (i 2).isLt; omega⟩ (i 0) (ix2 0 ⟨(i 2).val % 128, Nat.mod_lt _ (by decide)⟩)

theorem whole_given (S : St F) (f : Fld) (hf : f.given = true) : (run whole S).2 f = S f := by
  have hk : f.kept = true := by revert hf; cases f <;> decide
  have hb := run_before S
  simp only [whole, run_bind, run_pure]
  exact ((run_loop _ _ _).kept f hk).trans (hb.2.2.1 f hf)

theorem whole_out (S : St F) : (run whole S).2 .out = resultAll S := by
  have hb := run_before S
  simp only [whole, run_bind, run_pure]
  funext i
  have h2 : (i 2).val < 512 := (i 2).isLt
  have h := (run_loop (run before S).1.1 (run before S).2 (run before S).1.2).out ⟨(i 2).val / 128, by omega⟩ (i 0) (i 0).isLt
    (ix3 0 0 ⟨(i 2).val % 128, Nat.mod_lt _ (by decide)⟩)
  rw [hb.1, hb.2.2.2, (hb.2.1 _).bat, funext fun s => (hb.2.1 ⟨(i 2).val / 128, by omega⟩).tok s] at h
  rw [shapeCast_apply _ _ _ (ix2 0 ⟨(i 2).val % 128, Nat.mod_lt _ (by decide)⟩) (by simp only [Shape.rowMajor_val_three, Shape.rowMajor_val_two]; simp)] at h
  rw [hb.1]
  refine Eq.trans (congrArg _ (funext fun a => ?_)) h
  match a with
  | ⟨0, _⟩ => exact Fin.ext (show (i 0).val = (i 0).val + 1 * 0 by omega)
  | ⟨1, _⟩ => exact Fin.ext (show (i 1).val = 0 + 1 * 0 by have : (i 1).val < 1 := (i 1).isLt; omega)
  | ⟨2, _⟩ => exact Fin.ext (show (i 2).val = 128 * ((i 2).val / 128) + 1 * ((i 2).val % 128) by omega)

end Cert.Proof
-- ==== Proof.Own.lean ====
/-
  The kernel's buffers, one by one.
-/
module

public import proofs.«01_k».proof.Proof.Setup
public import Idealize.ShloMosaic.Lib.Tactic

@[expose] public section

noncomputable section

namespace Cert.Proof

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Proof.Mem

variable {F : FTy → Type} [FloatOps F]

/-- The contents of the given buffers, the others at zero. -/
def onlyGiven (S : St F) : St F := fun f => bif f.given then S f else constant (sh f) .f32 0x00000000#32

theorem onlyGiven_congr {S S' : St F} (e : ∀ f : Fld, f.given = true → S f = S' f) : onlyGiven S = onlyGiven S' := by
  funext f
  unfold onlyGiven
  cases h : f.given
  · rfl
  · exact e f h

/-- The result is a function of the given buffers. -/
theorem resultAll_onlyGiven (S : St F) : resultAll (onlyGiven S) = resultAll S := rfl

theorem resultAll_congr {S S' : St F} (e : ∀ f : Fld, f.given = true → S f = S' f) : resultAll S = resultAll S' := by
  rw [← resultAll_onlyGiven S, onlyGiven_congr e, resultAll_onlyGiven]

section
variable {nD : Nat} {τ : Topo} {sig : RefSig}

/-- The buffers all owned, listed. -/
theorem ownsAll_eq {U : Type} [URA U] (c : Dev nD) (mr : (f : Fld) → Memref sig .tc .vmem (sh f) .f32) (S : St F) :
    (ownsAll c mr S : sProp (MT nD τ sig Unit (Elt F) ℕ U ℕ))
      = iprop(owns (c : Thread nD τ) (mr .x) fullShare (S .x) ∗ owns (c : Thread nD τ) (mr .wbig) fullShare (S .wbig) ∗ owns (c : Thread nD τ) (mr .bbig) fullShare (S .bbig) ∗ owns (c : Thread nD τ) (mr .w1a) fullShare (S .w1a) ∗ owns (c : Thread nD τ) (mr .b1a) fullShare (S .b1a) ∗ owns (c : Thread nD τ) (mr .w2a) fullShare (S .w2a) ∗ owns (c : Thread nD τ) (mr .b2a) fullShare (S .b2a) ∗ owns (c : Thread nD τ) (mr .w1b) fullShare (S .w1b) ∗ owns (c : Thread nD τ) (mr .b1b) fullShare (S .b1b) ∗ owns (c : Thread nD τ) (mr .w2b) fullShare (S .w2b) ∗ owns (c : Thread nD τ) (mr .b2b) fullShare (S .b2b) ∗ owns (c : Thread nD τ) (mr .iw1a) fullShare (S .iw1a) ∗ owns (c : Thread nD τ) (mr .ib1a) fullShare (S .ib1a) ∗ owns (c : Thread nD τ) (mr .iw2a) fullShare (S .iw2a) ∗ owns (c : Thread nD τ) (mr .ib2a) fullShare (S .ib2a) ∗ owns (c : Thread nD τ) (mr .iw1b) fullShare (S .iw1b) ∗ owns (c : Thread nD τ) (mr .ib1b) fullShare (S .ib1b) ∗ owns (c : Thread nD τ) (mr .iw2b) fullShare (S .iw2b) ∗ owns (c : Thread nD τ) (mr .ib2b) fullShare (S .ib2b) ∗ owns (c : Thread nD τ) (mr .out) fullShare (S .out) ∗ owns (c : Thread nD τ) (mr .kr) fullShare (S .kr) ∗ owns (c : Thread nD τ) (mr .vr) fullShare (S .vr) ∗ owns (c : Thread nD τ) (mr .qr) fullShare (S .qr) ∗ owns (c : Thread nD τ) (mr .gr) fullShare (S .gr) ∗ owns (c : Thread nD τ) (mr .pq) fullShare (S .pq) ∗ owns (c : Thread nD τ) (mr .pk) fullShare (S .pk) ∗ owns (c : Thread nD τ) (mr .pw1b) fullShare (S .pw1b) ∗ owns (c : Thread nD τ) (mr .pb1b) fullShare (S .pb1b) ∗ owns (c : Thread nD τ) (mr .pw2) fullShare (S .pw2) ∗ owns (c : Thread nD τ) (mr .pb2) fullShare (S .pb2) ∗ owns (c : Thread nD τ) (mr .mw1) fullShare (S .mw1) ∗ owns (c : Thread nD τ) (mr .mb1) fullShare (S .mb1) ∗ owns (c : Thread nD τ) (mr .mw2) fullShare (S .mw2) ∗ owns (c : Thread nD τ) (mr .mb2) fullShare (S .mb2)) :=
  bigSep_univ_eq_bigSepL Fld.all (by decide) (by decide) _

end

end Cert.Proof
-- ==== Proof.Sim.lean ====
/-
  Following a machine program along a program over buffers.

  `Sim mr p L Q` says that the machine's program `L` makes the memory operations of `p`, in order, at the memrefs `mr`,
  and that where `p` returns `a` the rest `L'` of `L` satisfies `Q a L'`.
-/
module

public import proofs.«01_k».proof.Proof.Mem

@[expose] public section

noncomputable section

namespace Cert.Proof.Mem

open Idealize.ShloMosaic Idealize.SL.Sem

/-- Two programs are equal if their first operations are and the rests are at every response. -/
theorem op_congr {E : Type → Type} {α β : Type} {e e' : E β} {k k' : β → Prog E α} (he : e = e') (hk : ∀ x, k x = k' x) :
    Prog.op e k = Prog.op e' k' := by rw [he, funext hk]

/-- Two programs that begin with the same loop are equal if its parts and the rests are. -/
theorem for_congr {E : Type → Type} {σ β : Type} {w : Nat} {l : Scf.Loop w} {ok : l.OK} {a a' : σ} {f f' : Fin l.trips → σ → Prog E σ}
    {k k' : σ → Prog E β} (ha : a = a') (hf : ∀ i x, f i x = f' i x) (hk : ∀ x, k x = k' x) :
    (Scf.Loop.for l ok a f >>= k) = (Scf.Loop.for l ok a' f' >>= k') := by
  rw [ha, funext fun i => funext (hf i), funext hk]

variable {nD : Nat} {τ : Topo} {sig : RefSig} {Val : EltTy → Type} {Λ : Labels}
variable {ι : Type} {sh : ι → Shape} {α β γ : Type}

/-- The machine's operation. -/
def interpEff (mr : (f : ι) → Memref sig .tc .vmem (sh f) .f32) (e : MemEff ι sh (Val .f32) β) : TpuEff nD τ sig Val Λ .tc β :=
  MemEff.rec (motive := fun β _ => TpuEff nD τ sig Val Λ .tc β)
    (fun f r h => .load (mr f) r.toLoadRect (View.loadsAt_vmem h))
    (fun f r h w => .store (mr f) r w Finset.univ (View.stores_vmem_bits_univ h rfl) (.inl rfl)) e

/-- `L` makes `p`'s operations, and where `p` returns `a` the rest `L'` of it satisfies `Q a L'`. -/
def Sim (mr : (f : ι) → Memref sig .tc .vmem (sh f) .f32) (p : Prog (MemEff ι sh (Val .f32)) α) :
    Prog (TpuEff nD τ sig Val Λ .tc) γ → (α → Prog (TpuEff nD τ sig Val Λ .tc) γ → Prop) → Prop :=
  Prog.rec (motive := fun _ => Prog (TpuEff nD τ sig Val Λ .tc) γ → (α → Prog (TpuEff nD τ sig Val Λ .tc) γ → Prop) → Prop)
    (fun a L Q => Q a L)
    (fun e _ ih L Q => ∃ K, L = .op (interpEff mr e) K ∧ ∀ x, ih x (K x) Q) p

variable (mr : (f : ι) → Memref sig .tc .vmem (sh f) .f32)

/-- At an operation. -/
theorem sim_op {e : MemEff ι sh (Val .f32) β} {e' : TpuEff nD τ sig Val Λ .tc β} {k : β → Prog (MemEff ι sh (Val .f32)) α}
    {K : β → Prog (TpuEff nD τ sig Val Λ .tc) γ} {Q : α → Prog (TpuEff nD τ sig Val Λ .tc) γ → Prop}
    (he : e' = interpEff mr e) (hk : ∀ x, Sim mr (k x) (K x) Q) : Sim mr (.op e k) (.op e' K) Q :=
  ⟨K, by rw [he], hk⟩

/-- At a return: the returned value by a name of its own. -/
theorem sim_ret {a : α} {L : Prog (TpuEff nD τ sig Val Λ .tc) γ} {Q : α → Prog (TpuEff nD τ sig Val Λ .tc) γ → Prop}
    (h : ∀ y, y = a → Q y L) : Sim mr (.ret a) L Q := h a rfl

/-- At a return: the returned value itself. -/
theorem sim_ret' {a : α} {L : Prog (TpuEff nD τ sig Val Λ .tc) γ} {Q : α → Prog (TpuEff nD τ sig Val Λ .tc) γ → Prop}
    (h : Q a L) : Sim mr (.ret a) L Q := h

/-- The machine's program by its first operation. -/
theorem sim_next {p : Prog (MemEff ι sh (Val .f32)) α} {e : TpuEff nD τ sig Val Λ .tc β}
    {K : β → Prog (TpuEff nD τ sig Val Λ .tc) γ} {Q : α → Prog (TpuEff nD τ sig Val Λ .tc) γ → Prop}
    (h : Sim mr p (.op e K) Q) : Sim mr p (.op e K) Q := h

/-- The machine's program by the value it returns. -/
theorem sim_fin {p : Prog (MemEff ι sh (Val .f32)) α} {b : γ} {Q : α → Prog (TpuEff nD τ sig Val Λ .tc) γ → Prop}
    (h : Sim mr p (.ret b) Q) : Sim mr p (.ret b) Q := h

/-- A sequence is simulated by its parts in turn. -/
theorem sim_bind {p : Prog (MemEff ι sh (Val .f32)) α} {f : α → Prog (MemEff ι sh (Val .f32)) β}
    {L : Prog (TpuEff nD τ sig Val Λ .tc) γ} {Q : β → Prog (TpuEff nD τ sig Val Λ .tc) γ → Prop}
    (h : Sim mr p L fun a L' => Sim mr (f a) L' Q) : Sim mr (p >>= f) L Q := by
  induction p generalizing L with
  | ret a => exact h
  | op e k ih =>
    obtain ⟨K, hL, hK⟩ := h
    exact ⟨K, hL, fun x => ih x (hK x)⟩

/-- A program that makes `p`'s operations and returns what `p` returns is `p` on the machine. -/
theorem sim_eq {p : Prog (MemEff ι sh (Val .f32)) α} {L : Prog (TpuEff nD τ sig Val Λ .tc) α}
    (h : Sim mr p L fun a L' => L' = .ret a) : L = interp mr p := by
  induction p generalizing L with
  | ret a => exact h
  | op e k ih =>
    obtain ⟨K, hL, hK⟩ := h
    subst hL
    cases e with
    | ld f r h => exact congrArg (Prog.op _) (funext fun x => ih x (hK x))
    | st f r h w => exact congrArg (Prog.op _) (funext fun x => ih x (hK x))

end Cert.Proof.Mem
-- ==== Proof.KEq.lean ====
/-
  The kernel is the program over its buffers.
-/
module

public import proofs.«01_k».proof.Proof.Prog
public import proofs.«01_k».proof.Proof.Sim
public import proofs.«01_k».proof.Proof.Gen.KernelIdeal

@[expose] public section

noncomputable section

namespace Cert.Proof

open Cert.KernelIdeal Cert.KernelIdeal.Gen
open Idealize.ShloMosaic Idealize.SL.Sem
open Cert.Proof.Mem

variable {F : FTy → Type} [FloatOps F]

attribute [local irreducible] addf subf mulf divf maximumf shapeCast extractStridedSlice broadcastTo broadcast concatenate multiReduction constant Idealize.ShloMosaic.logistic

variable (i : grid0.Coords) (mr : (f : Fld) → Memref sig .tc .vmem (sh f) .f32) (hm : ∀ f, (mr f).IsWhole)

set_option maxRecDepth 65536 in
set_option maxHeartbeats 0 in
/-- The kernel's loop body, of the weights, the trip and the carried values: the kernel is what comes before the loop,
    then the loop. -/
def loopBody : { B : Vec F S128x256 .f32 → FVec F S1x256 .f32 → Vec F S256x128 .f32 → FVec F S1x128 .f32 →
      Vec F S128x256 .f32 → FVec F S1x256 .f32 → Vec F S256x128 .f32 → FVec F S1x128 .f32 → Fin k0_t1_loop.trips → Tup F →
      Prog (TpuEff nD τ sig (Elt F) Λ₀ .tc) (Tup F) //
    cc0__mem_kernel (F := F) i (mr .x) (hm .x) (mr .wbig) (hm .wbig) (mr .bbig) (hm .bbig) (mr .w1a) (hm .w1a) (mr .b1a) (hm .b1a) (mr .w2a) (hm .w2a) (mr .b2a) (hm .b2a) (mr .w1b) (hm .w1b) (mr .b1b) (hm .b1b) (mr .w2b) (hm .w2b) (mr .b2b) (hm .b2b) (mr .iw1a) (hm .iw1a) (mr .ib1a) (hm .ib1a) (mr .iw2a) (hm .iw2a) (mr .ib2a) (hm .ib2a) (mr .iw1b) (hm .iw1b) (mr .ib1b) (hm .ib1b) (mr .iw2b) (hm .iw2b) (mr .ib2b) (hm .ib2b) (mr .out) (hm .out) (mr .kr) (hm .kr) (mr .vr) (hm .vr) (mr .qr) (hm .qr) (mr .gr) (hm .gr) (mr .pq) (hm .pq) (mr .pk) (hm .pk) (mr .pw1b) (hm .pw1b) (mr .pb1b) (hm .pb1b) (mr .pw2) (hm .pw2) (mr .pb2) (hm .pb2) (mr .mw1) (hm .mw1) (mr .mb1) (hm .mb1) (mr .mw2) (hm .mw2) (mr .mb2) (hm .mb2)
      = (interp mr before >>= fun wc => Scf.Loop.for k0_t1_loop k0_t1_ok (pack wc.2) (fun k t =>
          B wc.1.w1a wc.1.b1a wc.1.w2a wc.1.b2a wc.1.w1b wc.1.b1b wc.1.w2b wc.1.b2b k t) >>= fun _ => .ret ⟨⟩) } := by
  refine ⟨?B, ?_⟩
  rotate_left
  refine op_congr (by with_unfolding_all rfl) fun v0 => ?_
  refine op_congr (by with_unfolding_all rfl) fun v1 => ?_
  refine op_congr (by with_unfolding_all rfl) fun v2 => ?_
  refine op_congr (by with_unfolding_all rfl) fun v3 => ?_
  refine op_congr (by with_unfolding_all rfl) fun v4 => ?_
  refine op_congr (by with_unfolding_all rfl) fun v5 => ?_
  refine op_congr (by with_unfolding_all rfl) fun v6 => ?_
  refine op_congr (by with_unfolding_all rfl) fun v7 => ?_
  repeat (refine op_congr (by with_unfolding_all rfl) fun _ => ?_)
  refine for_congr (by with_unfolding_all rfl) (fun k t => ?_) (fun x => by with_unfolding_all rfl)
  generalize hb1 : shapeCast S1x256 (v1 : Vec F S1x256 .f32) shapeCasts_S1x256_S1x256 = b1
  generalize hb3 : shapeCast S1x128 (v3 : Vec F S1x128 .f32) shapeCasts_S1x128_S1x128 = b3
  generalize hb5 : shapeCast S1x256 (v5 : Vec F S1x256 .f32) shapeCasts_S1x256_S1x256 = b5
  generalize hb7 : shapeCast S1x128 (v7 : Vec F S1x128 .f32) shapeCasts_S1x128_S1x128 = b7
  change _ = ?B v0 b1 v2 b3 v4 b5 v6 b7 k t
  rfl

set_option maxRecDepth 65536 in
set_option maxHeartbeats 0 in
/-- The loop body makes the first half's operations and goes on with the second's. -/
def bodyHalf : { L : Wts F → Fin k0_t1_loop.trips → Car F → Car F → Car F → Car F → Prog (TpuEff nD τ sig (Elt F) Λ₀ .tc) (Tup F) //
    ∀ w k c0 c1 c2 c3, (∀ d0 d1 d2 d3, Sim mr (half2 w k ⟨d0, d1, d2, d3⟩) (L w k d0 d1 d2 d3) fun a L' => L' = .ret a) →
      Sim mr (half1 w k ⟨c0, c1, c2, c3⟩)
        ((loopBody i mr hm).1 w.w1a w.b1a w.w2a w.b2a w.w1b w.b1b w.w2b w.b2b k (pack ⟨c0, c1, c2, c3⟩)) fun a L' => L' = .ret a } := by
  refine ⟨?L, fun w k c0 c1 c2 c3 h => ?_⟩
  rotate_left
  unfold half1
  iterate 4 (
    refine sim_bind mr (sim_bind mr ?_)
    iterate 7 (refine sim_op mr (by rfl) fun _ => ?_)
    refine sim_ret' mr ?_
    iterate 4 (
      refine sim_bind mr ?_
      iterate 41 (refine sim_op mr (by rfl) fun _ => ?_)
      refine sim_ret mr fun y hy => ?_
      first
        | refine sim_next mr ?_
        | refine sim_fin mr ?_
      generalize h0 : (extractStridedSlice S1x256 ![1, 0] (mulf (subf _ _) _ : FVec F S2x256 .f32) slices_S2x256_o1_0_S1x256) = x0,
        h1 : (extractStridedSlice S1x256 ![1, 0] (mulf (Idealize.ShloMosaic.logistic (subf _ _)) _ : FVec F S2x256 .f32) slices_S2x256_o1_0_S1x256) = x1,
        h2 : (extractStridedSlice S1x128 ![1, 0] (addf (addf (concatenate _ _ _ _) _) _ : FVec F S2x128 .f32) slices_S2x128_o1_0_S1x128) = x2,
        h3 : (extractStridedSlice S1x256 ![1, 0] (mulf (addf _ _) _ : FVec F S2x256 .f32) slices_S2x256_o1_0_S1x256) = x3,
        h4 : (extractStridedSlice S1x256 ![1, 0] (mulf (Idealize.ShloMosaic.logistic (addf _ _)) _ : FVec F S2x256 .f32) slices_S2x256_o1_0_S1x256) = x4,
        h5 : (extractStridedSlice S1x128 ![1, 0] (addf (addf (addf _ _) _) _ : FVec F S2x128 .f32) slices_S2x128_o1_0_S1x128) = x5
      have e : y = ⟨x0, x1, x2, x3, x4, x5⟩ := by subst hy h0 h1 h2 h3 h4 h5; rfl
      have e0 : x0 = y.s1 := by rw [e]
      have e1 : x1 = y.d1 := by rw [e]
      have e2 : x2 = y.h1 := by rw [e]
      have e3 : x3 = y.s2 := by rw [e]
      have e4 : x4 = y.d2 := by rw [e]
      have e5 : x5 = y.h2 := by rw [e]
      clear hy h0 h1 h2 h3 h4 h5 e
      subst e0 e1 e2 e3 e4 e5)
    refine sim_ret' mr ?_)
  exact h _ _ _ _

set_option maxRecDepth 65536 in
set_option maxHeartbeats 0 in
/-- What the loop body goes on with makes the second half's operations. -/
theorem bodyHalf_sim (w : Wts F) (k : Fin k0_t1_loop.trips) (d0 d1 d2 d3 : Car F) :
    Sim mr (half2 w k ⟨d0, d1, d2, d3⟩) ((bodyHalf i mr hm).1 w k d0 d1 d2 d3) fun a L' => L' = .ret a := by
  unfold half2
  iterate 4 (
    refine sim_bind mr (sim_bind mr ?_)
    iterate 7 (refine sim_op mr (by rfl) fun _ => ?_)
    refine sim_ret' mr ?_
    iterate 4 (
      refine sim_bind mr ?_
      iterate 41 (refine sim_op mr (by rfl) fun _ => ?_)
      refine sim_ret mr fun y hy => ?_
      first
        | refine sim_next mr ?_
        | refine sim_fin mr ?_
      generalize h0 : (extractStridedSlice S1x256 ![1, 0] (mulf (subf _ _) _ : FVec F S2x256 .f32) slices_S2x256_o1_0_S1x256) = x0,
        h1 : (extractStridedSlice S1x256 ![1, 0] (mulf (Idealize.ShloMosaic.logistic (subf _ _)) _ : FVec F S2x256 .f32) slices_S2x256_o1_0_S1x256) = x1,
        h2 : (extractStridedSlice S1x128 ![1, 0] (addf (addf (concatenate _ _ _ _) _) _ : FVec F S2x128 .f32) slices_S2x128_o1_0_S1x128) = x2,
        h3 : (extractStridedSlice S1x256 ![1, 0] (mulf (addf _ _) _ : FVec F S2x256 .f32) slices_S2x256_o1_0_S1x256) = x3,
        h4 : (extractStridedSlice S1x256 ![1, 0] (mulf (Idealize.ShloMosaic.logistic (addf _ _)) _ : FVec F S2x256 .f32) slices_S2x256_o1_0_S1x256) = x4,
        h5 : (extractStridedSlice S1x128 ![1, 0] (addf (addf (addf _ _) _) _ : FVec F S2x128 .f32) slices_S2x128_o1_0_S1x128) = x5
      have e : y = ⟨x0, x1, x2, x3, x4, x5⟩ := by subst hy h0 h1 h2 h3 h4 h5; rfl
      have e0 : x0 = y.s1 := by rw [e]
      have e1 : x1 = y.d1 := by rw [e]
      have e2 : x2 = y.h1 := by rw [e]
      have e3 : x3 = y.s2 := by rw [e]
      have e4 : x4 = y.d2 := by rw [e]
      have e5 : x5 = y.h2 := by rw [e]
      clear hy h0 h1 h2 h3 h4 h5 e
      subst e0 e1 e2 e3 e4 e5)
    refine sim_ret' mr ?_)
  refine sim_ret' mr ?_
  rfl

/-- The kernel is the program over the buffers, at the memrefs. -/
theorem kernel_eq : cc0__mem_kernel (F := F) i (mr .x) (hm .x) (mr .wbig) (hm .wbig) (mr .bbig) (hm .bbig) (mr .w1a) (hm .w1a) (mr .b1a) (hm .b1a) (mr .w2a) (hm .w2a) (mr .b2a) (hm .b2a) (mr .w1b) (hm .w1b) (mr .b1b) (hm .b1b) (mr .w2b) (hm .w2b) (mr .b2b) (hm .b2b) (mr .iw1a) (hm .iw1a) (mr .ib1a) (hm .ib1a) (mr .iw2a) (hm .iw2a) (mr .ib2a) (hm .ib2a) (mr .iw1b) (hm .iw1b) (mr .ib1b) (hm .ib1b) (mr .iw2b) (hm .iw2b) (mr .ib2b) (hm .ib2b) (mr .out) (hm .out) (mr .kr) (hm .kr) (mr .vr) (hm .vr) (mr .qr) (hm .qr) (mr .gr) (hm .gr) (mr .pq) (hm .pq) (mr .pk) (hm .pk) (mr .pw1b) (hm .pw1b) (mr .pb1b) (hm .pb1b) (mr .pw2) (hm .pw2) (mr .pb2) (hm .pb2) (mr .mw1) (hm .mw1) (mr .mb1) (hm .mb1) (mr .mw2) (hm .mw2) (mr .mb2) (hm .mb2)
      = interp mr whole := by
  rw [(loopBody i mr hm).2, whole, interp_bind]
  refine congrArg _ (funext fun wc => ?_)
  rw [interp_bind, interp_for]
  refine congrArg (fun f => Scf.Loop.for k0_t1_loop k0_t1_ok (pack wc.2) f >>= fun _ => _) (funext fun k => funext fun t => ?_)
  rw [tripT_eq]
  exact sim_eq mr ((bodyHalf i mr hm).2 wc.1 k (unpack t).c0 (unpack t).c1 (unpack t).c2 (unpack t).c3
    fun d0 d1 d2 d3 => bodyHalf_sim i mr hm wc.1 k d0 d1 d2 d3)

end Cert.Proof
-- ==== Proof.Body.lean ====
/-
  One run of the kernel's body, and the run of the whole program: it ends, its arguments unchanged.
-/
module

public import proofs.«01_k».proof.Proof.Own
public import proofs.«01_k».proof.Proof.KEq
public import proofs.«01_k».proof.Proof.Gen.KernelIdeal.Frame
public import proofs.«01_k».proof.Proof.Gen.KernelIdeal.Points

@[expose] public section

noncomputable section

namespace Cert.Proof

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)
open Cert.Proof Cert.Proof.Mem

variable {F : FTy → Type} [FloatOps F]

/-- The proof's resource algebra. -/
local notation "𝕄" => MT nD τ sig Unit (Elt F) ℕ (UR sig nD τ) ℕ

abbrev 𝒱₀ : Variants := Variants.none

variable (m : (ℓ : Loc nD τ sig) → Buf (Elt F) ℓ) (ρ : Dev nD → PrngReg)

/-- The memref each buffer of the kernel is, at a point. -/
def mrAt (t : Fin cfg0.N) : (f : Fld) → Memref sig .tc .vmem (sh f) .f32
  | .x => win0_0.stage (cfg0.slots t 0)
  | .wbig => win0_1.stage (cfg0.slots t 1)
  | .bbig => win0_2.stage (cfg0.slots t 2)
  | .w1a => win0_3.stage (cfg0.slots t 3)
  | .b1a => win0_4.stage (cfg0.slots t 4)
  | .w2a => win0_5.stage (cfg0.slots t 5)
  | .b2a => win0_6.stage (cfg0.slots t 6)
  | .w1b => win0_7.stage (cfg0.slots t 7)
  | .b1b => win0_8.stage (cfg0.slots t 8)
  | .w2b => win0_9.stage (cfg0.slots t 9)
  | .b2b => win0_10.stage (cfg0.slots t 10)
  | .iw1a => win0_11.stage (cfg0.slots t 11)
  | .ib1a => win0_12.stage (cfg0.slots t 12)
  | .iw2a => win0_13.stage (cfg0.slots t 13)
  | .ib2a => win0_14.stage (cfg0.slots t 14)
  | .iw1b => win0_15.stage (cfg0.slots t 15)
  | .ib1b => win0_16.stage (cfg0.slots t 16)
  | .iw2b => win0_17.stage (cfg0.slots t 17)
  | .ib2b => win0_18.stage (cfg0.slots t 18)
  | .out => win0_19.stage (cfg0.slots t 19)
  | .kr => Memref.whole cc0_scratch0
  | .vr => Memref.whole cc0_scratch1
  | .qr => Memref.whole cc0_scratch2
  | .gr => Memref.whole cc0_scratch3
  | .pq => Memref.whole cc0_scratch4
  | .pk => Memref.whole cc0_scratch5
  | .pw1b => Memref.whole cc0_scratch6
  | .pb1b => Memref.whole cc0_scratch7
  | .pw2 => Memref.whole cc0_scratch8
  | .pb2 => Memref.whole cc0_scratch9
  | .mw1 => Memref.whole cc0_scratch10
  | .mb1 => Memref.whole cc0_scratch11
  | .mw2 => Memref.whole cc0_scratch12
  | .mb2 => Memref.whole cc0_scratch13

theorem mrAt_whole (t : Fin cfg0.N) : ∀ f, (mrAt t f).IsWhole
  | .x => hstage0_0 ((cfg0.slots t 0).cast nbuf0_0)
  | .wbig => hstage0_1 ((cfg0.slots t 1).cast nbuf0_1)
  | .bbig => hstage0_2 ((cfg0.slots t 2).cast nbuf0_2)
  | .w1a => hstage0_3 ((cfg0.slots t 3).cast nbuf0_3)
  | .b1a => hstage0_4 ((cfg0.slots t 4).cast nbuf0_4)
  | .w2a => hstage0_5 ((cfg0.slots t 5).cast nbuf0_5)
  | .b2a => hstage0_6 ((cfg0.slots t 6).cast nbuf0_6)
  | .w1b => hstage0_7 ((cfg0.slots t 7).cast nbuf0_7)
  | .b1b => hstage0_8 ((cfg0.slots t 8).cast nbuf0_8)
  | .w2b => hstage0_9 ((cfg0.slots t 9).cast nbuf0_9)
  | .b2b => hstage0_10 ((cfg0.slots t 10).cast nbuf0_10)
  | .iw1a => hstage0_11 ((cfg0.slots t 11).cast nbuf0_11)
  | .ib1a => hstage0_12 ((cfg0.slots t 12).cast nbuf0_12)
  | .iw2a => hstage0_13 ((cfg0.slots t 13).cast nbuf0_13)
  | .ib2a => hstage0_14 ((cfg0.slots t 14).cast nbuf0_14)
  | .iw1b => hstage0_15 ((cfg0.slots t 15).cast nbuf0_15)
  | .ib1b => hstage0_16 ((cfg0.slots t 16).cast nbuf0_16)
  | .iw2b => hstage0_17 ((cfg0.slots t 17).cast nbuf0_17)
  | .ib2b => hstage0_18 ((cfg0.slots t 18).cast nbuf0_18)
  | .out => hstage0_19 ((cfg0.slots t 19).cast nbuf0_19)
  | .kr => Memref.isWhole_whole _
  | .vr => Memref.isWhole_whole _
  | .qr => Memref.isWhole_whole _
  | .gr => Memref.isWhole_whole _
  | .pq => Memref.isWhole_whole _
  | .pk => Memref.isWhole_whole _
  | .pw1b => Memref.isWhole_whole _
  | .pb1b => Memref.isWhole_whole _
  | .pw2 => Memref.isWhole_whole _
  | .pb2 => Memref.isWhole_whole _
  | .mw1 => Memref.isWhole_whole _
  | .mb1 => Memref.isWhole_whole _
  | .mw2 => Memref.isWhole_whole _
  | .mb2 => Memref.isWhole_whole _

/-- What the kernel finds in the buffers it is given. -/
def given (c : Dev nD) (t : Fin cfg0.N) : St F
  | .x => iblk m c 0 t
  | .wbig => iblk m c 1 t
  | .bbig => iblk m c 2 t
  | .w1a => iblk m c 3 t
  | .b1a => iblk m c 4 t
  | .w2a => iblk m c 5 t
  | .b2a => iblk m c 6 t
  | .w1b => iblk m c 7 t
  | .b1b => iblk m c 8 t
  | .w2b => iblk m c 9 t
  | .b2b => iblk m c 10 t
  | .iw1a => iblk m c 11 t
  | .ib1a => iblk m c 12 t
  | .iw2a => iblk m c 13 t
  | .ib2a => iblk m c 14 t
  | .iw1b => iblk m c 15 t
  | .ib1b => iblk m c 16 t
  | .iw2b => iblk m c 17 t
  | .ib2b => iblk m c 18 t
  | f => constant (sh f) .f32 0x00000000#32

/-- The body at a point, with the buffers owned. -/
theorem body_wp (c : Dev nD) (t : Fin cfg0.N) (S : St F) (E : Set ℕ) (K : PUnit → sProp 𝕄) :
    iprop(ownsAll c (mrAt t) S ∗ (ownsAll c (mrAt t) (run whole S).2 -∗ K ⟨⟩))
      ⊢ wp frame (wpE (defs₀ (F := F)) 𝒱₀ (c : Thread nD τ) none) E (bodyAt0 t) K := by
  rw [show (bodyAt0 t : Prog (TpuEff nD τ sig (Elt F) Λ₀ .tc) PUnit) = interp (mrAt t) whole from
    kernel_eq (grid0.coords t) (mrAt t) (mrAt_whole t)]
  exact wp_interp defs₀ 𝒱₀ c (mrAt t) E K whole S

/-- The arrays as the region finds them; after the body each operand's buffer at its block, and the result's at the
    result. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => resultAll (given m c t)
    | ⟨n + 20, h⟩ => absurd h (by simp)
  Φ _ := Pipeline.ΦA spec0 c
  q _ := fullShare
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = resultAll (given m c t) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d

set_option maxHeartbeats 4000000 in
/-- The body's obligation to the pipeline. -/
theorem body_obligation (c : Dev nD) : BodyObligation (dats (F := F) m 0 c) (defs₀ (F := F)) 𝒱₀ () Set.univ := fun t => by
  rw [bigSep_W0, bigSep_W0]
  sl_whnfR [defs₀, Defs.onTc]
  simp only [before0_0, before0_1, before0_2, before0_3, before0_4, before0_5, before0_6, before0_7, before0_8, before0_9, before0_10, before0_11, before0_12, before0_13, before0_14, before0_15, before0_16, before0_17, before0_18]
  rw [show (dats m 0 c).Φ t.succ = (dats m 0 c).Φ t.castSucc from rfl,
    show (dats m 0 c).owesAt () t.succ = (dats m 0 c).owesAt () t.castSucc from rfl, after0_0, after0_1, after0_2, after0_3, after0_4, after0_5, after0_6, after0_7, after0_8, after0_9, after0_10, after0_11, after0_12, after0_13, after0_14, after0_15, after0_16, after0_17, after0_18, after0_19]
  rw [show (dats m 0 c).Φ t.castSucc = iprop(Pipeline.scopedRest (Ix := Unit) (Name := ℕ) (U := UR sig nD τ) (Lvl := ℕ) (Val := Elt F) spec0 c ∗ ∃ r, prngReg c r) from rfl,
    scopedRest0_eq]
  iintro ⟨⟨⟨⟨%s0, S0⟩, ⟨%s1, S1⟩, ⟨%s2, S2⟩, ⟨%s3, S3⟩, ⟨%s4, S4⟩, ⟨%s5, S5⟩, ⟨%s6, S6⟩, ⟨%s7, S7⟩, ⟨%s8, S8⟩, ⟨%s9, S9⟩, ⟨%s10, S10⟩, ⟨%s11, S11⟩, ⟨%s12, S12⟩, ⟨%s13, S13⟩⟩, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
  obtain ⟨S, hS⟩ : ∃ S : St F, (∀ f : Fld, f.given = true → S f = given m c t f) ∧ S .out = (dats m 0 c).before 19 t d19
      ∧ S .kr = s0 ∧ S .vr = s1 ∧ S .qr = s2 ∧ S .gr = s3 ∧ S .pq = s4 ∧ S .pk = s5 ∧ S .pw1b = s6 ∧ S .pb1b = s7 ∧ S .pw2 = s8 ∧ S .pb2 = s9 ∧ S .mw1 = s10 ∧ S .mb1 = s11 ∧ S .mw2 = s12 ∧ S .mb2 = s13 := ⟨fun f => match f with
    | .out => (dats m 0 c).before 19 t d19
    | .kr => s0
    | .vr => s1
    | .qr => s2
    | .gr => s3
    | .pq => s4
    | .pk => s5
    | .pw1b => s6
    | .pb1b => s7
    | .pw2 => s8
    | .pb2 => s9
    | .mw1 => s10
    | .mb1 => s11
    | .mw2 => s12
    | .mb2 => s13
    | f => given m c t f, fun f hf => by cases f <;> first | rfl | exact absurd hf (by decide), rfl, rfl, rfl, rfl, rfl, rfl, rfl, rfl, rfl, rfl, rfl, rfl, rfl, rfl, rfl⟩
  obtain ⟨hg, ho, e0, e1, e2, e3, e4, e5, e6, e7, e8, e9, e10, e11, e12, e13⟩ := hS
  iapply (body_wp (F := F) c t S Set.univ _)
  rw [ownsAll_eq, ownsAll_eq, whole_out, resultAll_congr hg, whole_given S .x rfl, whole_given S .wbig rfl, whole_given S .bbig rfl, whole_given S .w1a rfl, whole_given S .b1a rfl, whole_given S .w2a rfl, whole_given S .b2a rfl, whole_given S .w1b rfl, whole_given S .b1b rfl, whole_given S .w2b rfl, whole_given S .b2b rfl, whole_given S .iw1a rfl, whole_given S .ib1a rfl, whole_given S .iw2a rfl, whole_given S .ib2a rfl, whole_given S .iw1b rfl, whole_given S .ib1b rfl, whole_given S .iw2b rfl, whole_given S .ib2b rfl,
    hg .x rfl, hg .wbig rfl, hg .bbig rfl, hg .w1a rfl, hg .b1a rfl, hg .w2a rfl, hg .b2a rfl, hg .w1b rfl, hg .b1b rfl, hg .w2b rfl, hg .b2b rfl, hg .iw1a rfl, hg .ib1a rfl, hg .iw2a rfl, hg .ib2a rfl, hg .iw1b rfl, hg .ib1b rfl, hg .iw2b rfl, hg .ib2b rfl,
    ho, e0, e1, e2, e3, e4, e5, e6, e7, e8, e9, e10, e11, e12, e13]
  isplitl [H0 H1 H2 H3 H4 H5 H6 H7 H8 H9 H10 H11 H12 H13 H14 H15 H16 H17 H18 H19 S0 S1 S2 S3 S4 S5 S6 S7 S8 S9 S10 S11 S12 S13]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [S0]; · iapply (BIBase.Entails.of_eq (owns_whole (c : Thread nD τ) cc0_scratch0 fullShare s0).symm); iexact S0
    isplitl [S1]; · iapply (BIBase.Entails.of_eq (owns_whole (c : Thread nD τ) cc0_scratch1 fullShare s1).symm); iexact S1
    isplitl [S2]; · iapply (BIBase.Entails.of_eq (owns_whole (c : Thread nD τ) cc0_scratch2 fullShare s2).symm); iexact S2
    isplitl [S3]; · iapply (BIBase.Entails.of_eq (owns_whole (c : Thread nD τ) cc0_scratch3 fullShare s3).symm); iexact S3
    isplitl [S4]; · iapply (BIBase.Entails.of_eq (owns_whole (c : Thread nD τ) cc0_scratch4 fullShare s4).symm); iexact S4
    isplitl [S5]; · iapply (BIBase.Entails.of_eq (owns_whole (c : Thread nD τ) cc0_scratch5 fullShare s5).symm); iexact S5
    isplitl [S6]; · iapply (BIBase.Entails.of_eq (owns_whole (c : Thread nD τ) cc0_scratch6 fullShare s6).symm); iexact S6
    isplitl [S7]; · iapply (BIBase.Entails.of_eq (owns_whole (c : Thread nD τ) cc0_scratch7 fullShare s7).symm); iexact S7
    isplitl [S8]; · iapply (BIBase.Entails.of_eq (owns_whole (c : Thread nD τ) cc0_scratch8 fullShare s8).symm); iexact S8
    isplitl [S9]; · iapply (BIBase.Entails.of_eq (owns_whole (c : Thread nD τ) cc0_scratch9 fullShare s9).symm); iexact S9
    isplitl [S10]; · iapply (BIBase.Entails.of_eq (owns_whole (c : Thread nD τ) cc0_scratch10 fullShare s10).symm); iexact S10
    isplitl [S11]; · iapply (BIBase.Entails.of_eq (owns_whole (c : Thread nD τ) cc0_scratch11 fullShare s11).symm); iexact S11
    isplitl [S12]; · iapply (BIBase.Entails.of_eq (owns_whole (c : Thread nD τ) cc0_scratch12 fullShare s12).symm); iexact S12
    iapply (BIBase.Entails.of_eq (owns_whole (c : Thread nD τ) cc0_scratch13 fullShare s13).symm); iexact S13
  iintro ⟨H0, H1, H2, H3, H4, H5, H6, H7, H8, H9, H10, H11, H12, H13, H14, H15, H16, H17, H18, H19, S0, S1, S2, S3, S4, S5, S6, S7, S8, S9, S10, S11, S12, S13⟩
  isplitl [S0 S1 S2 S3 S4 S5 S6 S7 S8 S9 S10 S11 S12 S13 Hp]
  · isplitl [S0 S1 S2 S3 S4 S5 S6 S7 S8 S9 S10 S11 S12 S13]
    · isplitl [S0]; · iexists _; iapply (BIBase.Entails.of_eq (owns_whole (c : Thread nD τ) cc0_scratch0 fullShare _)); iexact S0
      isplitl [S1]; · iexists _; iapply (BIBase.Entails.of_eq (owns_whole (c : Thread nD τ) cc0_scratch1 fullShare _)); iexact S1
      isplitl [S2]; · iexists _; iapply (BIBase.Entails.of_eq (owns_whole (c : Thread nD τ) cc0_scratch2 fullShare _)); iexact S2
      isplitl [S3]; · iexists _; iapply (BIBase.Entails.of_eq (owns_whole (c : Thread nD τ) cc0_scratch3 fullShare _)); iexact S3
      isplitl [S4]; · iexists _; iapply (BIBase.Entails.of_eq (owns_whole (c : Thread nD τ) cc0_scratch4 fullShare _)); iexact S4
      isplitl [S5]; · iexists _; iapply (BIBase.Entails.of_eq (owns_whole (c : Thread nD τ) cc0_scratch5 fullShare _)); iexact S5
      isplitl [S6]; · iexists _; iapply (BIBase.Entails.of_eq (owns_whole (c : Thread nD τ) cc0_scratch6 fullShare _)); iexact S6
      isplitl [S7]; · iexists _; iapply (BIBase.Entails.of_eq (owns_whole (c : Thread nD τ) cc0_scratch7 fullShare _)); iexact S7
      isplitl [S8]; · iexists _; iapply (BIBase.Entails.of_eq (owns_whole (c : Thread nD τ) cc0_scratch8 fullShare _)); iexact S8
      isplitl [S9]; · iexists _; iapply (BIBase.Entails.of_eq (owns_whole (c : Thread nD τ) cc0_scratch9 fullShare _)); iexact S9
      isplitl [S10]; · iexists _; iapply (BIBase.Entails.of_eq (owns_whole (c : Thread nD τ) cc0_scratch10 fullShare _)); iexact S10
      isplitl [S11]; · iexists _; iapply (BIBase.Entails.of_eq (owns_whole (c : Thread nD τ) cc0_scratch11 fullShare _)); iexact S11
      isplitl [S12]; · iexists _; iapply (BIBase.Entails.of_eq (owns_whole (c : Thread nD τ) cc0_scratch12 fullShare _)); iexact S12
      iexists _; iapply (BIBase.Entails.of_eq (owns_whole (c : Thread nD τ) cc0_scratch13 fullShare _)); iexact S13
    · iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

set_option backward.isDefEq.respectTransparency.types false in
/-- The program ends, every array of the pipeline as the proof data says, every counter back at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ 𝒱₀ m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m 𝒱₀) (hA := fun _ _ => rfl) (hΦ := fun _ _ => rfl)

end Cert.Proof
-- ==== Proof.RealNet.lean ====
/-
  The memory network over the real numbers: two blocks `x + silu(x·W1 + b1)·W2 + b2`, the gradients of its loss,
  and the recurrence of weights and momenta over the tokens.
-/
module

public import Mathlib.Tactic.Ring
public import Mathlib.Analysis.SpecialFunctions.Exp

@[expose] public section

noncomputable section

namespace Cert.Proof.RealNet

/-- `σ(x)`. -/
def sg (x : ℝ) : ℝ := (1 + Real.exp (-x))⁻¹
/-- `x · σ(x)`. -/
def ac (x : ℝ) : ℝ := x * sg x
/-- The derivative of `x · σ(x)`. -/
def dc (x : ℝ) : ℝ := sg x * (1 + x * (1 - sg x))

/-- A row times a matrix. -/
def vm {m n : Nat} (x : Fin m → ℝ) (W : Fin m → Fin n → ℝ) : Fin n → ℝ := fun j => ∑ i, x i * W i j
/-- A row times a transposed matrix. -/
def vt {m n : Nat} (y : Fin n → ℝ) (W : Fin m → Fin n → ℝ) : Fin m → ℝ := fun i => ∑ j, y j * W i j

/-- The weights of the two blocks; gradients and momenta have the same form. -/
structure Net where
  w1a : Fin 128 → Fin 256 → ℝ
  b1a : Fin 256 → ℝ
  w2a : Fin 256 → Fin 128 → ℝ
  b2a : Fin 128 → ℝ
  w1b : Fin 128 → Fin 256 → ℝ
  b1b : Fin 256 → ℝ
  w2b : Fin 256 → Fin 128 → ℝ
  b2b : Fin 128 → ℝ

namespace Net

variable (P : Net)

/-- The first block's values before the activation. -/
def p1 (x : Fin 128 → ℝ) : Fin 256 → ℝ := fun j => vm x P.w1a j + P.b1a j
/-- After the first block. -/
def h1 (x : Fin 128 → ℝ) : Fin 128 → ℝ := fun j => x j + vm (fun i => ac (P.p1 x i)) P.w2a j + P.b2a j
/-- The second block's values before the activation. -/
def p2 (x : Fin 128 → ℝ) : Fin 256 → ℝ := fun j => vm (P.h1 x) P.w1b j + P.b1b j
/-- After the second block. -/
def h2 (x : Fin 128 → ℝ) : Fin 128 → ℝ := fun j => P.h1 x j + vm (fun i => ac (P.p2 x i)) P.w2b j + P.b2b j

/-- The loss's derivative at the output, `2 · (h2 − v) / 128`. -/
def err (k v : Fin 128 → ℝ) : Fin 128 → ℝ := fun j => 1 / 64 * (P.h2 k j - v j)
/-- At the second block's activation. -/
def da2 (k v : Fin 128 → ℝ) : Fin 256 → ℝ := fun j => vt (P.err k v) P.w2b j * dc (P.p2 k j)
/-- At the first block's output. -/
def dh1 (k v : Fin 128 → ℝ) : Fin 128 → ℝ := fun j => P.err k v j + vt (P.da2 k v) P.w1b j
/-- At the first block's activation. -/
def da1 (k v : Fin 128 → ℝ) : Fin 256 → ℝ := fun j => vt (P.dh1 k v) P.w2a j * dc (P.p1 k j)

/-- The gradients of the loss. -/
def grad (k v : Fin 128 → ℝ) : Net where
  w1a := fun i j => k i * P.da1 k v j
  b1a := P.da1 k v
  w2a := fun i j => ac (P.p1 k i) * P.dh1 k v j
  b2a := P.dh1 k v
  w1b := fun i j => P.h1 k i * P.da2 k v j
  b1b := P.da2 k v
  w2b := fun i j => ac (P.p2 k i) * P.err k v j
  b2b := P.err k v

end Net

/-- `e · M − t · G`. -/
def mom (e t : ℝ) (M G : Net) : Net where
  w1a := fun i j => e * M.w1a i j - t * G.w1a i j
  b1a := fun j => e * M.b1a j - t * G.b1a j
  w2a := fun i j => e * M.w2a i j - t * G.w2a i j
  b2a := fun j => e * M.b2a j - t * G.b2a j
  w1b := fun i j => e * M.w1b i j - t * G.w1b i j
  b1b := fun j => e * M.b1b j - t * G.b1b j
  w2b := fun i j => e * M.w2b i j - t * G.w2b i j
  b2b := fun j => e * M.b2b j - t * G.b2b j

/-- `P · (1 − a) + M`. -/
def par (a : ℝ) (P M : Net) : Net where
  w1a := fun i j => P.w1a i j * (1 - a) + M.w1a i j
  b1a := fun j => P.b1a j * (1 - a) + M.b1a j
  w2a := fun i j => P.w2a i j * (1 - a) + M.w2a i j
  b2a := fun j => P.b2a j * (1 - a) + M.b2a j
  w1b := fun i j => P.w1b i j * (1 - a) + M.w1b i j
  b1b := fun j => P.b1b j * (1 - a) + M.b1b j
  w2b := fun i j => P.w2b i j * (1 - a) + M.w2b i j
  b2b := fun j => P.b2b j * (1 - a) + M.b2b j

/-- One token: key, value, query and the three gates. -/
structure Token where
  k : Fin 128 → ℝ
  v : Fin 128 → ℝ
  q : Fin 128 → ℝ
  th : ℝ
  al : ℝ
  et : ℝ

/-- Weights and momenta. -/
structure Mem where
  p : Net
  m : Net

/-- The momenta after a token. -/
def newM (t : Token) (s : Mem) : Net := mom t.et t.th s.m (s.p.grad t.k t.v)
/-- The weights after a token, from the original ones. -/
def newP (P₀ : Net) (t : Token) (s : Mem) : Net := par t.al P₀ (newM t s)
/-- Weights and momenta after a token. -/
def upd (P₀ : Net) (t : Token) (s : Mem) : Mem := ⟨newP P₀ t s, newM t s⟩

/-- Weights and momenta after `n` tokens. -/
def mems (P₀ M₀ : Net) (t : Nat → Token) : Nat → Mem
  | 0 => ⟨P₀, M₀⟩
  | n + 1 => upd P₀ (t n) (mems P₀ M₀ t n)

/-- What token `n` gives out. -/
def out (P₀ M₀ : Net) (t : Nat → Token) (n : Nat) : Fin 128 → ℝ := (mems P₀ M₀ t (n + 1)).p.h2 (t n).q

/-- The first layer under the updated weights, from the projection under the original weights, the projection under
    the old momenta and one inner product. -/
theorem p1_newP (P₀ : Net) (t : Token) (s : Mem) (x : Fin 128 → ℝ) (j : Fin 256) :
    (newP P₀ t s).p1 x j
      = (1 - t.al) * (vm x P₀.w1a j + P₀.b1a j) + t.et * (vm x s.m.w1a j + s.m.b1a j)
        - t.th * (((∑ i, x i * t.k i) + 1) * s.p.da1 t.k t.v j) := by
  have h : vm x (newP P₀ t s).w1a j
      = (1 - t.al) * vm x P₀.w1a j + t.et * vm x s.m.w1a j - t.th * s.p.da1 t.k t.v j * ∑ i, x i * t.k i := by
    simp only [vm, newP, newM, par, mom, Net.grad]
    rw [Finset.mul_sum, Finset.mul_sum, Finset.mul_sum, ← Finset.sum_add_distrib, ← Finset.sum_sub_distrib]
    exact Finset.sum_congr rfl fun i _ => by ring
  rw [Net.p1, h]
  simp only [newP, newM, par, mom, Net.grad]
  ring

end Cert.Proof.RealNet
-- ==== Proof.RealUp.lean ====
/-
  Matrices of real numbers among the arrays of extended reals.
-/
module

public import proofs.«01_k».proof.Proof.RealNet
public import Idealize.ShloMosaic.Lib.Pointwise
public import Idealize.ShloMosaic.Lib.IdealHost

@[expose] public section

noncomputable section

namespace Cert.Proof

open Idealize.ShloMosaic Idealize.SL.Sem
open Cert.Proof.RealNet

/-- A matrix of real numbers as an array. -/
def up {m n : Nat} (r : Fin m → Fin n → ℝ) : FVec Ideal ⟨2, ![m, n]⟩ .f32 := fun i => ((r (i 0) (i 1) : ℝ) : EReal)

/-- A row of real numbers as an array. -/
abbrev upRow {n : Nat} (r : Fin n → ℝ) : FVec Ideal ⟨2, ![1, n]⟩ .f32 := up fun _ => r

section
variable {m n : Nat} (a b : Fin m → Fin n → ℝ)

theorem addf_up : addf (up a) (up b) = up fun i j => a i j + b i j := funext fun _ => (EReal.coe_add _ _).symm
theorem subf_up : subf (up a) (up b) = up fun i j => a i j - b i j := funext fun _ => (EReal.coe_sub _ _).symm
theorem mulf_up : mulf (up a) (up b) = up fun i j => a i j * b i j := funext fun _ => (EReal.coe_mul _ _).symm
theorem logistic_up : logistic (up a) = up fun i j => sg (a i j) := funext fun _ => Ideal.logistic_coe _

theorem sum_up {K : Nat} (f g : Fin K → ℝ) : ∑ k, ((f k : ℝ) : EReal) * ((g k : ℝ) : EReal) = ((∑ k, f k * g k : ℝ) : EReal) := by
  refine Eq.trans (Finset.sum_congr rfl fun k _ => (EReal.coe_mul _ _).symm) ?_
  exact (map_sum (⟨⟨Real.toEReal, rfl⟩, EReal.coe_add⟩ : ℝ →+ EReal) (fun k => f k * g k) Finset.univ).symm

theorem sum_one {K : Nat} (f : Fin K → ℝ) : ∑ k, ((f k : ℝ) : EReal) = ((∑ k, f k : ℝ) : EReal) :=
  (map_sum (⟨⟨Real.toEReal, rfl⟩, EReal.coe_add⟩ : ℝ →+ EReal) f Finset.univ).symm

end

end Cert.Proof
-- ==== Proof.Inputs.lean ====
/-
  The problem's inputs as real numbers, and the tokens they make.
-/
module

public import proofs.«01_k».proof.Proof.RealUp

@[expose] public section

noncomputable section

namespace Cert.Proof

open Idealize.ShloMosaic Idealize.SL.Sem
open Cert.Proof.RealNet

/-- A stack of matrices of real numbers as an array. -/
def up3 {a m n : Nat} (r : Fin a → Fin m → Fin n → ℝ) : FVec Ideal ⟨3, ![a, m, n]⟩ .f32 := fun i => ((r (i 0) (i 1) (i 2) : ℝ) : EReal)

/-- A vector of real numbers as an array. -/
def up1 {n : Nat} (r : Fin n → ℝ) : FVec Ideal ⟨1, ![n]⟩ .f32 := fun i => ((r (i 0) : ℝ) : EReal)

/-- The least norm divided by. -/
def least : ℝ := 9223372 / 2 ^ 63
/-- The largest learning rate. -/
def top : ℝ := 10737418 / 2 ^ 30

theorem ofBits_least : Ideal.ofBits .f32 0x2B8CBCCC#32 = (least : EReal) := by
  simp [Ideal.ofBits, Ideal.ieee, least, -EReal.coe_mul]; norm_num
theorem ofBits_top : Ideal.ofBits .f32 0x3C23D70A#32 = (top : EReal) := by
  simp [Ideal.ofBits, Ideal.ieee, top, -EReal.coe_mul]; norm_num

/-- A row's norm, or the least. -/
def nrm (r : Fin 128 → ℝ) : ℝ := max (√(∑ l, r l * r l)) least
/-- A row divided by its norm. -/
def unitR (r : Fin 128 → ℝ) (l : Fin 128) : ℝ := r l * (1 / nrm r)

theorem nrm_ne (r : Fin 128 → ℝ) : nrm r ≠ 0 := (lt_of_lt_of_le (by norm_num [least]) (le_max_right _ least)).ne'

/-- The norm as the programs find it. -/
theorem nrm_eq (r : Fin 128 → ℝ) :
    max (Ideal.sqrt (∑ l, ((r l * r l : ℝ) : EReal))) (least : EReal) = ((nrm r : ℝ) : EReal) := by
  have h : (0 : ℝ) ≤ ∑ l, r l * r l := Finset.sum_nonneg fun l _ => mul_self_nonneg (r l)
  rw [sum_one]
  have e : Ideal.sqrt ((∑ l, r l * r l : ℝ) : EReal) = ((√(∑ l, r l * r l) : ℝ) : EReal) := by
    show (if _ then _ else _) = _
    rw [if_neg (not_lt.mpr h)]
  rw [e]
  exact (EReal.coe_strictMono.monotone.map_max).symm

theorem unit_eq (r : Fin 128 → ℝ) (l : Fin 128) :
    Ideal.div ((r l : ℝ) : EReal) (max (Ideal.sqrt (∑ l, ((r l * r l : ℝ) : EReal))) (least : EReal)) = ((unitR r l : ℝ) : EReal) := by
  rw [nrm_eq, Ideal.div_coe (nrm_ne r)]
  exact (EReal.coe_mul _ _).symm

/-- The inputs. -/
structure Inp where
  x : Fin 4 → Fin 256 → Fin 128 → ℝ
  wq : Fin 128 → Fin 128 → ℝ
  wk : Fin 128 → Fin 128 → ℝ
  wv : Fin 128 → Fin 128 → ℝ
  wl : Fin 128 → Fin 1 → ℝ
  bl : Fin 1 → ℝ
  wf : Fin 128 → Fin 1 → ℝ
  bf : Fin 1 → ℝ
  wm : Fin 128 → Fin 1 → ℝ
  bm : Fin 1 → ℝ
  P : Net
  M : Net

namespace Inp
variable (I : Inp) (b : Fin 4)

def q (t : Fin 256) : Fin 128 → ℝ := unitR fun j => ac (vm (I.x b t) I.wq j)
def k (t : Fin 256) : Fin 128 → ℝ := unitR fun j => ac (vm (I.x b t) I.wk j)
def v (t : Fin 256) : Fin 128 → ℝ := fun j => ac (vm (I.x b t) I.wv j)
def gl (t : Fin 256) : ℝ := sg (vm (I.x b t) I.wl 0 + I.bl 0)
def gf (t : Fin 256) : ℝ := sg (vm (I.x b t) I.wf 0 + I.bf 0)
def gm (t : Fin 256) : ℝ := sg (vm (I.x b t) I.wm 0 + I.bm 0)

/-- The tokens of batch `b`; past the last, nothing. -/
def tok (n : Nat) : Token :=
  if h : n < 256 then
    ⟨I.k b ⟨n, h⟩, I.v b ⟨n, h⟩, I.q b ⟨n, h⟩, I.gl b ⟨n, h⟩ * top, I.gf b ⟨n, h⟩, I.gm b ⟨n, h⟩⟩
  else ⟨0, 0, 0, 0, 0, 0⟩

theorem tok_val (t : Fin 256) : I.tok b t.val = ⟨I.k b t, I.v b t, I.q b t, I.gl b t * top, I.gf b t, I.gm b t⟩ := dif_pos t.isLt
theorem tok_last : I.tok b 256 = ⟨0, 0, 0, 0, 0, 0⟩ := dif_neg (by omega)

end Inp

/-- The weights of one network, as eight arrays. -/
structure IsNet (P : Net) (w1a : FVec Ideal ⟨2, ![128, 256]⟩ .f32) (b1a : FVec Ideal ⟨1, ![256]⟩ .f32) (w2a : FVec Ideal ⟨2, ![256, 128]⟩ .f32)
    (b2a : FVec Ideal ⟨1, ![128]⟩ .f32) (w1b : FVec Ideal ⟨2, ![128, 256]⟩ .f32) (b1b : FVec Ideal ⟨1, ![256]⟩ .f32)
    (w2b : FVec Ideal ⟨2, ![256, 128]⟩ .f32) (b2b : FVec Ideal ⟨1, ![128]⟩ .f32) : Prop where
  w1a : w1a = up P.w1a
  b1a : b1a = up1 P.b1a
  w2a : w2a = up P.w2a
  b2a : b2a = up1 P.b2a
  w1b : w1b = up P.w1b
  b1b : b1b = up1 P.b1b
  w2b : w2b = up P.w2b
  b2b : b2b = up1 P.b2b

/-- The inputs other than the weights, as ten arrays. -/
structure IsInp (I : Inp) (x : FVec Ideal ⟨3, ![4, 256, 128]⟩ .f32) (wq wk wv : FVec Ideal ⟨2, ![128, 128]⟩ .f32)
    (wl : FVec Ideal ⟨2, ![128, 1]⟩ .f32) (bl : FVec Ideal ⟨1, ![1]⟩ .f32) (wf : FVec Ideal ⟨2, ![128, 1]⟩ .f32) (bf : FVec Ideal ⟨1, ![1]⟩ .f32)
    (wm : FVec Ideal ⟨2, ![128, 1]⟩ .f32) (bm : FVec Ideal ⟨1, ![1]⟩ .f32) : Prop where
  x : x = up3 I.x
  wq : wq = up I.wq
  wk : wk = up I.wk
  wv : wv = up I.wv
  wl : wl = up I.wl
  bl : bl = up1 I.bl
  wf : wf = up I.wf
  bf : bf = up1 I.bf
  wm : wm = up I.wm
  bm : bm = up1 I.bm

/-! ## Finite arrays are arrays of real numbers -/

/-- Every entry is a real number. -/
def AllReal {s : Shape} (X : FVec Ideal s .f32) : Prop := ∀ i, ((X i : EReal) ≠ ⊤) ∧ ((X i : EReal) ≠ ⊥)

theorem eq_up1 {n : Nat} {X : FVec Ideal ⟨1, ![n]⟩ .f32} (h : AllReal X) : X = up1 fun a => (X (ix1 a) : EReal).toReal := by
  funext i
  have e : i = ix1 (i 0) := by
    funext a
    match a with
    | ⟨0, _⟩ => rfl
  refine (EReal.coe_toReal (h i).1 (h i).2).symm.trans ?_
  exact congrArg (fun j => (((X j : EReal).toReal : ℝ) : EReal)) e

theorem eq_up {m n : Nat} {X : FVec Ideal ⟨2, ![m, n]⟩ .f32} (h : AllReal X) : X = up fun a b => (X (ix2 a b) : EReal).toReal := by
  funext i
  have e : i = ix2 (i 0) (i 1) := by
    funext a
    match a with
    | ⟨0, _⟩ => rfl
    | ⟨1, _⟩ => rfl
  refine (EReal.coe_toReal (h i).1 (h i).2).symm.trans ?_
  exact congrArg (fun j => (((X j : EReal).toReal : ℝ) : EReal)) e

theorem eq_up3 {l m n : Nat} {X : FVec Ideal ⟨3, ![l, m, n]⟩ .f32} (h : AllReal X) : X = up3 fun a b c => (X (ix3 a b c) : EReal).toReal := by
  funext i
  have e : i = ix3 (i 0) (i 1) (i 2) := by
    funext a
    match a with
    | ⟨0, _⟩ => rfl
    | ⟨1, _⟩ => rfl
    | ⟨2, _⟩ => rfl
  refine (EReal.coe_toReal (h i).1 (h i).2).symm.trans ?_
  exact congrArg (fun j => (((X j : EReal).toReal : ℝ) : EReal)) e

end Cert.Proof
-- ==== Proof.Up.lean ====
/-
  Arrays of real numbers among the arrays of extended reals: the operations of one step keep to them.
-/
module

public import proofs.«01_k».proof.Proof.Setup
public import proofs.«01_k».proof.Proof.RealUp

@[expose] public section

noncomputable section

namespace Cert.Proof

open Cert.KernelIdeal Cert.KernelIdeal.Gen
open Idealize.ShloMosaic Idealize.SL.Sem
open Cert.Proof.RealNet

section
variable {m n : Nat} (a b : Fin m → Fin n → ℝ)

theorem ones_up : ones (F := Ideal) ⟨2, ![m, n]⟩ = up fun _ _ => 1 := funext fun _ => Ideal.ofBits_one_f32

theorem ofBits_64th : Ideal.ofBits .f32 0x3C800000#32 = (((1 : ℝ) / 64 : ℝ) : EReal) := by
  simp [Ideal.ofBits, Ideal.ieee, -EReal.coe_mul]; norm_num

theorem c64_up : broadcast (⟨2, ![m, n]⟩ : Shape) (Scalar.ofBits (F := Ideal) .f32 0x3C800000#32) = up fun _ _ => 1 / 64 :=
  funext fun _ => ofBits_64th

theorem act_up : act (up a) = up fun i j => ac (a i j) := by rw [act, logistic_up, mulf_up]; rfl
theorem dact_up : dact (up a) = up fun i j => dc (a i j) := by
  rw [dact, logistic_up, ones_up, subf_up, mulf_up, addf_up, mulf_up]; rfl

end

/-! ## Contractions -/

theorem mm_1x128 (a : Fin 1 → Fin 128 → ℝ) (b : Fin 128 → Fin 256 → ℝ) :
    matmul (F := Ideal) (φ₁ := .f32) (φ₂ := .f32) dot_S1x128_S128x256_S1x256_1_0_0_1_n_n none (up a) (up b) (constant S1x256 .f32 0x00000000#32)
      = up fun i => vm (a i) b := by
  funext i
  pointwise [up]
  exact sum_up _ _
theorem mm_1x256 (a : Fin 1 → Fin 256 → ℝ) (b : Fin 256 → Fin 128 → ℝ) :
    matmul (F := Ideal) (φ₁ := .f32) (φ₂ := .f32) dot_S1x256_S256x128_S1x128_1_0_0_1_n_n none (up a) (up b) (constant S1x128 .f32 0x00000000#32)
      = up fun i => vm (a i) b := by
  funext i
  pointwise [up]
  exact sum_up _ _
theorem mm_2x128 (a : Fin 2 → Fin 128 → ℝ) (b : Fin 128 → Fin 256 → ℝ) :
    matmul (F := Ideal) (φ₁ := .f32) (φ₂ := .f32) dot_S2x128_S128x256_S2x256_1_0_0_1_n_n none (up a) (up b) (constant S2x256 .f32 0x00000000#32)
      = up fun i => vm (a i) b := by
  funext i
  pointwise [up]
  exact sum_up _ _
theorem mm_2x256 (a : Fin 2 → Fin 256 → ℝ) (b : Fin 256 → Fin 128 → ℝ) :
    matmul (F := Ideal) (φ₁ := .f32) (φ₂ := .f32) dot_S2x256_S256x128_S2x128_1_0_0_1_n_n none (up a) (up b) (constant S2x128 .f32 0x00000000#32)
      = up fun i => vm (a i) b := by
  funext i
  pointwise [up]
  exact sum_up _ _
theorem mm_all (a : Fin 256 → Fin 128 → ℝ) (b : Fin 128 → Fin 512 → ℝ) :
    matmul (F := Ideal) (φ₁ := .f32) (φ₂ := .f32) dot_S256x128_S128x512_S256x512_1_0_0_1_n_n none (up a) (up b) (constant S256x512 .f32 0x00000000#32)
      = up fun i => vm (a i) b := by
  funext i
  pointwise [up]
  exact sum_up _ _
theorem mm_prj (a : Fin 256 → Fin 128 → ℝ) (b : Fin 128 → Fin 256 → ℝ) :
    matmul (F := Ideal) (φ₁ := .f32) (φ₂ := .f32) dot_S256x128_S128x256_S256x256_1_0_0_1_n_n none (up a) (up b) (constant S256x256 .f32 0x00000000#32)
      = up fun i => vm (a i) b := by
  funext i
  pointwise [up]
  exact sum_up _ _
theorem mt_128 (a : Fin 1 → Fin 128 → ℝ) (b : Fin 256 → Fin 128 → ℝ) :
    matmul (F := Ideal) (φ₁ := .f32) (φ₂ := .f32) dot_S1x128_S256x128_S1x256_1_1_0_0_n_n none (up a) (up b) (constant S1x256 .f32 0x00000000#32)
      = up fun i => vt (a i) b := by
  funext i
  pointwise [up]
  exact sum_up _ _
theorem mt_256 (a : Fin 1 → Fin 256 → ℝ) (b : Fin 128 → Fin 256 → ℝ) :
    matmul (F := Ideal) (φ₁ := .f32) (φ₂ := .f32) dot_S1x256_S128x256_S1x128_1_1_0_0_n_n none (up a) (up b) (constant S1x128 .f32 0x00000000#32)
      = up fun i => vt (a i) b := by
  funext i
  pointwise [up]
  exact sum_up _ _
theorem outer_256 (a : Fin 256 → ℝ) (b : Fin 128 → ℝ) :
    matmul (F := Ideal) (φ₁ := .f32) (φ₂ := .f32) dot_S1x256_S1x128_S256x128_0_0_1_1_n_n none (upRow a) (upRow b) (constant S256x128 .f32 0x00000000#32)
      = up fun i j => a i * b j := by
  funext i
  pointwise [up]
  rw [Fin.sum_univ_one]
  exact (EReal.coe_mul _ _).symm
theorem outer_128 (a : Fin 128 → ℝ) (b : Fin 256 → ℝ) :
    matmul (F := Ideal) (φ₁ := .f32) (φ₂ := .f32) dot_S1x128_S1x256_S128x256_0_0_1_1_n_n none (upRow a) (upRow b) (constant S128x256 .f32 0x00000000#32)
      = up fun i j => a i * b j := by
  funext i
  pointwise [up]
  rw [Fin.sum_univ_one]
  exact (EReal.coe_mul _ _).symm

/-! ## Broadcasts, rows -/

theorem bc_row_2_256 (a : Fin 256 → ℝ) (h : S1x256.Broadcasts S2x256) : broadcastTo S2x256 (upRow a) h = up fun _ => a := by
  funext i
  pointwise [up]
theorem bc_row_2_128 (a : Fin 128 → ℝ) (h : S1x128.Broadcasts S2x128) : broadcastTo S2x128 (upRow a) h = up fun _ => a := by
  funext i
  pointwise [up]
theorem bc_row_256_512 (a : Fin 512 → ℝ) (h : S1x512.Broadcasts S256x512) : broadcastTo S256x512 (upRow a) h = up fun _ => a := by
  funext i
  pointwise [up]
theorem bc_one_2_256 (e : ℝ) (h : S1x1.Broadcasts S2x256) : broadcastTo S2x256 (up fun _ _ => e) h = up fun _ _ => e := by
  funext i
  pointwise [up]
theorem bc_one_128_256 (e : ℝ) (h : S1x1.Broadcasts S128x256) : broadcastTo S128x256 (up fun _ _ => e) h = up fun _ _ => e := by
  funext i
  pointwise [up]
theorem bc_one_1_256 (e : ℝ) (h : S1x1.Broadcasts S1x256) : broadcastTo S1x256 (up fun _ _ => e) h = up fun _ _ => e := by
  funext i
  pointwise [up]
theorem bc_one_256_128 (e : ℝ) (h : S1x1.Broadcasts S256x128) : broadcastTo S256x128 (up fun _ _ => e) h = up fun _ _ => e := by
  funext i
  pointwise [up]
theorem bc_one_1_128 (e : ℝ) (h : S1x1.Broadcasts S1x128) : broadcastTo S1x128 (up fun _ _ => e) h = up fun _ _ => e := by
  funext i
  pointwise [up]
theorem bc_col_2_256 (a : Fin 2 → ℝ) (h : S2x1.Broadcasts S2x256) :
    broadcastTo S2x256 (up fun i _ => a i) h = up fun i _ => a i := by
  funext i
  pointwise [up]
theorem bc_col_256_128 (a : Fin 256 → ℝ) (h : S256x1.Broadcasts S256x128) :
    broadcastTo S256x128 (up fun i _ => a i) h = up fun i _ => a i := by
  funext i
  pointwise [up]

/-- Two rows, one above the other. -/
def row2 {n : Nat} (a b : Fin n → ℝ) : Fin 2 → Fin n → ℝ := fun i => if i.val = 0 then a else b
theorem row2_zero {n : Nat} (a b : Fin n → ℝ) {i : Fin 2} (h : i.val = 0) : row2 a b i = a := if_pos h
theorem row2_one {n : Nat} (a b : Fin n → ℝ) {i : Fin 2} (h : ¬i.val = 0) : row2 a b i = b := if_neg h

theorem cat_128 (a b : Fin 128 → ℝ) :
    concatenate S2x128 0 [⟨S1x128, upRow a⟩, ⟨S1x128, upRow b⟩] concatenates_S1x128_S1x128_S2x128_d0 = up (row2 a b) := by
  funext i
  pointwise [up]
  by_cases h : (i 0).val = 0
  · rw [dif_pos (by omega), row2_zero a b h]
  · rw [dif_neg (by omega), row2_one a b h]
theorem snd_128 (a b : Fin 128 → ℝ) (f : (Fin 128 → ℝ) → Fin 128 → ℝ) :
    extractStridedSlice S1x128 ![1, 0] (up fun i => f (row2 a b i)) slices_S2x128_o1_0_S1x128 = upRow (f b) := by
  funext i
  pointwise [up]
  rfl
theorem cat_256 (a b : Fin 256 → ℝ) :
    concatenate S2x256 0 [⟨S1x256, upRow a⟩, ⟨S1x256, upRow b⟩] concatenates_S1x256_S1x256_S2x256_d0 = up (row2 a b) := by
  funext i
  pointwise [up]
  by_cases h : (i 0).val = 0
  · rw [dif_pos (by omega), row2_zero a b h]
  · rw [dif_neg (by omega), row2_one a b h]
theorem snd_256 (a b : Fin 128 → ℝ) (f : (Fin 128 → ℝ) → Fin 256 → ℝ) :
    extractStridedSlice S1x256 ![1, 0] (up fun i => f (row2 a b i)) slices_S2x256_o1_0_S1x256 = upRow (f b) := by
  funext i
  pointwise [up]
  rfl
theorem fst_128 (a b : Fin 128 → ℝ) (f : (Fin 128 → ℝ) → Fin 128 → ℝ) :
    extractStridedSlice S1x128 ![0, 0] (up fun i => f (row2 a b i)) slices_S2x128_o0_0_S1x128 = upRow (f a) := by
  funext i
  pointwise [up]
  rfl

/-- Each row's sum. -/
theorem sum_rows (a : Fin 2 → Fin 128 → ℝ) (h1) (h2 : (0x00000000#32 : BitVec 32) = 0x00000000#32) :
    shapeCast S2x1 (multiReduction (F := Ideal) (φ := .f32) .add [1] S2 (up a) 0x00000000#32 reduces_S2x128_S2 h1 h2) shapeCasts_S2_S2x1
      = up fun i _ => ∑ l, a i l := by
  funext i
  pointwise [up]
  exact sum_one _

end Cert.Proof
-- ==== Proof.KStep.lean ====
/-
  One step of the kernel at real numbers is one token of the memory network.
-/
module

public import proofs.«01_k».proof.Proof.Up

@[expose] public section

noncomputable section

namespace Cert.Proof

open Cert.KernelIdeal Cert.KernelIdeal.Gen
open Idealize.ShloMosaic Idealize.SL.Sem
open Cert.Proof.RealNet

/-- The weights as arrays. -/
def upW (P : Net) : Wts Ideal :=
  ⟨up P.w1a, upRow P.b1a, up P.w2a, upRow P.b2a, up P.w1b, upRow P.b1b, up P.w2b, upRow P.b2b⟩
/-- Gradients or momenta as arrays. -/
def upG (P : Net) : Grad Ideal :=
  ⟨up P.w1a, upRow P.b1a, up P.w2a, upRow P.b2a, up P.w1b, upRow P.b1b, up P.w2b, upRow P.b2b⟩
/-- The weights past the first layer as arrays. -/
def upP (P : Net) : Pars Ideal := ⟨up P.w2a, upRow P.b2a, up P.w1b, upRow P.b1b, up P.w2b, upRow P.b2b⟩
/-- The forward pass of the token `x`, as the kernel carries it. -/
def upC (P : Net) (x : Fin 128 → ℝ) : Car Ideal :=
  ⟨upRow fun j => ac (P.p1 x j), upRow fun j => dc (P.p1 x j), upRow (P.h1 x), upRow fun j => ac (P.p2 x j), upRow fun j => dc (P.p2 x j),
    upRow (P.h2 x)⟩
/-- One batch's momenta and weights. -/
def upB (s : Mem) : Bat Ideal := ⟨upG s.m, up s.p.w1b, up s.p.w2a, up s.p.w2b⟩
/-- What a step reads: the token, and the next token's key. -/
def upT (P₀ : Net) (t : Token) (k1 : Fin 128 → ℝ) : Tok Ideal where
  k0 := upRow t.k
  v := upRow t.v
  q := upRow t.q
  k1 := upRow k1
  pq := upRow (vm t.q P₀.w1a)
  pk := upRow (vm k1 P₀.w1a)
  th := up fun _ _ => t.th
  oma := up fun _ _ => 1 - t.al
  et := up fun _ _ => t.et

theorem fwd1_up (P : Net) (x : Fin 128 → ℝ) : fwd1 (upW P) (upRow x) = upC P x := by
  simp only [fwd1, upW, mm_1x128, mm_1x256, addf_up, act_up, dact_up]
  rfl

theorem bwd_up (P : Net) (k v : Fin 128 → ℝ) : bwd (upC P k) (upRow k) (upRow v) (up P.w1b) (up P.w2a) (up P.w2b) = upG (P.grad k v) := by
  simp only [bwd, upC, subf_up, c64_up, mulf_up, mt_128, mt_256, addf_up, outer_128, outer_256]
  rfl

theorem moms_up (e t : ℝ) (M G : Net) : moms (up fun _ _ => e) (up fun _ _ => t) (upG M) (upG G) = upG (RealNet.mom e t M G) := by
  simp only [moms, RealNet.mom, upG, Cert.Proof.mom, bc_one_128_256, bc_one_1_256, bc_one_256_128, bc_one_1_128, mulf_up, subf_up]

theorem pars_up (a : ℝ) (P M : Net) : pars (up fun _ _ => 1 - a) (upW P) (upG M) = upP (RealNet.par a P M) := by
  simp only [pars, RealNet.par, upG, upW, upP, Cert.Proof.par, bc_one_128_256, bc_one_1_256, bc_one_256_128, bc_one_1_128, mulf_up, addf_up]

theorem pre1_up (P₀ : Net) (t : Token) (s : Mem) (k1 : Fin 128 → ℝ) :
    pre1 (upRow P₀.b1a) (up fun _ _ => 1 - t.al) (up fun _ _ => t.th) (up fun _ _ => t.et) (up (row2 t.q k1))
        (up (row2 (vm t.q P₀.w1a) (vm k1 P₀.w1a))) (upRow t.k) (up s.m.w1a) (upRow s.m.b1a) (upRow (s.p.da1 t.k t.v))
      = up fun i => (newP P₀ t s).p1 (row2 t.q k1 i) := by
  simp only [pre1, mm_2x128, bc_row_2_128, bc_row_2_256, bc_one_2_256, mulf_up, addf_up, subf_up, ones_up]
  rw [sum_rows, addf_up, bc_col_2_256, mulf_up, mulf_up, subf_up]
  refine congrArg up (funext fun i => funext fun j => ?_)
  rw [p1_newP]
  have h : row2 (vm t.q P₀.w1a) (vm k1 P₀.w1a) i = vm (row2 t.q k1 i) P₀.w1a := by
    unfold row2; split <;> rfl
  rw [h]

section
variable (P : Net) (x : Fin 2 → Fin 128 → ℝ)

theorem blk1_up : blk1 (upP P) (up x) (up fun i => P.p1 (x i)) = up fun i => P.h1 (x i) := by
  simp only [blk1, upP, act_up, mm_2x256, bc_row_2_128, addf_up]
  rfl
theorem pre2_up : pre2 (upP P) (up fun i => P.h1 (x i)) = up fun i => P.p2 (x i) := by
  simp only [pre2, upP, mm_2x128, bc_row_2_256, addf_up]
  rfl
theorem blk2_up : blk2 (upP P) (up fun i => P.h1 (x i)) (up fun i => P.p2 (x i)) = up fun i => P.h2 (x i) := by
  simp only [blk2, upP, act_up, mm_2x256, bc_row_2_128, addf_up]
  rfl

end

/-- One step. -/
theorem stepB_up (P₀ : Net) (t : Token) (s : Mem) (k1 : Fin 128 → ℝ) :
    stepB (upW P₀) (upT P₀ t k1) (upB s) (upC s.p t.k)
      = ⟨upB (upd P₀ t s), upC (newP P₀ t s) k1, upRow ((newP P₀ t s).h2 t.q)⟩ := by
  have hg : bwd (upC s.p t.k) (upRow t.k) (upRow t.v) (up s.p.w1b) (up s.p.w2a) (up s.p.w2b) = upG (s.p.grad t.k t.v) := bwd_up _ _ _
  have hp : pars (up fun _ _ => 1 - t.al) (upW P₀) (upG (RealNet.mom t.et t.th s.m (s.p.grad t.k t.v))) = upP (newP P₀ t s) := pars_up _ _ _
  have h1 := pre1_up P₀ t s k1
  simp only [stepB, upT, upB, hg, moms_up, hp, cat_128, cat_256]
  rw [show (upW P₀).b1a = upRow P₀.b1a from rfl, show (upG s.m).w1a = up s.m.w1a from rfl, show (upG s.m).b1a = upRow s.m.b1a from rfl,
    show (upG (s.p.grad t.k t.v)).b1a = upRow (s.p.da1 t.k t.v) from rfl, h1, blk1_up, pre2_up, blk2_up]
  have e (f : (Fin 128 → ℝ) → Fin 256 → ℝ) := snd_256 t.q k1 f
  simp only [carRow, outRow, act_up, dact_up]
  rw [fst_128 t.q k1 (newP P₀ t s).h2, snd_128 t.q k1 (newP P₀ t s).h2, snd_128 t.q k1 (newP P₀ t s).h1,
    e fun x j => ac ((newP P₀ t s).p1 x j), e fun x j => dc ((newP P₀ t s).p1 x j),
    e fun x j => ac ((newP P₀ t s).p2 x j), e fun x j => dc ((newP P₀ t s).p2 x j)]
  rfl

/-- The kernel's batch after `n` tokens. -/
theorem after_up (P₀ M₀ : Net) (t : Nat → Token) (T : Fin 256 → Tok Ideal) (hT : ∀ n : Fin 256, T n = upT P₀ (t n.val) (t (n.val + 1)).k)
    (n : Nat) (hn : n ≤ 256) :
    after (upW P₀) T ⟨upB ⟨P₀, M₀⟩, upC P₀ (t 0).k⟩ n = ⟨upB (mems P₀ M₀ t n), upC (mems P₀ M₀ t n).p (t n).k⟩ := by
  induction n with
  | zero => rfl
  | succ n ih =>
    rw [after_succ _ _ _ ⟨n, hn⟩, ih (by omega), next, hT, stepB_up]
    rfl

theorem outAt_up (P₀ M₀ : Net) (t : Nat → Token) (T : Fin 256 → Tok Ideal) (hT : ∀ n : Fin 256, T n = upT P₀ (t n.val) (t (n.val + 1)).k)
    (n : Fin 256) :
    outAt (upW P₀) T ⟨upB ⟨P₀, M₀⟩, upC P₀ (t 0).k⟩ n = upRow (RealNet.out P₀ M₀ t n.val) := by
  rw [outAt, after_up P₀ M₀ t T hT n.val (by omega), hT, stepB_up]
  rfl

end Cert.Proof
-- ==== Proof.KInputs.lean ====
/-
  What the kernel computes from real inputs: its tokens are the inputs' tokens, its results the memory network's.
-/
module

public import proofs.«01_k».proof.Proof.Inputs
public import proofs.«01_k».proof.Proof.KStep
public import proofs.«01_k».proof.Proof.Setup

@[expose] public section

noncomputable section

namespace Cert.Proof

open Cert.KernelIdeal Cert.KernelIdeal.Gen
open Idealize.ShloMosaic Idealize.SL.Sem
open Cert.Proof.RealNet

/-! ## The four projections side by side -/

/-- The weights of the four projections; the three gates take the first columns of the last. -/
def Inp.wb (I : Inp) (i : Fin 128) (j : Fin 512) : ℝ :=
  if h : j.val < 128 then I.wq i ⟨j.val, h⟩
  else if h : j.val < 256 then I.wk i ⟨j.val - 128, by omega⟩
  else if h : j.val < 384 then I.wv i ⟨j.val - 256, by omega⟩
  else if j.val = 384 then I.wl i 0
  else if j.val = 385 then I.wf i 0
  else if j.val = 386 then I.wm i 0
  else 0
/-- Their biases. -/
def Inp.bb (I : Inp) (j : Fin 512) : ℝ :=
  if j.val = 384 then I.bl 0 else if j.val = 385 then I.bf 0 else if j.val = 386 then I.bm 0 else 0

/-- Column `j` of the projections of token `t`. -/
def Inp.pr (I : Inp) (b : Fin 4) (t : Fin 256) (j : Fin 512) : ℝ := vm (I.x b t) I.wb j + I.bb j

section
variable (I : Inp) (b : Fin 4) (t : Fin 256)

theorem pr_of (j : Fin 512) (w : Fin 128 → ℝ) (β : ℝ) (hw : ∀ i, I.wb i j = w i) (hb : I.bb j = β) : I.pr b t j = ∑ i, I.x b t i * w i + β := by
  unfold Inp.pr vm
  rw [hb, Finset.sum_congr rfl fun i _ => by rw [hw i]]

theorem pr_q (l : Fin 128) : I.pr b t ⟨0 + l.val, by omega⟩ = vm (I.x b t) I.wq l :=
  (pr_of I b t _ (fun i => I.wq i l) 0 (fun i => by simp [Inp.wb]) (by simp only [Inp.bb]; rw [if_neg (by omega), if_neg (by omega), if_neg (by omega)])).trans
    (add_zero _)
theorem pr_k (l : Fin 128) : I.pr b t ⟨128 + l.val, by omega⟩ = vm (I.x b t) I.wk l :=
  (pr_of I b t _ (fun i => I.wk i l) 0
    (fun i => by simp only [Inp.wb]; rw [dif_neg (by omega), dif_pos (by omega)]; exact congrArg _ (Fin.ext (by show 128 + l.val - 128 = l.val; omega)))
    (by simp only [Inp.bb]; rw [if_neg (by omega), if_neg (by omega), if_neg (by omega)])).trans (add_zero _)
theorem pr_v (l : Fin 128) : I.pr b t ⟨256 + l.val, by omega⟩ = vm (I.x b t) I.wv l :=
  (pr_of I b t _ (fun i => I.wv i l) 0
    (fun i => by simp only [Inp.wb]; rw [dif_neg (by omega), dif_neg (by omega), dif_pos (by omega)]; exact congrArg _ (Fin.ext (by show 256 + l.val - 256 = l.val; omega)))
    (by simp only [Inp.bb]; rw [if_neg (by omega), if_neg (by omega), if_neg (by omega)])).trans (add_zero _)
theorem pr_l : I.pr b t ⟨384, by omega⟩ = vm (I.x b t) I.wl 0 + I.bl 0 := pr_of I b t _ (fun i => I.wl i 0) _ (fun i => by simp [Inp.wb]) (by simp [Inp.bb])
theorem pr_f : I.pr b t ⟨385, by omega⟩ = vm (I.x b t) I.wf 0 + I.bf 0 := pr_of I b t _ (fun i => I.wf i 0) _ (fun i => by simp [Inp.wb]) (by simp [Inp.bb])
theorem pr_m : I.pr b t ⟨386, by omega⟩ = vm (I.x b t) I.wm 0 + I.bm 0 := pr_of I b t _ (fun i => I.wm i 0) _ (fun i => by simp [Inp.wb]) (by simp [Inp.bb])

end

/-! ## The operations of the set-up -/

theorem proj_up (x : Fin 256 → Fin 128 → ℝ) (w : Fin 128 → Fin 512 → ℝ) (β : Fin 512 → ℝ) :
    proj (up x) (up w) (upRow β) = up fun t j => vm (x t) w j + β j := by
  unfold proj
  rw [mm_all, bc_row_256_512, addf_up]

theorem slice_up (o : Nat) (ho : o + 128 ≤ 512) (p : Fin 256 → Fin 512 → ℝ) (h : S256x512.Slices ![0, o] S256x128) :
    extractStridedSlice S256x128 ![0, o] (up p) h = up fun t (l : Fin 128) => p t ⟨o + l.val, by omega⟩ := by
  funext i
  refine (extractStridedSlice_apply _ _ _ _ (ix2 (i 0) ⟨o + (i 1).val, by have : (i 1).val < 128 := (i 1).isLt; omega⟩) fun a => ?_).trans rfl
  match a with
  | ⟨0, _⟩ => exact (Nat.zero_add _).symm
  | ⟨1, _⟩ => rfl

theorem unit_up (p : Fin 256 → Fin 128 → ℝ) : unit (up p) = up fun t => unitR fun l => ac (p t l) := by
  unfold unit
  rw [act_up, mulf_up]
  funext i
  pointwise [up]
  rw [ofBits_least]
  exact unit_eq _ _

theorem prj_up (q : Fin 256 → Fin 128 → ℝ) (w : Fin 128 → Fin 256 → ℝ) : prj (up q) (up w) = up fun t => vm (q t) w := mm_prj q w

theorem rowOf_up {w : Nat} (r : Fin 256 → Fin w → ℝ) (n : Nat) : rowOf (up r) n = upRow fun l => if h : n < 256 then r ⟨n, h⟩ l else 0 := by
  funext i
  unfold rowOf up
  by_cases h : n < 256
  · simp only [dif_pos h]; rfl
  · simp only [dif_neg h]; exact Ideal.ofBits_zero_f32

/-! ## The kernel's tokens -/

/-- The kernel finds the inputs `I` in its buffers. -/
structure Finds (I : Inp) (S : St Ideal) : Prop where
  x : S .x = up3 I.x
  wbig : S .wbig = up I.wb
  bbig : S .bbig = upRow I.bb
  P : wts S = upW I.P
  B : bat₀ S = upB ⟨I.P, I.M⟩

section
variable {I : Inp} {S : St Ideal} (h : Finds I S) (b : Fin 4)
include h

theorem Finds.xOf : xOf S b = up (I.x b) := by
  unfold Cert.Proof.xOf
  rw [h.x]
  funext i
  refine (shapeCast_apply _ _ _ (ix3 0 (i 0) (i 1)) (by simp only [Shape.rowMajor_val_three, Shape.rowMajor_val_two]; simp)).trans ?_
  refine congrArg (fun r : ℝ => (r : EReal)) ?_
  refine congr (congr (congrArg I.x (Fin.ext ?_)) (Fin.ext ?_)) (Fin.ext ?_)
  · show b.val + 1 * 0 = b.val; omega
  · show 0 + 1 * (i 0).val = (i 0).val; omega
  · show 0 + 1 * (i 1).val = (i 1).val; omega

theorem Finds.pOf : pOf S b = up (I.pr b) := by
  unfold Cert.Proof.pOf
  rw [h.xOf, h.wbig, h.bbig]
  exact proj_up _ _ _

theorem Finds.qOf : qOf S b = up (I.q b) := by
  unfold Cert.Proof.qOf
  rw [h.pOf, slice_up _ (by omega), unit_up]
  exact congrArg up (funext fun t => congrArg unitR (funext fun l => congrArg ac (pr_q I b t l)))
theorem Finds.kOf : kOf S b = up (I.k b) := by
  unfold Cert.Proof.kOf
  rw [h.pOf, slice_up _ (by omega), unit_up]
  exact congrArg up (funext fun t => congrArg unitR (funext fun l => congrArg ac (pr_k I b t l)))
theorem Finds.vOf : vOf S b = up (I.v b) := by
  unfold Cert.Proof.vOf
  rw [h.pOf, slice_up _ (by omega), act_up]
  exact congrArg up (funext fun t => funext fun l => congrArg ac (pr_v I b t l))
theorem Finds.gOf : gOf S b = up fun t (l : Fin 128) => sg (I.pr b t ⟨384 + l.val, by omega⟩) := by
  unfold Cert.Proof.gOf
  rw [h.pOf, slice_up _ (by omega), logistic_up]

theorem Finds.key (n : Nat) : rowOf (Cert.Proof.kOf S b) n = upRow (I.tok b n).k := by
  rw [h.kOf, rowOf_up]
  refine congrArg upRow (funext fun l => ?_)
  unfold Inp.tok
  split <;> rfl
theorem Finds.pkey (n : Nat) : rowOf (prj (Cert.Proof.kOf S b) (S .w1a)) n = upRow (vm (I.tok b n).k I.P.w1a) := by
  have hw : S .w1a = up I.P.w1a := congrArg Wts.w1a h.P
  rw [h.kOf, hw, prj_up, rowOf_up]
  refine congrArg upRow (funext fun l => ?_)
  unfold Inp.tok
  split
  · rfl
  · exact (Finset.sum_eq_zero fun i _ => zero_mul _).symm

theorem Finds.tokOf (n : Fin 256) : tokOf S b n = upT I.P (I.tok b n.val) (I.tok b (n.val + 1)).k := by
  have hn := n.isLt
  have hw : S .w1a = up I.P.w1a := congrArg Wts.w1a h.P
  unfold Cert.Proof.tokOf upT
  rw [h.key, h.key, h.pkey, h.qOf, h.vOf, h.gOf, hw, prj_up]
  simp only [rowOf_up, hn, dif_pos, I.tok_val]
  congr 1
  · funext i
    show ((sg (I.pr b n ⟨384, _⟩) : ℝ) : EReal) * Ideal.ofBits .f32 0x3C23D70A#32 = _
    rw [pr_l, ofBits_top]
    exact (EReal.coe_mul _ _).symm
  · funext i
    show Ideal.ofBits .f32 0x3F800000#32 - ((sg (I.pr b n ⟨385, _⟩) : ℝ) : EReal) = _
    rw [pr_f, Ideal.ofBits_one_f32]
    exact (EReal.coe_sub 1 _).symm

/-- The kernel's results. -/
theorem Finds.result (n : Fin 256) : result S b n = upRow (RealNet.out I.P I.M (I.tok b) n.val) := by
  unfold Cert.Proof.result
  rw [h.key, h.P, h.B, fwd1_up]
  exact outAt_up I.P I.M (I.tok b) _ (h.tokOf b) n

end

end Cert.Proof
-- ==== Proof.KArgs.lean ====
/-
  What the kernel finds in its buffers, of the arguments.
-/
module

public import proofs.«01_k».proof.Proof.KInputs
public import proofs.«01_k».proof.Proof.Body
public import proofs.«01_k».proof.Proof.Gen.KernelIdeal.Frame
public import Idealize.ShloMosaic.Lib.Routing.OpsOne
public import Idealize.ShloMosaic.Lib.StableHlo.RunLoop
public import Idealize.ShloMosaic.Lib.StableHlo.RunRead

@[expose] public section

noncomputable section

namespace Cert.Proof

open Cert.KernelIdeal Cert.KernelIdeal.Gen
open Idealize.ShloMosaic Idealize.ShloMosaic.TcCoe Idealize.ShloMosaic.StableHlo Idealize.SL.Sem
open Cert.Proof.RealNet

/-- The scatter that sets one entry of the bias row. -/
def setAt {F : FTy → Type} [FloatOps F] (k : BitVec 32) (x : FVec F S1x512 .f32) (v : FVec F S1 .f32) : FVec F S1x512 .f32 :=
  Host.scatter scatter_S1x512_S2_S__n_01_01_0 (fun _ b => b) x
    (concatenate S2 0 [⟨S1, broadcastInDim S1 ![] bcast_S_S1 (constantI S_ 32 0#32)⟩, ⟨S1, broadcastInDim S1 ![] bcast_S_S1 (constantI S_ 32 k)⟩] concatenates_S1_S1_S2_d0)
    (shapeCast S_ v shapeCasts_S1_S_)

section
variable {F : FTy → Type} [FloatOps F] (m : (ℓ : Loc nD τ sig) → Buf (Elt F) ℓ) (c : Dev nD)

theorem V_wbig : V m c main_v2 = concatenate S128x512 1 [⟨S128x128, (m (c.tc.loc main_arg1) : FVec F S128x128 .f32)⟩, ⟨S128x128, (m (c.tc.loc main_arg2) : FVec F S128x128 .f32)⟩,
      ⟨S128x128, (m (c.tc.loc main_arg3) : FVec F S128x128 .f32)⟩,
      ⟨S128x128, pad S128x128 ![0, 0] ![0, 125] ![0, 0]
        (concatenate S128x3 1 [⟨S128x1, (m (c.tc.loc main_arg4) : FVec F S128x1 .f32)⟩, ⟨S128x1, (m (c.tc.loc main_arg6) : FVec F S128x1 .f32)⟩,
          ⟨S128x1, (m (c.tc.loc main_arg8) : FVec F S128x1 .f32)⟩] concatenates_S128x1_S128x1_S128x1_S128x3_d1)
        (sitofp .f32 (constantI S_ 32 0#32)) pads_S128x3_S128x128_000_01250 h_S_⟩] concatenates_S128x128_S128x128_S128x128_S128x128_S128x512_d1 := by
  simp only [V, V0, ← afterL_eq_after_flatten, afterL_cons, afterL_nil]
  after_reads_simp
  rfl

theorem V_bbig : V m c main_v18 = setAt 386#32 (setAt 385#32 (setAt 384#32 (broadcastInDim S1x512 ![] bcast_S_S1x512 (constant S_ .f32 0x00000000#32))
    (m (c.tc.loc main_arg5))) (m (c.tc.loc main_arg7))) (m (c.tc.loc main_arg9)) := by
  simp only [V, V0, ← afterL_eq_after_flatten, afterL_cons, afterL_nil]
  after_reads_simp
  rfl

theorem V_bias :
    V m c main_v19 = shapeCast S1x256 (m (c.tc.loc main_arg11) : FVec F S256 .f32) shapeCasts_S256_S1x256 ∧
    V m c main_v20 = shapeCast S1x128 (m (c.tc.loc main_arg13) : FVec F S128 .f32) shapeCasts_S128_S1x128 ∧
    V m c main_v21 = shapeCast S1x256 (m (c.tc.loc main_arg15) : FVec F S256 .f32) shapeCasts_S256_S1x256 ∧
    V m c main_v22 = shapeCast S1x128 (m (c.tc.loc main_arg17) : FVec F S128 .f32) shapeCasts_S128_S1x128 ∧
    V m c main_v23 = shapeCast S1x256 (m (c.tc.loc main_arg19) : FVec F S256 .f32) shapeCasts_S256_S1x256 ∧
    V m c main_v24 = shapeCast S1x128 (m (c.tc.loc main_arg21) : FVec F S128 .f32) shapeCasts_S128_S1x128 ∧
    V m c main_v25 = shapeCast S1x256 (m (c.tc.loc main_arg23) : FVec F S256 .f32) shapeCasts_S256_S1x256 ∧
    V m c main_v26 = shapeCast S1x128 (m (c.tc.loc main_arg25) : FVec F S128 .f32) shapeCasts_S128_S1x128 := by
  and_intros <;>
    (simp only [V, V0, ← afterL_eq_after_flatten, afterL_cons, afterL_nil]
     after_reads_simp
     rfl)

theorem at_zero (n : Nat) : 0 + 1 * n = n := by omega
theorem ext2 {m n : Nat} {e i : (⟨2, ![m, n]⟩ : Shape).Idx} (h0 : (e 0).val = (i 0).val) (h1 : (e 1).val = (i 1).val) : e = i :=
  funext fun a => match a with
    | ⟨0, _⟩ => Fin.ext h0
    | ⟨1, _⟩ => Fin.ext h1
theorem ext3 {l m n : Nat} {e i : (⟨3, ![l, m, n]⟩ : Shape).Idx} (h0 : (e 0).val = (i 0).val) (h1 : (e 1).val = (i 1).val) (h2 : (e 2).val = (i 2).val) :
    e = i :=
  funext fun a => match a with
    | ⟨0, _⟩ => Fin.ext h0
    | ⟨1, _⟩ => Fin.ext h1
    | ⟨2, _⟩ => Fin.ext h2

/-- Each window holds its whole array. -/
theorem iblk_eq (t : Fin cfg0.N) :
    iblk m c 0 t = V m c main_arg0 ∧ iblk m c 1 t = V m c main_v2 ∧ iblk m c 2 t = V m c main_v18 ∧
    iblk m c 3 t = V m c main_arg10 ∧ iblk m c 4 t = V m c main_v19 ∧ iblk m c 5 t = V m c main_arg12 ∧ iblk m c 6 t = V m c main_v20 ∧
    iblk m c 7 t = V m c main_arg14 ∧ iblk m c 8 t = V m c main_v21 ∧ iblk m c 9 t = V m c main_arg16 ∧ iblk m c 10 t = V m c main_v22 ∧
    iblk m c 11 t = V m c main_arg18 ∧ iblk m c 12 t = V m c main_v23 ∧ iblk m c 13 t = V m c main_arg20 ∧ iblk m c 14 t = V m c main_v24 ∧
    iblk m c 15 t = V m c main_arg22 ∧ iblk m c 16 t = V m c main_v25 ∧ iblk m c 17 t = V m c main_arg24 ∧ iblk m c 18 t = V m c main_v26 := by
  obtain rfl : t = (0 : Fin 1) := Subsingleton.elim (α := Fin 1) _ _
  unfold iblk
  generalize V m c = W
  exact ⟨funext fun i => congrArg (W main_arg0) (ext3 (at_zero _) (at_zero _) (at_zero _)),
    funext fun i => congrArg (W main_v2) (ext2 (at_zero _) (at_zero _)),
    funext fun i => congrArg (W main_v18) (ext2 (at_zero _) (at_zero _)),
    funext fun i => congrArg (W main_arg10) (ext2 (at_zero _) (at_zero _)),
    funext fun i => congrArg (W main_v19) (ext2 (at_zero _) (at_zero _)),
    funext fun i => congrArg (W main_arg12) (ext2 (at_zero _) (at_zero _)),
    funext fun i => congrArg (W main_v20) (ext2 (at_zero _) (at_zero _)),
    funext fun i => congrArg (W main_arg14) (ext2 (at_zero _) (at_zero _)),
    funext fun i => congrArg (W main_v21) (ext2 (at_zero _) (at_zero _)),
    funext fun i => congrArg (W main_arg16) (ext2 (at_zero _) (at_zero _)),
    funext fun i => congrArg (W main_v22) (ext2 (at_zero _) (at_zero _)),
    funext fun i => congrArg (W main_arg18) (ext2 (at_zero _) (at_zero _)),
    funext fun i => congrArg (W main_v23) (ext2 (at_zero _) (at_zero _)),
    funext fun i => congrArg (W main_arg20) (ext2 (at_zero _) (at_zero _)),
    funext fun i => congrArg (W main_v24) (ext2 (at_zero _) (at_zero _)),
    funext fun i => congrArg (W main_arg22) (ext2 (at_zero _) (at_zero _)),
    funext fun i => congrArg (W main_v25) (ext2 (at_zero _) (at_zero _)),
    funext fun i => congrArg (W main_arg24) (ext2 (at_zero _) (at_zero _)),
    funext fun i => congrArg (W main_v26) (ext2 (at_zero _) (at_zero _))⟩

end

theorem setAt_apply (k : BitVec 32) (n : Nat) (hk : k.toInt = n) (x : FVec Ideal S1x512 .f32) (v : FVec Ideal S1 .f32) (j : Fin 512) :
    setAt k x v (ix2 0 j) = if j.val = n then v (ix1 0) else x (ix2 0 j) := by
  unfold setAt
  refine (Routing.scatter_cell_signed scatter_S1x512_S2_S__n_01_01_0 rfl rfl rfl x _ _ 0 j).trans ?_
  refine (if_congr (Iff.trans (and_congr (Iff.of_eq (congrArg (fun w : BitVec 32 => w.toInt = ((0 : Fin 1).val : Int)) ?_ : _ = ((0#32 : BitVec 32).toInt = ((0 : Fin 1).val : Int))))
    (Iff.of_eq (congrArg (fun w : BitVec 32 => w.toInt = (j.val : Int)) ?_ : _ = (k.toInt = (j.val : Int))))) ?_) ?_ rfl)
  · pointwise
  · pointwise
  · rw [hk]
    constructor
    · rintro ⟨_, e⟩; omega
    · intro e; exact ⟨rfl, by omega⟩
  · pointwise

theorem bbig_up (I : Inp) : setAt (F := Ideal) 386#32 (setAt 385#32 (setAt 384#32 (broadcastInDim S1x512 ![] bcast_S_S1x512 (constant S_ .f32 0x00000000#32)) (up1 I.bl))
    (up1 I.bf)) (up1 I.bm) = upRow I.bb := by
  funext i
  have e : i = ix2 0 (i 1) := ext2 (by have : (i 0).val < 1 := (i 0).isLt; show (i 0).val = 0; omega) rfl
  rw [e]
  refine (setAt_apply _ 386 rfl _ _ (i 1)).trans ?_
  refine (if_congr Iff.rfl rfl ((setAt_apply _ 385 rfl _ _ (i 1)).trans (if_congr Iff.rfl rfl (setAt_apply _ 384 rfl _ _ (i 1))))).trans ?_
  show _ = ((I.bb (i 1) : ℝ) : EReal)
  unfold Inp.bb
  have hj : (i 1).val < 512 := (i 1).isLt
  split_ifs <;> first | rfl | omega | exact Ideal.ofBits_zero_f32

/-- The gates' columns, padded with zeros. -/
def Inp.wg (I : Inp) (i : Fin 128) (j : Fin 128) : ℝ :=
  if j.val = 0 then I.wl i 0 else if j.val = 1 then I.wf i 0 else if j.val = 2 then I.wm i 0 else 0

theorem gates_up (I : Inp) : pad S128x128 ![0, 0] ![0, 125] ![0, 0]
        (concatenate S128x3 1 [⟨S128x1, up I.wl⟩, ⟨S128x1, up I.wf⟩, ⟨S128x1, up I.wm⟩] concatenates_S128x1_S128x1_S128x1_S128x3_d1)
        (sitofp (F := Ideal) .f32 (constantI S_ 32 0#32)) pads_S128x3_S128x128_000_01250 h_S_ = up I.wg := by
  funext i
  have hj : (i 1).val < 128 := (i 1).isLt
  pointwise [up]
  have hz : (FloatOps.sitofp FTy.f32 (0#32 : BitVec 32) : Ideal .f32) = ((0 : ℝ) : EReal) := by
    simp [FloatOps.sitofp]
  rw [hz]
  have key : ∀ r j : Fin 128, (if _ : j.val < 3 then
      if h : j.val < 1 then ((I.wl r ⟨j.val, h⟩ : ℝ) : EReal) else if h : j.val - 1 < 1 then ((I.wf r ⟨j.val - 1, h⟩ : ℝ) : EReal)
        else ((I.wm r ⟨j.val - 1 - 1, by omega⟩ : ℝ) : EReal)
      else ((0 : ℝ) : EReal)) = ((I.wg r j : ℝ) : EReal) := by
    intro r j
    unfold Inp.wg
    split_ifs <;> first | rfl | omega | exact congrArg Real.toEReal (congrArg _ (Subsingleton.elim (α := Fin 1) _ _))
  exact key (i 0) (i 1)

theorem wbig_up (I : Inp) : concatenate S128x512 1 [⟨S128x128, up I.wq⟩, ⟨S128x128, up I.wk⟩, ⟨S128x128, up I.wv⟩,
      ⟨S128x128, up I.wg⟩] concatenates_S128x128_S128x128_S128x128_S128x128_S128x512_d1 = up I.wb := by
  funext i
  have hj : (i 1).val < 512 := (i 1).isLt
  pointwise [up]
  have key : ∀ (r : Fin 128) (j : Fin 512), (if h : j.val < 128 then ((I.wq r ⟨j.val, h⟩ : ℝ) : EReal)
      else if h : j.val - 128 < 128 then ((I.wk r ⟨j.val - 128, h⟩ : ℝ) : EReal)
      else if h : j.val - 128 - 128 < 128 then ((I.wv r ⟨j.val - 128 - 128, h⟩ : ℝ) : EReal)
      else ((I.wg r ⟨j.val - 128 - 128 - 128, by omega⟩ : ℝ) : EReal)) = ((I.wb r j : ℝ) : EReal) := by
    intro r j
    unfold Inp.wb Inp.wg
    dsimp only
    split_ifs <;> first | rfl | omega
  exact key (i 0) (i 1)

/-- Both, of the arguments. -/
theorem wbig_of {I : Inp} {wq wk wv : FVec Ideal S128x128 .f32} {wl wf wm : FVec Ideal S128x1 .f32} (hq : wq = up I.wq) (hk : wk = up I.wk) (hv : wv = up I.wv)
    (hl : wl = up I.wl) (hf : wf = up I.wf) (hm : wm = up I.wm) :
    concatenate S128x512 1 [⟨S128x128, wq⟩, ⟨S128x128, wk⟩, ⟨S128x128, wv⟩,
      ⟨S128x128, pad S128x128 ![0, 0] ![0, 125] ![0, 0]
        (concatenate S128x3 1 [⟨S128x1, wl⟩, ⟨S128x1, wf⟩, ⟨S128x1, wm⟩] concatenates_S128x1_S128x1_S128x1_S128x3_d1)
        (sitofp (F := Ideal) .f32 (constantI S_ 32 0#32)) pads_S128x3_S128x128_000_01250 h_S_⟩] concatenates_S128x128_S128x128_S128x128_S128x128_S128x512_d1 = up I.wb := by
  subst hq hk hv hl hf hm
  rw [gates_up, wbig_up]
theorem bbig_of {I : Inp} {bl bf bm : FVec Ideal S1 .f32} (hl : bl = up1 I.bl) (hf : bf = up1 I.bf) (hm : bm = up1 I.bm) :
    setAt 386#32 (setAt 385#32 (setAt 384#32 (broadcastInDim S1x512 ![] bcast_S_S1x512 (constant S_ .f32 0x00000000#32)) bl) bf) bm = upRow I.bb := by
  subst hl hf hm
  exact bbig_up I

theorem bias_256 (r : Fin 256 → ℝ) : shapeCast S1x256 (up1 r) shapeCasts_S256_S1x256 = upRow r := by
  funext i
  pointwise [up, up1]
theorem bias_128 (r : Fin 128 → ℝ) : shapeCast S1x128 (up1 r) shapeCasts_S128_S1x128 = upRow r := by
  funext i
  pointwise [up, up1]

/-- The kernel's arguments hold the problem's numbers. -/
structure KHolds (m : (ℓ : Loc nD τ sig) → Buf (Elt Ideal) ℓ) (c : Dev nD) (I : Inp) : Prop where
  inp : IsInp I (m (c.tc.loc main_arg0)) (m (c.tc.loc main_arg1)) (m (c.tc.loc main_arg2)) (m (c.tc.loc main_arg3)) (m (c.tc.loc main_arg4))
    (m (c.tc.loc main_arg5)) (m (c.tc.loc main_arg6)) (m (c.tc.loc main_arg7)) (m (c.tc.loc main_arg8)) (m (c.tc.loc main_arg9))
  P : IsNet I.P (m (c.tc.loc main_arg10)) (m (c.tc.loc main_arg11)) (m (c.tc.loc main_arg12)) (m (c.tc.loc main_arg13))
    (m (c.tc.loc main_arg14)) (m (c.tc.loc main_arg15)) (m (c.tc.loc main_arg16)) (m (c.tc.loc main_arg17))
  M : IsNet I.M (m (c.tc.loc main_arg18)) (m (c.tc.loc main_arg19)) (m (c.tc.loc main_arg20)) (m (c.tc.loc main_arg21))
    (m (c.tc.loc main_arg22)) (m (c.tc.loc main_arg23)) (m (c.tc.loc main_arg24)) (m (c.tc.loc main_arg25))

/-- A bias, laid out as a row. -/
theorem row_256 {v : FVec Ideal S256 .f32} {r : Fin 256 → ℝ} (h : v = up1 r) : shapeCast S1x256 v shapeCasts_S256_S1x256 = upRow r := by
  rw [h, bias_256]
theorem row_128 {v : FVec Ideal S128 .f32} {r : Fin 128 → ℝ} (h : v = up1 r) : shapeCast S1x128 v shapeCasts_S128_S1x128 = upRow r := by
  rw [h, bias_128]

section
variable {m : (ℓ : Loc nD τ sig) → Buf (Elt Ideal) ℓ} {c : Dev nD} {I : Inp} (h : KHolds m c I)
include h

/-- The weights and the momenta, as the kernel's arrays. -/
theorem V_mats : V m c main_arg10 = up I.P.w1a ∧ V m c main_arg12 = up I.P.w2a ∧ V m c main_arg14 = up I.P.w1b ∧ V m c main_arg16 = up I.P.w2b ∧
    V m c main_arg18 = up I.M.w1a ∧ V m c main_arg20 = up I.M.w2a ∧ V m c main_arg22 = up I.M.w1b ∧ V m c main_arg24 = up I.M.w2b :=
  ⟨(V_main_arg10 m c).trans h.P.w1a, (V_main_arg12 m c).trans h.P.w2a, (V_main_arg14 m c).trans h.P.w1b, (V_main_arg16 m c).trans h.P.w2b,
    (V_main_arg18 m c).trans h.M.w1a, (V_main_arg20 m c).trans h.M.w2a, (V_main_arg22 m c).trans h.M.w1b, (V_main_arg24 m c).trans h.M.w2b⟩
/-- Their biases. -/
theorem V_rows : V m c main_v19 = upRow I.P.b1a ∧ V m c main_v20 = upRow I.P.b2a ∧ V m c main_v21 = upRow I.P.b1b ∧ V m c main_v22 = upRow I.P.b2b ∧
    V m c main_v23 = upRow I.M.b1a ∧ V m c main_v24 = upRow I.M.b2a ∧ V m c main_v25 = upRow I.M.b1b ∧ V m c main_v26 = upRow I.M.b2b := by
  obtain ⟨b0, b1, b2, b3, b4, b5, b6, b7⟩ := V_bias m c
  exact ⟨b0.trans (row_256 h.P.b1a), b1.trans (row_128 h.P.b2a), b2.trans (row_256 h.P.b1b), b3.trans (row_128 h.P.b2b),
    b4.trans (row_256 h.M.b1a), b5.trans (row_128 h.M.b2a), b6.trans (row_256 h.M.b1b), b7.trans (row_128 h.M.b2b)⟩

theorem finds_x (t : Fin cfg0.N) : given m c t .x = up3 I.x ∧ given m c t .wbig = up I.wb ∧ given m c t .bbig = upRow I.bb := by
  obtain ⟨e0, e1, e2, -⟩ := iblk_eq m c t
  exact ⟨e0.trans ((V_main_arg0 m c).trans h.inp.x),
    e1.trans ((V_wbig m c).trans (wbig_of h.inp.wq h.inp.wk h.inp.wv h.inp.wl h.inp.wf h.inp.wm)),
    e2.trans ((V_bbig m c).trans (bbig_of h.inp.bl h.inp.bf h.inp.bm))⟩
theorem finds_P (t : Fin cfg0.N) : wts (given m c t) = upW I.P := by
  obtain ⟨-, -, -, e3, e4, e5, e6, e7, e8, e9, e10, -⟩ := iblk_eq m c t
  obtain ⟨w0, w1, w2, w3, -⟩ := V_mats h
  obtain ⟨b0, b1, b2, b3, -⟩ := V_rows h
  dsimp only [wts, given, upW]
  rw [e3, e4, e5, e6, e7, e8, e9, e10, w0, w1, w2, w3, b0, b1, b2, b3]
theorem finds_B (t : Fin cfg0.N) : bat₀ (given m c t) = upB ⟨I.P, I.M⟩ := by
  obtain ⟨-, -, -, -, -, e5, -, e7, -, e9, -, e11, e12, e13, e14, e15, e16, e17, e18⟩ := iblk_eq m c t
  obtain ⟨-, w1, w2, w3, w4, w5, w6, w7⟩ := V_mats h
  obtain ⟨-, -, -, -, b4, b5, b6, b7⟩ := V_rows h
  dsimp only [bat₀, given, upB, upG]
  rw [e5, e7, e9, e11, e12, e13, e14, e15, e16, e17, e18, w1, w2, w3, w4, w5, w6, w7, b4, b5, b6, b7]

/-- What the kernel is given are the problem's numbers. -/
theorem finds (t : Fin cfg0.N) : Finds I (given m c t) :=
  ⟨(finds_x h t).1, (finds_x h t).2.1, (finds_x h t).2.2, finds_P h t, finds_B h t⟩

end

end Cert.Proof
-- ==== Proof.Pre.lean ====
/-
  The precondition, read: every argument is an array of real numbers, and these numbers are the problem's.
-/
module

public import proofs.«01_k».proof.Defs
public import proofs.«01_k».proof.Proof.KArgs

@[expose] public section

noncomputable section

namespace Cert.Proof

open Cert.KernelIdeal Cert.KernelIdeal.Gen
open Idealize.ShloMosaic Idealize.ShloMosaic.TcCoe Idealize.ShloMosaic.StableHlo Idealize.SL.Sem

theorem ofBits_inf : Ideal.ofBits .f32 0x7F800000#32 = (⊤ : EReal) := by
  simp [Ideal.ofBits, Ideal.ieee]

/-- The test the precondition makes of an array: its entries are less than infinity in size. -/
def small {s : Shape} (X : FVec Ideal s .f32) (h : S_.BroadcastsInDim s (![] : Fin 0 → Fin s.rank)) : IVec s 1 :=
  cmpf .olt (Host.absf X) (broadcastInDim s ![] h (constant (F := Ideal) S_ .f32 0x7F800000#32))

section
variable {s : Shape} {h : S_.BroadcastsInDim s (![] : Fin 0 → Fin s.rank)}

/-- An array that passes holds real numbers. -/
theorem real_of {X : FVec Ideal s .f32} (e : ∀ i, small X h i = 1#1) : AllReal X := by
  intro i
  have e : BitVec.ofBool (decide (max (X i : EReal) (-(X i : EReal)) < Ideal.ofBits .f32 0x7F800000#32)) = 1#1 := e i
  rw [ofBits_inf] at e
  have e : max (X i : EReal) (-(X i : EReal)) < ⊤ := by
    by_contra n
    rw [decide_eq_false n] at e
    exact absurd e (by decide)
  obtain ⟨e1, e2⟩ := max_lt_iff.mp e
  exact ⟨e1.ne, fun b => e2.ne (by rw [b]; rfl)⟩

theorem both {a b : BitVec 1} (e : a &&& b = 1#1) : a = 1#1 ∧ b = 1#1 := by
  revert a b; decide

/-- Three arrays of one shape, tested together. -/
theorem real_of_three {X Y Z : FVec Ideal s .f32} (e : andi (andi (small X h) (small Y h)) (small Z h) = fun _ => 1#1) : AllReal X ∧ AllReal Y ∧ AllReal Z :=
  have p := fun i => both (congrFun e i)
  have q := fun i => both (p i).1
  ⟨real_of fun i => (q i).1, real_of fun i => (q i).2, real_of fun i => (p i).2⟩
/-- Four. -/
theorem real_of_four {X Y Z W : FVec Ideal s .f32} (e : andi (andi (andi (small X h) (small Y h)) (small Z h)) (small W h) = fun _ => 1#1) :
    AllReal X ∧ AllReal Y ∧ AllReal Z ∧ AllReal W :=
  have p := fun i => both (congrFun e i)
  have q := real_of_three (X := X) (Y := Y) (Z := Z) (h := h) (funext fun i => (p i).1)
  ⟨q.1, q.2.1, q.2.2, real_of fun i => (p i).2⟩

end

theorem exists_net {w1a : FVec Ideal ⟨2, ![128, 256]⟩ .f32} {b1a : FVec Ideal ⟨1, ![256]⟩ .f32} {w2a : FVec Ideal ⟨2, ![256, 128]⟩ .f32}
    {b2a : FVec Ideal ⟨1, ![128]⟩ .f32} {w1b : FVec Ideal ⟨2, ![128, 256]⟩ .f32} {b1b : FVec Ideal ⟨1, ![256]⟩ .f32}
    {w2b : FVec Ideal ⟨2, ![256, 128]⟩ .f32} {b2b : FVec Ideal ⟨1, ![128]⟩ .f32} (h1 : AllReal w1a) (h2 : AllReal b1a) (h3 : AllReal w2a)
    (h4 : AllReal b2a) (h5 : AllReal w1b) (h6 : AllReal b1b) (h7 : AllReal w2b) (h8 : AllReal b2b) :
    ∃ P, IsNet P w1a b1a w2a b2a w1b b1b w2b b2b :=
  ⟨⟨_, _, _, _, _, _, _, _⟩, ⟨eq_up h1, eq_up1 h2, eq_up h3, eq_up1 h4, eq_up h5, eq_up1 h6, eq_up h7, eq_up1 h8⟩⟩

theorem exists_inp {x : FVec Ideal ⟨3, ![4, 256, 128]⟩ .f32} {wq wk wv : FVec Ideal ⟨2, ![128, 128]⟩ .f32}
    {wl : FVec Ideal ⟨2, ![128, 1]⟩ .f32} {bl : FVec Ideal ⟨1, ![1]⟩ .f32} {wf : FVec Ideal ⟨2, ![128, 1]⟩ .f32} {bf : FVec Ideal ⟨1, ![1]⟩ .f32}
    {wm : FVec Ideal ⟨2, ![128, 1]⟩ .f32} {bm : FVec Ideal ⟨1, ![1]⟩ .f32} (P M : RealNet.Net) (h0 : AllReal x) (h1 : AllReal wq) (h2 : AllReal wk)
    (h3 : AllReal wv) (h4 : AllReal wl) (h5 : AllReal bl) (h6 : AllReal wf) (h7 : AllReal bf) (h8 : AllReal wm) (h9 : AllReal bm) :
    ∃ I : Inp, IsInp I x wq wk wv wl bl wf bf wm bm ∧ I.P = P ∧ I.M = M :=
  ⟨⟨_, _, _, _, _, _, _, _, _, _, P, M⟩, ⟨eq_up3 h0, eq_up h1, eq_up h2, eq_up h3, eq_up h4, eq_up1 h5, eq_up h6, eq_up1 h7, eq_up h8, eq_up1 h9⟩, rfl, rfl⟩

/-- The facts the precondition's own operations need. -/
theorem preFacts : Cert.Pre_finite.Facts := by
  constructor <;> decide

attribute [local instance] preFacts

/-- Under the precondition the arguments hold some numbers. -/
theorem exists_holds {m : (ℓ : Loc nD τ sig) → Buf (Elt Ideal) ℓ} (hp : Cert.Pre_KernelIdeal_finite m) (c : Dev nD) : ∃ I, KHolds m c I := by
  obtain ⟨p0, p1, p2, p3, p4, p5, p6, p7⟩ := hp c
  have x := real_of fun i => congrFun p0 i
  obtain ⟨wq, wk, wv⟩ := real_of_three p1
  obtain ⟨wl, wf, wm⟩ := real_of_three p2
  obtain ⟨bl, bf, bm⟩ := real_of_three p3
  obtain ⟨w1a, w1b, i1a, i1b⟩ := real_of_four p4
  obtain ⟨b1a, b1b, j1a, j1b⟩ := real_of_four p5
  obtain ⟨w2a, w2b, i2a, i2b⟩ := real_of_four p6
  obtain ⟨b2a, b2b, j2a, j2b⟩ := real_of_four p7
  obtain ⟨P, hP⟩ := exists_net w1a b1a w2a b2a w1b b1b w2b b2b
  obtain ⟨M, hM⟩ := exists_net i1a j1a i2a j2a i1b j1b i2b j2b
  obtain ⟨I, hI, rfl, rfl⟩ := exists_inp P M x wq wk wv wl bl wf bf wm bm
  exact ⟨I, hI, hP, hM⟩

end Cert.Proof
-- ==== Proof.KResult.lean ====
/-
  The kernel's result at real numbers: each batch's outputs, in the tokens' order.
-/
module

public import proofs.«01_k».proof.Proof.KArgs

@[expose] public section

noncomputable section

namespace Cert.Proof

open Cert.KernelIdeal Cert.KernelIdeal.Gen
open Idealize.ShloMosaic Idealize.ShloMosaic.TcCoe Idealize.ShloMosaic.StableHlo Idealize.SL.Sem

section
variable {F : FTy → Type} [FloatOps F] (m : (ℓ : Loc nD τ sig) → Buf (Elt F) ℓ) (c : Dev nD)

/-- The array the kernel writes, after the run. -/
theorem arr_out : (dats m 0 c).arrAt 19 cfg0.N = (resultAll (given m c (0 : Fin 1)) : FVec F S256x1x512 .f32) := by
  have e : ((cfg0.win 19).blk (0 : Fin 1)).view.read (Elt F) ((dats m 0 c).arrAt 19 cfg0.N) = (dats m 0 c).after 19 (0 : Fin 1) := by
    rw [show cfg0.N = ((0 : Fin 1) : Fin cfg0.N).val + 1 from rfl, (dats m 0 c).arrAt_succ 19 (0 : Fin 1)]
    rw [show (cfg0.win 19).flush (0 : Fin 1) = true from by decide, if_pos rfl]
    exact View.read_write_univ _ _
  refine Eq.trans ?_ (e.trans (after0_19 m c (0 : Fin 1)))
  generalize (dats m 0 c).arrAt 19 cfg0.N = W
  exact funext fun i => (congrArg W (ext3 (at_zero _) (at_zero _) (at_zero _))).symm

/-- The program's result, read off it. -/
theorem v29_eq : Pipeline.afterTail₀ cfgs (dats m) 0 (V0 m) [hostOps1] c main_v29 =
    transpose S4x256x128 [1, 0, 2] (shapeCast S256x4x128 (resultAll (given m c (0 : Fin 1))) shapeCasts_S256x1x512_S256x4x128) transposes_S256x4x128_S4x256x128_1_0_2 := by
  unfold Pipeline.afterTail₀
  rw [← arr_out m c]
  have e := Pipeline.withArrays_arr spec0 (by decide) c (V0 m c) (fun w => (dats m 0 c).arrAt w cfg0.N) 19
  rw [← e]
  generalize Pipeline.withArrays spec0 c (V0 m c) (fun w => (dats m 0 c).arrAt w cfg0.N) = X
  show StableHlo.after [hostOps1].flatten X (Proc.devRef .tc main_v29) = _
  simp only [← afterL_eq_after_flatten, afterL_cons, afterL_nil]
  after_reads_simp
  rfl
end

/-- The result of what the kernel is given, laid out as the program returns it. -/
theorem laid_out {I : Inp} {S : St Ideal} (h : Finds I S) :
    transpose S4x256x128 [1, 0, 2] (shapeCast S256x4x128 (resultAll S) shapeCasts_S256x1x512_S256x4x128) transposes_S256x4x128_S4x256x128_1_0_2 =
      up3 fun b (t : Fin 256) l => RealNet.out I.P I.M (I.tok b) t.val l := by
  have key : ∀ (b : Fin 4) (t : Fin 256) (l : Fin 128) (j : (⟨3, ![256, 1, 512]⟩ : Shape).Idx), (j 0).val = t.val → (j 2).val = 128 * b.val + l.val →
      resultAll S j = ((RealNet.out I.P I.M (I.tok b) t.val l : ℝ) : EReal) := by
    intro b t l j h0 h2
    unfold resultAll
    have hb : (⟨(j 2).val / 128, by have : (j 2).val < 512 := (j 2).isLt; omega⟩ : Fin 4) = b := Fin.ext (by show (j 2).val / 128 = b.val; omega)
    have ht : j 0 = t := Fin.ext h0
    have hl : (⟨(j 2).val % 128, Nat.mod_lt _ (by decide)⟩ : Fin 128) = l := Fin.ext (by show (j 2).val % 128 = l.val; omega)
    rw [hb, ht, hl, h.result b t]
    rfl
  funext i
  pointwise
  exact key (i 0) (i 1) (i 2) _ rfl (by show (i 0).val * 128 + (i 2).val = _; omega)

end Cert.Proof
-- ==== Proof.REntry.lean ====
/-
  What the reference's loop starts from, of the arguments.
-/
module

public import proofs.«01_k».proof.Proof.Gen.ReferenceIdeal.Run

@[expose] public section

noncomputable section

namespace Cert.Proof.Ref

open Cert.ReferenceIdeal Cert.ReferenceIdeal.Gen Cert.ReferenceIdeal.Value
open Idealize.ShloMosaic Idealize.ShloMosaic.TcCoe Idealize.ShloMosaic.StableHlo Idealize.SL.Sem

variable {F : FTy → Type} [FloatOps F]

/-- `x·W` followed by `silu`. -/
def silu (x : FVec F S4x256x128 .f32) (w : FVec F S128x128 .f32) : FVec F S4x256x128 .f32 :=
  have p : FVec F S4x256x128 .f32 := Host.dotGeneral dot_S4x256x128_S128x128_S4x256x128_2_0_01_1_n_n none x w
  mulf p (Host.divf (broadcastInDim S4x256x128 ![] bcast_S_S4x256x128 (constant S_ .f32 0x3F800000#32))
    (addf (broadcastInDim S4x256x128 ![] bcast_S_S4x256x128 (constant S_ .f32 0x3F800000#32)) (Host.exp (Host.negf p))))

/-- Each row divided by its norm. -/
def unit (s : FVec F S4x256x128 .f32) : FVec F S4x256x128 .f32 :=
  Host.divf s (broadcastInDim S4x256x128 ![0, 1, 2] bcast_S4x256x1_S4x256x128_0_1_2
    (maximumf (Host.sqrt (broadcastInDim S4x256x1 ![0, 1] bcast_S4x256_S4x256x1_0_1
        (Host.reduceAdd (mulf s s) (constant S_ .f32 0x00000000#32) reducesTo_S4x256x128_S4x256_d2 h_S_)))
      (broadcastInDim S4x256x1 ![] bcast_S_S4x256x1 (constant S_ .f32 0x2B8CBCCC#32))))

/-- A gate. -/
def gate (x : FVec F S4x256x128 .f32) (w : FVec F S128x1 .f32) (b : FVec F S1 .f32) : FVec F S4x256x1 .f32 :=
  Host.divf (broadcastInDim S4x256x1 ![] bcast_S_S4x256x1 (constant S_ .f32 0x3F800000#32))
    (addf (broadcastInDim S4x256x1 ![] bcast_S_S4x256x1 (constant S_ .f32 0x3F800000#32)) (Host.exp (Host.negf
      (addf (Host.dotGeneral dot_S4x256x128_S128x1_S4x256x1_2_0_01_1_n_n none x w)
        (broadcastInDim S4x256x1 ![0, 1, 2] bcast_S1x1x1_S4x256x1_0_1_2 (broadcastInDim S1x1x1 ![2] bcast_S1_S1x1x1_2 b))))))

variable (m : (ℓ : Loc nD τ sig) → Buf (Elt F) ℓ) (c : Dev nD)

/-- What the loop's buffers hold when it starts. -/
theorem entry :
    entryContents preI m c (Proc.devRef .tc main_v71_0) = transpose S256x4x128 [1, 0, 2] (unit (silu (m ((c.tc : Thread nD τ).loc main_arg0)) (m ((c.tc : Thread nD τ).loc main_arg2)))) transposes_S4x256x128_S256x4x128_1_0_2 ∧
    entryContents preI m c (Proc.devRef .tc main_v71_1) = transpose S256x4x128 [1, 0, 2] (silu (m ((c.tc : Thread nD τ).loc main_arg0)) (m ((c.tc : Thread nD τ).loc main_arg3))) transposes_S4x256x128_S256x4x128_1_0_2 ∧
    entryContents preI m c (Proc.devRef .tc main_v71_2) = transpose S256x4x128 [1, 0, 2] (unit (silu (m ((c.tc : Thread nD τ).loc main_arg0)) (m ((c.tc : Thread nD τ).loc main_arg1)))) transposes_S4x256x128_S256x4x128_1_0_2 ∧
    entryContents preI m c (Proc.devRef .tc main_v71_3) = transpose S256x4x1 [1, 0, 2] (mulf (gate (m ((c.tc : Thread nD τ).loc main_arg0)) (m ((c.tc : Thread nD τ).loc main_arg4)) (m ((c.tc : Thread nD τ).loc main_arg5))) (broadcastInDim S4x256x1 ![] bcast_S_S4x256x1 (constant S_ .f32 0x3C23D70A#32))) transposes_S4x256x1_S256x4x1_1_0_2 ∧
    entryContents preI m c (Proc.devRef .tc main_v71_4) = transpose S256x4x1 [1, 0, 2] (gate (m ((c.tc : Thread nD τ).loc main_arg0)) (m ((c.tc : Thread nD τ).loc main_arg6)) (m ((c.tc : Thread nD τ).loc main_arg7))) transposes_S4x256x1_S256x4x1_1_0_2 ∧
    entryContents preI m c (Proc.devRef .tc main_v71_5) = transpose S256x4x1 [1, 0, 2] (gate (m ((c.tc : Thread nD τ).loc main_arg0)) (m ((c.tc : Thread nD τ).loc main_arg8)) (m ((c.tc : Thread nD τ).loc main_arg9))) transposes_S4x256x1_S256x4x1_1_0_2 ∧
    entryContents preI m c (Proc.devRef .tc main_v71_6) = broadcastInDim S4x128x256 ![1, 2] bcast_S128x256_S4x128x256_1_2 (m ((c.tc : Thread nD τ).loc main_arg10)) ∧
    entryContents preI m c (Proc.devRef .tc main_v71_7) = broadcastInDim S4x256 ![1] bcast_S256_S4x256_1 (m ((c.tc : Thread nD τ).loc main_arg11)) ∧
    entryContents preI m c (Proc.devRef .tc main_v71_8) = broadcastInDim S4x256x128 ![1, 2] bcast_S256x128_S4x256x128_1_2 (m ((c.tc : Thread nD τ).loc main_arg12)) ∧
    entryContents preI m c (Proc.devRef .tc main_v71_9) = broadcastInDim S4x128 ![1] bcast_S128_S4x128_1 (m ((c.tc : Thread nD τ).loc main_arg13)) ∧
    entryContents preI m c (Proc.devRef .tc main_v71_10) = broadcastInDim S4x128x256 ![1, 2] bcast_S128x256_S4x128x256_1_2 (m ((c.tc : Thread nD τ).loc main_arg14)) ∧
    entryContents preI m c (Proc.devRef .tc main_v71_11) = broadcastInDim S4x256 ![1] bcast_S256_S4x256_1 (m ((c.tc : Thread nD τ).loc main_arg15)) ∧
    entryContents preI m c (Proc.devRef .tc main_v71_12) = broadcastInDim S4x256x128 ![1, 2] bcast_S256x128_S4x256x128_1_2 (m ((c.tc : Thread nD τ).loc main_arg16)) ∧
    entryContents preI m c (Proc.devRef .tc main_v71_13) = broadcastInDim S4x128 ![1] bcast_S128_S4x128_1 (m ((c.tc : Thread nD τ).loc main_arg17)) ∧
    entryContents preI m c (Proc.devRef .tc main_v71_15) = broadcastInDim S4x128x256 ![1, 2] bcast_S128x256_S4x128x256_1_2 (m ((c.tc : Thread nD τ).loc main_arg10)) ∧
    entryContents preI m c (Proc.devRef .tc main_v71_16) = broadcastInDim S4x256 ![1] bcast_S256_S4x256_1 (m ((c.tc : Thread nD τ).loc main_arg11)) ∧
    entryContents preI m c (Proc.devRef .tc main_v71_17) = broadcastInDim S4x256x128 ![1, 2] bcast_S256x128_S4x256x128_1_2 (m ((c.tc : Thread nD τ).loc main_arg12)) ∧
    entryContents preI m c (Proc.devRef .tc main_v71_18) = broadcastInDim S4x128 ![1] bcast_S128_S4x128_1 (m ((c.tc : Thread nD τ).loc main_arg13)) ∧
    entryContents preI m c (Proc.devRef .tc main_v71_19) = broadcastInDim S4x128x256 ![1, 2] bcast_S128x256_S4x128x256_1_2 (m ((c.tc : Thread nD τ).loc main_arg14)) ∧
    entryContents preI m c (Proc.devRef .tc main_v71_20) = broadcastInDim S4x256 ![1] bcast_S256_S4x256_1 (m ((c.tc : Thread nD τ).loc main_arg15)) ∧
    entryContents preI m c (Proc.devRef .tc main_v71_21) = broadcastInDim S4x256x128 ![1, 2] bcast_S256x128_S4x256x128_1_2 (m ((c.tc : Thread nD τ).loc main_arg16)) ∧
    entryContents preI m c (Proc.devRef .tc main_v71_22) = broadcastInDim S4x128 ![1] bcast_S128_S4x128_1 (m ((c.tc : Thread nD τ).loc main_arg17)) ∧
    entryContents preI m c (Proc.devRef .tc main_v71_23) = broadcastInDim S4x128x256 ![1, 2] bcast_S128x256_S4x128x256_1_2 (m ((c.tc : Thread nD τ).loc main_arg18)) ∧
    entryContents preI m c (Proc.devRef .tc main_v71_24) = broadcastInDim S4x256 ![1] bcast_S256_S4x256_1 (m ((c.tc : Thread nD τ).loc main_arg19)) ∧
    entryContents preI m c (Proc.devRef .tc main_v71_25) = broadcastInDim S4x256x128 ![1, 2] bcast_S256x128_S4x256x128_1_2 (m ((c.tc : Thread nD τ).loc main_arg20)) ∧
    entryContents preI m c (Proc.devRef .tc main_v71_26) = broadcastInDim S4x128 ![1] bcast_S128_S4x128_1 (m ((c.tc : Thread nD τ).loc main_arg21)) ∧
    entryContents preI m c (Proc.devRef .tc main_v71_27) = broadcastInDim S4x128x256 ![1, 2] bcast_S128x256_S4x128x256_1_2 (m ((c.tc : Thread nD τ).loc main_arg22)) ∧
    entryContents preI m c (Proc.devRef .tc main_v71_28) = broadcastInDim S4x256 ![1] bcast_S256_S4x256_1 (m ((c.tc : Thread nD τ).loc main_arg23)) ∧
    entryContents preI m c (Proc.devRef .tc main_v71_29) = broadcastInDim S4x256x128 ![1, 2] bcast_S256x128_S4x256x128_1_2 (m ((c.tc : Thread nD τ).loc main_arg24)) ∧
    entryContents preI m c (Proc.devRef .tc main_v71_30) = broadcastInDim S4x128 ![1] bcast_S128_S4x128_1 (m ((c.tc : Thread nD τ).loc main_arg25)) := by
  and_intros <;>
    (simp only [entryContents, afterL_cons, afterL_nil]
     after_reads_simp
     rfl)

end Cert.Proof.Ref
-- ==== Proof.Up3.lean ====
/-
  Arrays of real numbers among the arrays of extended reals: the operations of the reference's step keep to them.
-/
module

public import proofs.«01_k».proof.Proof.Gen.ReferenceIdeal
public import proofs.«01_k».proof.Proof.Inputs
public import Idealize.ShloMosaic.Lib.Pointwise
public import Idealize.ShloMosaic.Lib.DynamicIndex
public import Idealize.ShloMosaic.Lib.WordCmp

@[expose] public section

noncomputable section

namespace Cert.Proof.Ref

open Cert.ReferenceIdeal Cert.ReferenceIdeal.Gen
open Idealize.ShloMosaic Idealize.SL.Sem
open Cert.Proof.RealNet

section
variable {a m n : Nat} (x y : Fin a → Fin m → Fin n → ℝ)

theorem addf_up3 : addf (up3 x) (up3 y) = up3 fun b i j => x b i j + y b i j := funext fun _ => (EReal.coe_add _ _).symm
theorem subf_up3 : subf (up3 x) (up3 y) = up3 fun b i j => x b i j - y b i j := funext fun _ => (EReal.coe_sub _ _).symm
theorem mulf_up3 : mulf (up3 x) (up3 y) = up3 fun b i j => x b i j * y b i j := funext fun _ => (EReal.coe_mul _ _).symm

/-- A constant everywhere. -/
theorem bc_const {s : Shape} (h : S_.BroadcastsInDim s ![]) (w : BitVec 32) (r : ℝ) (hr : Ideal.ofBits .f32 w = (r : EReal)) :
    broadcastInDim s ![] h (constant (F := Ideal) S_ .f32 w) = fun _ => (r : EReal) := funext fun _ => hr

theorem one_up3 (h : S_.BroadcastsInDim ⟨3, ![a, m, n]⟩ ![]) :
    broadcastInDim ⟨3, ![a, m, n]⟩ ![] h (constant (F := Ideal) S_ .f32 0x3F800000#32) = up3 fun _ _ _ => 1 :=
  bc_const h _ 1 Ideal.ofBits_one_f32
theorem two_up3 (h : S_.BroadcastsInDim ⟨3, ![a, m, n]⟩ ![]) :
    broadcastInDim ⟨3, ![a, m, n]⟩ ![] h (constant (F := Ideal) S_ .f32 0x40000000#32) = up3 fun _ _ _ => 2 :=
  bc_const h _ 2 (by simp [Ideal.ofBits, Ideal.ieee, -EReal.coe_mul]; norm_num)

theorem one_up (h : S_.BroadcastsInDim ⟨2, ![m, n]⟩ ![]) :
    broadcastInDim ⟨2, ![m, n]⟩ ![] h (constant (F := Ideal) S_ .f32 0x3F800000#32) = up fun _ _ => 1 :=
  bc_const h _ 1 Ideal.ofBits_one_f32

/-- `1 / (1 + exp(−x))`. -/
theorem sig_up3 : Host.divf (up3 fun _ _ _ => 1) (addf (up3 fun _ _ _ => 1) (Host.exp (Host.negf (up3 x)))) = up3 fun b i j => sg (x b i j) := by
  funext i
  exact Ideal.logistic_coe _

end

/-! ## Contractions -/

theorem dot_128 (x : Fin 4 → Fin 1 → Fin 128 → ℝ) (y : Fin 4 → Fin 128 → Fin 256 → ℝ) :
    Host.dotGeneral (F := Ideal) (φ₁ := .f32) (φ₂ := .f32) dot_S4x1x128_S4x128x256_S4x1x256_2_1_1_2_0_0 none (up3 x) (up3 y) = up3 fun b i => vm (x b i) (y b) := by
  funext i
  pointwise [up3]
  exact sum_up _ _
theorem dot_256 (x : Fin 4 → Fin 1 → Fin 256 → ℝ) (y : Fin 4 → Fin 256 → Fin 128 → ℝ) :
    Host.dotGeneral (F := Ideal) (φ₁ := .f32) (φ₂ := .f32) dot_S4x1x256_S4x256x128_S4x1x128_2_1_1_2_0_0 none (up3 x) (up3 y) = up3 fun b i => vm (x b i) (y b) := by
  funext i
  pointwise [up3]
  exact sum_up _ _
theorem dott_128 (x : Fin 4 → Fin 1 → Fin 128 → ℝ) (y : Fin 4 → Fin 256 → Fin 128 → ℝ) :
    Host.dotGeneral (F := Ideal) (φ₁ := .f32) (φ₂ := .f32) dot_S4x1x128_S4x256x128_S4x1x256_2_2_1_1_0_0 none (up3 x) (up3 y) = up3 fun b i => vt (x b i) (y b) := by
  funext i
  pointwise [up3]
  exact sum_up _ _
theorem dott_256 (x : Fin 4 → Fin 1 → Fin 256 → ℝ) (y : Fin 4 → Fin 128 → Fin 256 → ℝ) :
    Host.dotGeneral (F := Ideal) (φ₁ := .f32) (φ₂ := .f32) dot_S4x1x256_S4x128x256_S4x1x128_2_2_1_1_0_0 none (up3 x) (up3 y) = up3 fun b i => vt (x b i) (y b) := by
  funext i
  pointwise [up3]
  exact sum_up _ _
/-- An outer product, transposed. -/
theorem outer_256 (x : Fin 4 → Fin 256 → ℝ) (y : Fin 4 → Fin 128 → ℝ) :
    transpose S4x128x256 [0, 2, 1] (Host.dotGeneral (F := Ideal) (φ₁ := .f32) (φ₂ := .f32) dot_S4x1x256_S4x1x128_S4x256x128_1_1_2_2_0_0 none (up3 fun b _ => x b) (up3 fun b _ => y b))
        transposes_S4x256x128_S4x128x256_0_2_1 = up3 fun b i j => y b i * x b j := by
  funext i
  pointwise [up3]
  rw [Fin.sum_univ_one, mul_comm]
  exact (EReal.coe_mul _ _).symm
/-- An outer product, transposed. -/
theorem outer_128 (x : Fin 4 → Fin 128 → ℝ) (y : Fin 4 → Fin 256 → ℝ) :
    transpose S4x256x128 [0, 2, 1] (Host.dotGeneral (F := Ideal) (φ₁ := .f32) (φ₂ := .f32) dot_S4x1x128_S4x1x256_S4x128x256_1_1_2_2_0_0 none (up3 fun b _ => x b) (up3 fun b _ => y b))
        transposes_S4x128x256_S4x256x128_0_2_1 = up3 fun b i j => y b i * x b j := by
  funext i
  pointwise [up3]
  rw [Fin.sum_univ_one, mul_comm]
  exact (EReal.coe_mul _ _).symm

/-! ## Broadcasts, rows -/

theorem bc_row_256 (x : Fin 4 → Fin 256 → ℝ) : broadcastInDim S4x1x256 ![0, 2] bcast_S4x256_S4x1x256_0_2 (up x) = up3 fun b _ => x b := by
  funext i
  pointwise [up3, up]
theorem bc_gate_256 (x : Fin 4 → ℝ) : broadcastInDim S4x256 ![0, 1] bcast_S4x1_S4x256_0_1 (up fun b _ => x b) = up fun b _ => x b := by
  funext i
  pointwise [up]
theorem red_256 (x : Fin 4 → Fin 256 → ℝ) :
    Host.reduceAdd (up3 fun b _ => x b) (constant (F := Ideal) S_ .f32 0x00000000#32) reducesTo_S4x1x256_S4x256_d1 h_S_ = up x := by
  funext i
  pointwise [up3, up]
  rw [Fin.sum_univ_one]
theorem bc_row_128 (x : Fin 4 → Fin 128 → ℝ) : broadcastInDim S4x1x128 ![0, 2] bcast_S4x128_S4x1x128_0_2 (up x) = up3 fun b _ => x b := by
  funext i
  pointwise [up3, up]
theorem bc_gate_128 (x : Fin 4 → ℝ) : broadcastInDim S4x128 ![0, 1] bcast_S4x1_S4x128_0_1 (up fun b _ => x b) = up fun b _ => x b := by
  funext i
  pointwise [up]
theorem red_128 (x : Fin 4 → Fin 128 → ℝ) :
    Host.reduceAdd (up3 fun b _ => x b) (constant (F := Ideal) S_ .f32 0x00000000#32) reducesTo_S4x1x128_S4x128_d1 h_S_ = up x := by
  funext i
  pointwise [up3, up]
  rw [Fin.sum_univ_one]
theorem bc_gate_128_256 (x : Fin 4 → ℝ) :
    broadcastInDim S4x128x256 ![0, 1, 2] bcast_S4x1x1_S4x128x256_0_1_2 (up3 fun b _ _ => x b) = up3 fun b _ _ => x b := by
  funext i
  pointwise [up3]
theorem bc_gate_256_128 (x : Fin 4 → ℝ) :
    broadcastInDim S4x256x128 ![0, 1, 2] bcast_S4x1x1_S4x256x128_0_1_2 (up3 fun b _ _ => x b) = up3 fun b _ _ => x b := by
  funext i
  pointwise [up3]
theorem gate3 (x : Fin 4 → ℝ) : shapeCast S4x1x1 (up fun b (_ : Fin 1) => x b) shapeCasts_S4x1_S4x1x1 = up3 fun b _ _ => x b := by
  funext i
  pointwise [up3, up]
theorem flat_128 (x : Fin 4 → Fin 128 → ℝ) : shapeCast S4x128 (up3 fun b (_ : Fin 1) => x b) shapeCasts_S4x1x128_S4x128 = up x := by
  funext i
  pointwise [up3, up]
theorem slab_128 (x : Fin 4 → Fin 128 → ℝ) : broadcastInDim S1x4x128 ![1, 2] bcast_S4x128_S1x4x128_1_2 (up x) = up3 fun _ => x := by
  funext i
  pointwise [up3, up]

/-- The loss's factor. -/
theorem mean_up3 :
    broadcastInDim S4x1x128 ![0, 1, 2] bcast_S1x1x128_S4x1x128_0_1_2 (broadcastInDim S1x1x128 ![1, 2] bcast_S1x128_S1x1x128_1_2
      (broadcastInDim S1x128 ![] bcast_S_S1x128 (Host.divf (constant (F := Ideal) S_ .f32 0x3F800000#32) (constant S_ .f32 0x43000000#32))))
      = up3 fun _ _ _ => 1 / 128 := by
  funext i
  have h : Ideal.ofBits .f32 0x43000000#32 = ((128 : ℝ) : EReal) := by simp [Ideal.ofBits, Ideal.ieee, -EReal.coe_mul]; norm_num
  show Ideal.div (Ideal.ofBits .f32 0x3F800000#32) (Ideal.ofBits .f32 0x43000000#32) = _
  rw [h, Ideal.div_coe (by norm_num), Ideal.ofBits_one_f32, one_mul]
  rfl

/-! ## The rows of one step -/

/-- The counter as an offset. -/
theorem ctr_start (n : Fin 256) (c : (⟨S_, .i32⟩ : BufTy).Contents (Elt Ideal)) (hc : c = fun _ => BitVec.ofNat 32 n.val) (k : Fin 3) :
    (((![c, constantI S_ 32 0#32, constantI S_ 32 0#32] : Fin 3 → (⟨S_, .i32⟩ : BufTy).Contents (Elt Ideal))) k (Shape.Idx.first h_S_)).toInt
      = ((![n.val, 0, 0] : Fin 3 → Nat) k : Int) := by
  subst hc
  match k with
  | ⟨0, _⟩ => show (BitVec.ofNat 32 n.val).toInt = (n.val : Int); rw [BitVec.toInt_ofNat', Int.bmod_def]; omega
  | ⟨1, _⟩ => rfl
  | ⟨2, _⟩ => rfl

theorem slab_at {d : Nat} (n : Fin 256) : (⟨3, ![256, 4, d]⟩ : Shape).Slices ![n.val, 0, 0] ⟨3, ![1, 4, d]⟩ :=
  ⟨rfl, fun a => by
    match a with
    | ⟨0, _⟩ => show n.val + 1 ≤ 256; omega
    | ⟨1, _⟩ => show 0 + 4 ≤ 4; omega
    | ⟨2, _⟩ => show 0 + d ≤ d; omega⟩

theorem slab_up3 {d : Nat} (x : Fin 256 → Fin 4 → Fin d → ℝ) (n : Fin 256) (h : (⟨3, ![256, 4, d]⟩ : Shape).Slices ![n.val, 0, 0] ⟨3, ![1, 4, d]⟩) :
    extractStridedSlice ⟨3, ![1, 4, d]⟩ ![n.val, 0, 0] (up3 x) h = up3 fun _ => x n := by
  funext i
  refine (extractStridedSlice_apply _ _ _ _ (ix3 n (i 1) (i 2)) fun a => ?_).trans rfl
  match a with
  | ⟨0, _⟩ => show n.val = n.val + (i 0).val; have : (i 0).val < 1 := (i 0).isLt; omega
  | ⟨1, _⟩ => show (i 1).val = 0 + (i 1).val; omega
  | ⟨2, _⟩ => show (i 2).val = 0 + (i 2).val; omega

theorem gate_row (x : Fin 256 → Fin 4 → ℝ) (n : Fin 256) (c : (⟨S_, .i32⟩ : BufTy).Contents (Elt Ideal)) (hc : c = fun _ => BitVec.ofNat 32 n.val) :
    shapeCast S4x1 (Host.dynamicSlice S1x4x1 (up3 fun t b (_ : Fin 1) => x t b)
      (fun k => (((![c, constantI S_ 32 0#32, constantI S_ 32 0#32] : Fin 3 → (⟨S_, .i32⟩ : BufTy).Contents (Elt Ideal))) k (Shape.Idx.first h_S_)).toInt)
      sliceFits_S256x4x1_S1x4x1) shapeCasts_S1x4x1_S4x1 = up fun b _ => x n b := by
  rw [Host.dynamicSlice_eq_extractStridedSlice _ _ _ ![n.val, 0, 0] _ (slab_at n) (ctr_start n c hc), slab_up3]
  funext i
  pointwise [up3, up]

theorem vec_row (x : Fin 256 → Fin 4 → Fin 128 → ℝ) (n : Fin 256) (c : (⟨S_, .i32⟩ : BufTy).Contents (Elt Ideal)) (hc : c = fun _ => BitVec.ofNat 32 n.val) :
    shapeCast S4x128 (Host.dynamicSlice S1x4x128 (up3 x)
      (fun k => (((![c, constantI S_ 32 0#32, constantI S_ 32 0#32] : Fin 3 → (⟨S_, .i32⟩ : BufTy).Contents (Elt Ideal))) k (Shape.Idx.first h_S_)).toInt)
      sliceFits_S256x4x128_S1x4x128) shapeCasts_S1x4x128_S4x128 = up (x n) := by
  rw [Host.dynamicSlice_eq_extractStridedSlice _ _ _ ![n.val, 0, 0] _ (slab_at n) (ctr_start n c hc), slab_up3]
  funext i
  pointwise [up3, up]

theorem vec_row3 (x : Fin 256 → Fin 4 → Fin 128 → ℝ) (n : Fin 256) (c : (⟨S_, .i32⟩ : BufTy).Contents (Elt Ideal)) (hc : c = fun _ => BitVec.ofNat 32 n.val) :
    broadcastInDim S4x1x128 ![0, 2] bcast_S4x128_S4x1x128_0_2 (shapeCast S4x128 (Host.dynamicSlice S1x4x128 (up3 x)
      (fun k => (((![c, constantI S_ 32 0#32, constantI S_ 32 0#32] : Fin 3 → (⟨S_, .i32⟩ : BufTy).Contents (Elt Ideal))) k (Shape.Idx.first h_S_)).toInt)
      sliceFits_S256x4x128_S1x4x128) shapeCasts_S1x4x128_S4x128) = up3 fun b _ => x n b := by
  rw [vec_row x n c hc, bc_row_128]

/-- Writing row `n` of the outputs. -/
theorem put_row (X : S256x4x128.Idx → EReal) (y : Fin 4 → Fin 128 → ℝ) (n : Fin 256) (c : (⟨S_, .i32⟩ : BufTy).Contents (Elt Ideal))
    (hc : c = fun _ => BitVec.ofNat 32 n.val) (t : Fin 256) (b : Fin 4) (l : Fin 128) :
    Host.dynamicUpdateSlice X (up3 fun (_ : Fin 1) => y)
      (fun k => (((![c, constantI S_ 32 0#32, constantI S_ 32 0#32] : Fin 3 → (⟨S_, .i32⟩ : BufTy).Contents (Elt Ideal))) k (Shape.Idx.first h_S_)).toInt)
      updateFits_S256x4x128_S1x4x128 (ix3 t b l) = if t = n then ((y b l : ℝ) : EReal) else X (ix3 t b l) := by
  rw [WordCmp.dynamicUpdateSlice_eq_update _ _ _ _ ![n.val, 0, 0] (slab_at n) (ctr_start n c hc)]
  unfold updateSlice
  by_cases e : t = n
  · subst e
    rw [if_pos rfl, dif_pos fun a => by
      match a with
      | ⟨0, _⟩ => show t.val ≤ t.val ∧ t.val < t.val + 1; omega
      | ⟨1, _⟩ => show 0 ≤ b.val ∧ b.val < 0 + 4; omega
      | ⟨2, _⟩ => show 0 ≤ l.val ∧ l.val < 0 + 128; omega]
    rfl
  · rw [if_neg e, dif_neg fun h => e (Fin.ext (by
      have h0 : n.val ≤ t.val ∧ t.val < n.val + 1 := h 0
      omega))]

end Cert.Proof.Ref
-- ==== Proof.RStep.lean ====
/-
  One trip of the reference's loop at real numbers is one token of the memory network, in each batch.
-/
module

public import proofs.«01_k».proof.Proof.Gen.ReferenceIdeal.Run
public import proofs.«01_k».proof.Proof.Up3

@[expose] public section

noncomputable section

namespace Cert.Proof.Ref

open Cert.ReferenceIdeal Cert.ReferenceIdeal.Gen Cert.ReferenceIdeal.Value
open Idealize.ShloMosaic Idealize.SL.Sem
open Cert.Proof.RealNet

/-- What the loop's buffers hold before trip `n`: the tokens, the original weights, the counter, the weights and
    momenta so far, and the outputs so far. -/
structure At (tok : Fin 4 → Nat → Token) (P₀ : Fin 4 → Net) (s : Fin 4 → Mem) (o : Fin 4 → Nat → Fin 128 → ℝ) (n : Nat)
    (X : Valuation τ sig (Elt Ideal)) : Prop where
  k : X (Proc.devRef .tc main_v71_0) = up3 fun (t : Fin 256) b => (tok b t.val).k
  v : X (Proc.devRef .tc main_v71_1) = up3 fun (t : Fin 256) b => (tok b t.val).v
  q : X (Proc.devRef .tc main_v71_2) = up3 fun (t : Fin 256) b => (tok b t.val).q
  th : X (Proc.devRef .tc main_v71_3) = up3 fun (t : Fin 256) b (_ : Fin 1) => (tok b t.val).th
  al : X (Proc.devRef .tc main_v71_4) = up3 fun (t : Fin 256) b (_ : Fin 1) => (tok b t.val).al
  et : X (Proc.devRef .tc main_v71_5) = up3 fun (t : Fin 256) b (_ : Fin 1) => (tok b t.val).et
  o_w1a : X (Proc.devRef .tc main_v71_6) = up3 fun b => (P₀ b).w1a
  o_b1a : X (Proc.devRef .tc main_v71_7) = up fun b => (P₀ b).b1a
  o_w2a : X (Proc.devRef .tc main_v71_8) = up3 fun b => (P₀ b).w2a
  o_b2a : X (Proc.devRef .tc main_v71_9) = up fun b => (P₀ b).b2a
  o_w1b : X (Proc.devRef .tc main_v71_10) = up3 fun b => (P₀ b).w1b
  o_b1b : X (Proc.devRef .tc main_v71_11) = up fun b => (P₀ b).b1b
  o_w2b : X (Proc.devRef .tc main_v71_12) = up3 fun b => (P₀ b).w2b
  o_b2b : X (Proc.devRef .tc main_v71_13) = up fun b => (P₀ b).b2b
  ctr : X (Proc.devRef .tc main_v71_14) = fun _ => BitVec.ofNat 32 n
  p_w1a : X (Proc.devRef .tc main_v71_15) = up3 fun b => (s b).p.w1a
  p_b1a : X (Proc.devRef .tc main_v71_16) = up fun b => (s b).p.b1a
  p_w2a : X (Proc.devRef .tc main_v71_17) = up3 fun b => (s b).p.w2a
  p_b2a : X (Proc.devRef .tc main_v71_18) = up fun b => (s b).p.b2a
  p_w1b : X (Proc.devRef .tc main_v71_19) = up3 fun b => (s b).p.w1b
  p_b1b : X (Proc.devRef .tc main_v71_20) = up fun b => (s b).p.b1b
  p_w2b : X (Proc.devRef .tc main_v71_21) = up3 fun b => (s b).p.w2b
  p_b2b : X (Proc.devRef .tc main_v71_22) = up fun b => (s b).p.b2b
  m_w1a : X (Proc.devRef .tc main_v71_23) = up3 fun b => (s b).m.w1a
  m_b1a : X (Proc.devRef .tc main_v71_24) = up fun b => (s b).m.b1a
  m_w2a : X (Proc.devRef .tc main_v71_25) = up3 fun b => (s b).m.w2a
  m_b2a : X (Proc.devRef .tc main_v71_26) = up fun b => (s b).m.b2a
  m_w1b : X (Proc.devRef .tc main_v71_27) = up3 fun b => (s b).m.w1b
  m_b1b : X (Proc.devRef .tc main_v71_28) = up fun b => (s b).m.b1b
  m_w2b : X (Proc.devRef .tc main_v71_29) = up3 fun b => (s b).m.w2b
  m_b2b : X (Proc.devRef .tc main_v71_30) = up fun b => (s b).m.b2b
  out : ∀ (t : Fin 256), t.val < n → ∀ b l, X (Proc.devRef .tc main_v71_31) (ix3 t b l) = ((o b t.val l : ℝ) : EReal)

section
variable {tok : Fin 4 → Nat → Token} {P₀ : Fin 4 → Net} {s : Fin 4 → Mem} {o : Fin 4 → Nat → Fin 128 → ℝ} {n : Fin 256}
  {X : Valuation τ sig (Elt Ideal)} (h : At tok P₀ s o n.val X)
include h

theorem At.v76 : (res_main_while0b_v76 X : FVec Ideal S4x1 .f32) = up fun b _ => (tok b n.val).th := by
  unfold res_main_while0b_v76
  rw [h.th]; exact gate_row (fun t b => (tok b t.val).th) n _ h.ctr
theorem At.v77 : (res_main_while0b_v77 X : FVec Ideal S4x1 .f32) = up fun b _ => (tok b n.val).al := by
  unfold res_main_while0b_v77
  rw [h.al]; exact gate_row (fun t b => (tok b t.val).al) n _ h.ctr
theorem At.v78 : (res_main_while0b_v78 X : FVec Ideal S4x1 .f32) = up fun b _ => (tok b n.val).et := by
  unfold res_main_while0b_v78
  rw [h.et]; exact gate_row (fun t b => (tok b t.val).et) n _ h.ctr
theorem At.v79 : (res_main_while0b_v79 X : FVec Ideal S4x1x128 .f32) = up3 fun b _ => (tok b n.val).k := by
  unfold res_main_while0b_v79
  rw [h.k]; exact vec_row3 (fun t b => (tok b t.val).k) n _ h.ctr
theorem At.v83 : (res_main_while0b_v83 X : FVec Ideal S4x1x256 .f32) = up3 fun b _ => (s b).p.p1 (tok b n.val).k := by
  unfold res_main_while0b_v83
  rw [h.v79, h.p_w1a, h.p_b1a, dot_128, bc_row_256, addf_up3]; rfl
theorem At.v84_2 : (res_main_while0b_v84_2 X : FVec Ideal S4x1x256 .f32) = up3 fun b _ j => sg ((s b).p.p1 (tok b n.val).k j) := by
  unfold res_main_while0b_v84_2
  rw [h.v83, one_up3, sig_up3]
theorem At.v84_0 : (res_main_while0b_v84_0 X : FVec Ideal S4x1x256 .f32) = up3 fun b _ j => ac ((s b).p.p1 (tok b n.val).k j) := by
  unfold res_main_while0b_v84_0
  rw [h.v83, h.v84_2, mulf_up3]; rfl
theorem At.v88 : (res_main_while0b_v88 X : FVec Ideal S4x1x128 .f32) = up3 fun b _ => (s b).p.h1 (tok b n.val).k := by
  unfold res_main_while0b_v88
  rw [h.v79, h.v84_0, h.p_w2a, h.p_b2a, dot_256, bc_row_128, addf_up3, addf_up3]; rfl
theorem At.v91 : (res_main_while0b_v91 X : FVec Ideal S4x1x256 .f32) = up3 fun b _ => (s b).p.p2 (tok b n.val).k := by
  unfold res_main_while0b_v91
  rw [h.v88, h.p_w1b, h.p_b1b, dot_128, bc_row_256, addf_up3]; rfl
theorem At.v92_2 : (res_main_while0b_v92_2 X : FVec Ideal S4x1x256 .f32) = up3 fun b _ j => sg ((s b).p.p2 (tok b n.val).k j) := by
  unfold res_main_while0b_v92_2
  rw [h.v91, one_up3, sig_up3]
theorem At.v92_0 : (res_main_while0b_v92_0 X : FVec Ideal S4x1x256 .f32) = up3 fun b _ j => ac ((s b).p.p2 (tok b n.val).k j) := by
  unfold res_main_while0b_v92_0
  rw [h.v91, h.v92_2, mulf_up3]; rfl
theorem At.v97 : (res_main_while0b_v97 X : FVec Ideal S4x1x128 .f32) = up3 fun b _ j => (s b).p.h2 (tok b n.val).k j - (tok b n.val).v j := by
  unfold res_main_while0b_v97
  rw [h.v88, h.v92_0, h.p_w2b, h.p_b2b, dot_256, bc_row_128, addf_up3, addf_up3, h.v]
  refine (congrArg (subf _) (vec_row3 (fun t b => (tok b t.val).v) n _ h.ctr)).trans ?_
  rw [subf_up3]; rfl
theorem At.v108 : (res_main_while0b_v108 X : FVec Ideal S4x1x128 .f32) = up3 fun b _ => (s b).p.err (tok b n.val).k (tok b n.val).v := by
  unfold res_main_while0b_v108
  rw [h.v97, mean_up3, two_up3, mulf_up3, mulf_up3]
  exact congrArg up3 (funext fun b => funext fun _ => funext fun j => by simp only [Net.err]; ring)
theorem At.v112 : (res_main_while0b_v112 X : FVec Ideal S4x1x256 .f32) = up3 fun b _ => vt ((s b).p.err (tok b n.val).k (tok b n.val).v) (s b).p.w2b := by
  unfold res_main_while0b_v112
  rw [h.v108, h.p_w2b, dott_128]
theorem At.v113 : (res_main_while0b_v113 X : FVec Ideal S4x1x256 .f32) = up3 fun b _ => (s b).p.da2 (tok b n.val).k (tok b n.val).v := by
  unfold res_main_while0b_v113
  rw [h.v112, h.v92_2, h.v91, one_up3, subf_up3, mulf_up3, mulf_up3, mulf_up3, mulf_up3, addf_up3]
  exact congrArg up3 (funext fun b => funext fun _ => funext fun j => by simp only [Net.da2, dc]; ring)
theorem At.v118 : (res_main_while0b_v118 X : FVec Ideal S4x1x128 .f32) = up3 fun b _ => (s b).p.dh1 (tok b n.val).k (tok b n.val).v := by
  unfold res_main_while0b_v118
  rw [h.v108, h.v113, h.p_w1b, dott_256, addf_up3]; rfl
theorem At.v122 : (res_main_while0b_v122 X : FVec Ideal S4x1x256 .f32) = up3 fun b _ => vt ((s b).p.dh1 (tok b n.val).k (tok b n.val).v) (s b).p.w2a := by
  unfold res_main_while0b_v122
  rw [h.v118, h.p_w2a, dott_128]
theorem At.v123 : (res_main_while0b_v123 X : FVec Ideal S4x1x256 .f32) = up3 fun b _ => (s b).p.da1 (tok b n.val).k (tok b n.val).v := by
  unfold res_main_while0b_v123
  rw [h.v122, h.v84_2, h.v83, one_up3, subf_up3, mulf_up3, mulf_up3, mulf_up3, mulf_up3, addf_up3]
  exact congrArg up3 (funext fun b => funext fun _ => funext fun j => by simp only [Net.da1, dc]; ring)
theorem At.v133 : (res_main_while0b_v133 X : FVec Ideal S4x128x256 .f32) = up3 fun b => (newM (tok b n.val) (s b)).w1a := by
  unfold res_main_while0b_v133
  rw [h.v78, h.v76, h.v123, h.v79, h.m_w1a, gate3, gate3, bc_gate_128_256, bc_gate_128_256, outer_256, mulf_up3, mulf_up3, subf_up3]; rfl
theorem At.v145 : (res_main_while0b_v145 X : FVec Ideal S4x256x128 .f32) = up3 fun b => (newM (tok b n.val) (s b)).w2a := by
  unfold res_main_while0b_v145
  rw [h.v78, h.v76, h.v118, h.v84_0, h.m_w2a, gate3, gate3, bc_gate_256_128, bc_gate_256_128, outer_128, mulf_up3, mulf_up3, subf_up3]; rfl
theorem At.v157 : (res_main_while0b_v157 X : FVec Ideal S4x128x256 .f32) = up3 fun b => (newM (tok b n.val) (s b)).w1b := by
  unfold res_main_while0b_v157
  rw [h.v78, h.v76, h.v113, h.v88, h.m_w1b, gate3, gate3, bc_gate_128_256, bc_gate_128_256, outer_256, mulf_up3, mulf_up3, subf_up3]; rfl
theorem At.v169 : (res_main_while0b_v169 X : FVec Ideal S4x256x128 .f32) = up3 fun b => (newM (tok b n.val) (s b)).w2b := by
  unfold res_main_while0b_v169
  rw [h.v78, h.v76, h.v108, h.v92_0, h.m_w2b, gate3, gate3, bc_gate_256_128, bc_gate_256_128, outer_128, mulf_up3, mulf_up3, subf_up3]; rfl
theorem At.v138 : (res_main_while0b_v138 X : FVec Ideal S4x256 .f32) = up fun b => (newM (tok b n.val) (s b)).b1a := by
  unfold res_main_while0b_v138
  rw [h.v78, h.v76, h.v123, h.m_b1a, bc_gate_256, bc_gate_256, red_256, mulf_up, mulf_up, subf_up]; rfl
theorem At.v150 : (res_main_while0b_v150 X : FVec Ideal S4x128 .f32) = up fun b => (newM (tok b n.val) (s b)).b2a := by
  unfold res_main_while0b_v150
  rw [h.v78, h.v76, h.v118, h.m_b2a, bc_gate_128, bc_gate_128, red_128, mulf_up, mulf_up, subf_up]; rfl
theorem At.v162 : (res_main_while0b_v162 X : FVec Ideal S4x256 .f32) = up fun b => (newM (tok b n.val) (s b)).b1b := by
  unfold res_main_while0b_v162
  rw [h.v78, h.v76, h.v113, h.m_b1b, bc_gate_256, bc_gate_256, red_256, mulf_up, mulf_up, subf_up]; rfl
theorem At.v174 : (res_main_while0b_v174 X : FVec Ideal S4x128 .f32) = up fun b => (newM (tok b n.val) (s b)).b2b := by
  unfold res_main_while0b_v174
  rw [h.v78, h.v76, h.v108, h.m_b2b, bc_gate_128, bc_gate_128, red_128, mulf_up, mulf_up, subf_up]; rfl
theorem At.v180 : (res_main_while0b_v180 X : FVec Ideal S4x128x256 .f32) = up3 fun b => (newP (P₀ b) (tok b n.val) (s b)).w1a := by
  unfold res_main_while0b_v180
  rw [h.v77, h.v133, h.o_w1a, gate3, one_up3, subf_up3, bc_gate_128_256, mulf_up3, addf_up3]; rfl
theorem At.v191 : (res_main_while0b_v191 X : FVec Ideal S4x256x128 .f32) = up3 fun b => (newP (P₀ b) (tok b n.val) (s b)).w2a := by
  unfold res_main_while0b_v191
  rw [h.v77, h.v145, h.o_w2a, gate3, one_up3, subf_up3, bc_gate_256_128, mulf_up3, addf_up3]; rfl
theorem At.v202 : (res_main_while0b_v202 X : FVec Ideal S4x128x256 .f32) = up3 fun b => (newP (P₀ b) (tok b n.val) (s b)).w1b := by
  unfold res_main_while0b_v202
  rw [h.v77, h.v157, h.o_w1b, gate3, one_up3, subf_up3, bc_gate_128_256, mulf_up3, addf_up3]; rfl
theorem At.v213 : (res_main_while0b_v213 X : FVec Ideal S4x256x128 .f32) = up3 fun b => (newP (P₀ b) (tok b n.val) (s b)).w2b := by
  unfold res_main_while0b_v213
  rw [h.v77, h.v169, h.o_w2b, gate3, one_up3, subf_up3, bc_gate_256_128, mulf_up3, addf_up3]; rfl
theorem At.v185 : (res_main_while0b_v185 X : FVec Ideal S4x256 .f32) = up fun b => (newP (P₀ b) (tok b n.val) (s b)).b1a := by
  unfold res_main_while0b_v185
  rw [h.v77, h.v138, h.o_b1a, one_up, subf_up, bc_gate_256, mulf_up, addf_up]; rfl
theorem At.v196 : (res_main_while0b_v196 X : FVec Ideal S4x128 .f32) = up fun b => (newP (P₀ b) (tok b n.val) (s b)).b2a := by
  unfold res_main_while0b_v196
  rw [h.v77, h.v150, h.o_b2a, one_up, subf_up, bc_gate_128, mulf_up, addf_up]; rfl
theorem At.v207 : (res_main_while0b_v207 X : FVec Ideal S4x256 .f32) = up fun b => (newP (P₀ b) (tok b n.val) (s b)).b1b := by
  unfold res_main_while0b_v207
  rw [h.v77, h.v162, h.o_b1b, one_up, subf_up, bc_gate_256, mulf_up, addf_up]; rfl
theorem At.v218 : (res_main_while0b_v218 X : FVec Ideal S4x128 .f32) = up fun b => (newP (P₀ b) (tok b n.val) (s b)).b2b := by
  unfold res_main_while0b_v218
  rw [h.v77, h.v174, h.o_b2b, one_up, subf_up, bc_gate_128, mulf_up, addf_up]; rfl
theorem At.v219 : (res_main_while0b_v219 X : FVec Ideal S4x1x128 .f32) = up3 fun b _ => (tok b n.val).q := by
  unfold res_main_while0b_v219
  rw [h.q]; exact vec_row3 (fun t b => (tok b t.val).q) n _ h.ctr
theorem At.v222 : (res_main_while0b_v222 X : FVec Ideal S4x1x256 .f32) = up3 fun b _ => (newP (P₀ b) (tok b n.val) (s b)).p1 (tok b n.val).q := by
  unfold res_main_while0b_v222
  rw [h.v219, h.v180, h.v185, dot_128, bc_row_256, addf_up3]; rfl
theorem At.v227 : (res_main_while0b_v227 X : FVec Ideal S4x1x128 .f32) = up3 fun b _ => (newP (P₀ b) (tok b n.val) (s b)).h1 (tok b n.val).q := by
  unfold res_main_while0b_v227
  rw [h.v219, h.v222, h.v191, h.v196, one_up3, sig_up3, mulf_up3, dot_256, bc_row_128, addf_up3, addf_up3]; rfl
theorem At.v230 : (res_main_while0b_v230 X : FVec Ideal S4x1x256 .f32) = up3 fun b _ => (newP (P₀ b) (tok b n.val) (s b)).p2 (tok b n.val).q := by
  unfold res_main_while0b_v230
  rw [h.v227, h.v202, h.v207, dot_128, bc_row_256, addf_up3]; rfl

/-- The outputs after the trip. -/
theorem At.v31 (t : Fin 256) (b : Fin 4) (l : Fin 128) :
    step_main_v71_31 X (ix3 t b l) = if t = n then ((((newP (P₀ b) (tok b n.val) (s b)).h2 (tok b n.val).q l : ℝ)) : EReal) else X (Proc.devRef .tc main_v71_31) (ix3 t b l) := by
  unfold step_main_v71_31
  rw [h.v227, h.v230, h.v213, h.v218, one_up3, sig_up3, mulf_up3, dot_256, bc_row_128, addf_up3, addf_up3, flat_128, slab_128]
  exact put_row _ (fun b => (newP (P₀ b) (tok b n.val) (s b)).h2 (tok b n.val).q) n _ h.ctr t b l

/-- One trip. -/
theorem At.step (ho : ∀ b, o b n.val = (newP (P₀ b) (tok b n.val) (s b)).h2 (tok b n.val).q) :
    At tok P₀ (fun b => upd (P₀ b) (tok b n.val) (s b)) o (n.val + 1) (STEP X) where
  k := (STEP_main_v71_0 X).trans h.k
  v := (STEP_main_v71_1 X).trans h.v
  q := (STEP_main_v71_2 X).trans h.q
  th := (STEP_main_v71_3 X).trans h.th
  al := (STEP_main_v71_4 X).trans h.al
  et := (STEP_main_v71_5 X).trans h.et
  o_w1a := (STEP_main_v71_6 X).trans h.o_w1a
  o_b1a := (STEP_main_v71_7 X).trans h.o_b1a
  o_w2a := (STEP_main_v71_8 X).trans h.o_w2a
  o_b2a := (STEP_main_v71_9 X).trans h.o_b2a
  o_w1b := (STEP_main_v71_10 X).trans h.o_w1b
  o_b1b := (STEP_main_v71_11 X).trans h.o_b1b
  o_w2b := (STEP_main_v71_12 X).trans h.o_w2b
  o_b2b := (STEP_main_v71_13 X).trans h.o_b2b
  ctr := (STEP_main_v71_14 X).trans (by
    unfold step_main_v71_14
    rw [h.ctr]
    funext i
    show BitVec.ofNat 32 n.val + 1#32 = BitVec.ofNat 32 (n.val + 1)
    rw [BitVec.ofNat_add])
  p_w1a := (STEP_main_v71_15 X).trans h.v180
  p_b1a := (STEP_main_v71_16 X).trans h.v185
  p_w2a := (STEP_main_v71_17 X).trans h.v191
  p_b2a := (STEP_main_v71_18 X).trans h.v196
  p_w1b := (STEP_main_v71_19 X).trans h.v202
  p_b1b := (STEP_main_v71_20 X).trans h.v207
  p_w2b := (STEP_main_v71_21 X).trans h.v213
  p_b2b := (STEP_main_v71_22 X).trans h.v218
  m_w1a := (STEP_main_v71_23 X).trans h.v133
  m_b1a := (STEP_main_v71_24 X).trans h.v138
  m_w2a := (STEP_main_v71_25 X).trans h.v145
  m_b2a := (STEP_main_v71_26 X).trans h.v150
  m_w1b := (STEP_main_v71_27 X).trans h.v157
  m_b1b := (STEP_main_v71_28 X).trans h.v162
  m_w2b := (STEP_main_v71_29 X).trans h.v169
  m_b2b := (STEP_main_v71_30 X).trans h.v174
  out t ht b l := by
    rw [STEP_main_v71_31, h.v31 t b l]
    by_cases e : t = n
    · rw [if_pos e, e, ho b]
    · rw [if_neg e]
      have : t.val ≠ n.val := fun e' => e (Fin.ext e')
      exact h.out t (by omega) b l

end

/-- All trips so far. -/
theorem At.iterate {tok : Fin 4 → Nat → Token} {P₀ M₀ : Fin 4 → Net} {X : Valuation τ sig (Elt Ideal)}
    (h : At tok P₀ (fun b => ⟨P₀ b, M₀ b⟩) (fun b => RealNet.out (P₀ b) (M₀ b) (tok b)) 0 X) :
    ∀ n : Nat, n ≤ 256 → At tok P₀ (fun b => mems (P₀ b) (M₀ b) (tok b) n) (fun b => RealNet.out (P₀ b) (M₀ b) (tok b)) n (STEP^[n] X)
  | 0, _ => h
  | n + 1, hn => by
    rw [Function.iterate_succ_apply']
    exact At.step (n := ⟨n, hn⟩) (At.iterate h n (by omega)) fun _ => rfl

end Cert.Proof.Ref
-- ==== Proof.RInit.lean ====
/-
  At real inputs the reference's loop starts from the inputs' tokens, weights and momenta.
-/
module

public import proofs.«01_k».proof.Proof.REntry
public import proofs.«01_k».proof.Proof.RStep

@[expose] public section

noncomputable section

namespace Cert.Proof.Ref

open Cert.ReferenceIdeal Cert.ReferenceIdeal.Gen Cert.ReferenceIdeal.Value
open Idealize.ShloMosaic Idealize.ShloMosaic.TcCoe Idealize.ShloMosaic.StableHlo Idealize.SL.Sem
open Cert.Proof.RealNet

theorem dot_all (x : Fin 4 → Fin 256 → Fin 128 → ℝ) (w : Fin 128 → Fin 128 → ℝ) :
    Host.dotGeneral (F := Ideal) (φ₁ := .f32) (φ₂ := .f32) dot_S4x256x128_S128x128_S4x256x128_2_0_01_1_n_n none (up3 x) (up w) = up3 fun b t => vm (x b t) w := by
  funext i
  pointwise [up3, up]
  exact sum_up _ _
theorem dot_gate (x : Fin 4 → Fin 256 → Fin 128 → ℝ) (w : Fin 128 → Fin 1 → ℝ) :
    Host.dotGeneral (F := Ideal) (φ₁ := .f32) (φ₂ := .f32) dot_S4x256x128_S128x1_S4x256x1_2_0_01_1_n_n none (up3 x) (up w) = up3 fun b t _ => vm (x b t) w 0 := by
  funext i
  pointwise [up3, up]
  exact (sum_up (x (i 0) (i 1)) fun k => w k (i 2)).trans
    (congrArg (fun j : Fin 1 => ((vm (x (i 0) (i 1)) w j : ℝ) : EReal)) (Subsingleton.elim (α := Fin 1) (i 2) 0))

theorem silu_up (x : Fin 4 → Fin 256 → Fin 128 → ℝ) (w : Fin 128 → Fin 128 → ℝ) :
    silu (F := Ideal) (up3 x) (up w) = up3 fun b t j => ac (vm (x b t) w j) := by
  unfold silu
  dsimp only
  rw [dot_all, one_up3, sig_up3, mulf_up3]
  rfl

theorem unit_up (r : Fin 4 → Fin 256 → Fin 128 → ℝ) : unit (F := Ideal) (up3 r) = up3 fun b t => unitR (r b t) := by
  unfold unit
  rw [mulf_up3]
  funext i
  pointwise [up3]
  rw [ofBits_least]
  exact unit_eq _ _

theorem bias_up (r : Fin 1 → ℝ) :
    broadcastInDim S4x256x1 ![0, 1, 2] bcast_S1x1x1_S4x256x1_0_1_2 (broadcastInDim S1x1x1 ![2] bcast_S1_S1x1x1_2 (up1 r)) = up3 fun _ _ _ => r 0 := by
  funext i
  pointwise [up1, up3]

theorem gate_up (x : Fin 4 → Fin 256 → Fin 128 → ℝ) (w : Fin 128 → Fin 1 → ℝ) (b : Fin 1 → ℝ) :
    gate (F := Ideal) (up3 x) (up w) (up1 b) = up3 fun d t _ => sg (vm (x d t) w 0 + b 0) := by
  unfold gate
  rw [dot_gate, bias_up, addf_up3, one_up3, sig_up3]

theorem tr_128 (x : Fin 4 → Fin 256 → Fin 128 → ℝ) :
    transpose S256x4x128 [1, 0, 2] (up3 x) transposes_S4x256x128_S256x4x128_1_0_2 = up3 fun t b => x b t := by
  funext i
  pointwise [up3]
theorem tr_1 (x : Fin 4 → Fin 256 → ℝ) :
    transpose S256x4x1 [1, 0, 2] (up3 fun b t (_ : Fin 1) => x b t) transposes_S4x256x1_S256x4x1_1_0_2 = up3 fun t b (_ : Fin 1) => x b t := by
  funext i
  pointwise [up3]

theorem copy_128_256 (x : Fin 128 → Fin 256 → ℝ) : broadcastInDim S4x128x256 ![1, 2] bcast_S128x256_S4x128x256_1_2 (up x) = up3 fun _ => x := by
  funext i
  pointwise [up3, up]
theorem copy_256_128 (x : Fin 256 → Fin 128 → ℝ) : broadcastInDim S4x256x128 ![1, 2] bcast_S256x128_S4x256x128_1_2 (up x) = up3 fun _ => x := by
  funext i
  pointwise [up3, up]
theorem copy_256 (x : Fin 256 → ℝ) : broadcastInDim S4x256 ![1] bcast_S256_S4x256_1 (up1 x) = up fun _ => x := by
  funext i
  pointwise [up1, up]
theorem copy_128 (x : Fin 128 → ℝ) : broadcastInDim S4x128 ![1] bcast_S128_S4x128_1 (up1 x) = up fun _ => x := by
  funext i
  pointwise [up1, up]

theorem top_up : broadcastInDim S4x256x1 ![] bcast_S_S4x256x1 (constant (F := Ideal) S_ .f32 0x3C23D70A#32) = up3 fun _ _ _ => top :=
  bc_const _ _ top ofBits_top

section
variable (m : (ℓ : Loc nD τ sig) → Buf (Elt Ideal) ℓ) (c : Dev nD) (I : Inp)

/-- The reference's arguments are the inputs `I`. -/
structure Holds : Prop where
  inp : IsInp I (m (c.tc.loc main_arg0)) (m (c.tc.loc main_arg1)) (m (c.tc.loc main_arg2)) (m (c.tc.loc main_arg3)) (m (c.tc.loc main_arg4))
    (m (c.tc.loc main_arg5)) (m (c.tc.loc main_arg6)) (m (c.tc.loc main_arg7)) (m (c.tc.loc main_arg8)) (m (c.tc.loc main_arg9))
  P : IsNet I.P (m (c.tc.loc main_arg10)) (m (c.tc.loc main_arg11)) (m (c.tc.loc main_arg12)) (m (c.tc.loc main_arg13)) (m (c.tc.loc main_arg14))
    (m (c.tc.loc main_arg15)) (m (c.tc.loc main_arg16)) (m (c.tc.loc main_arg17))
  M : IsNet I.M (m (c.tc.loc main_arg18)) (m (c.tc.loc main_arg19)) (m (c.tc.loc main_arg20)) (m (c.tc.loc main_arg21)) (m (c.tc.loc main_arg22))
    (m (c.tc.loc main_arg23)) (m (c.tc.loc main_arg24)) (m (c.tc.loc main_arg25))

theorem init (h : Holds m c I) (o : Fin 4 → Nat → Fin 128 → ℝ) :
    At I.tok (fun _ => I.P) (fun _ => ⟨I.P, I.M⟩) o 0 (entryContents preI m c) := by
  obtain ⟨e0, e1, e2, e3, e4, e5, e6, e7, e8, e9, e10, e11, e12, e13, e15, e16, e17, e18, e19, e20, e21, e22, e23, e24, e25, e26, e27, e28, e29, e30⟩ :=
    entry m c
  have hi := h.inp
  have hP := h.P
  have hM := h.M
  constructor
  case k =>
    refine e0.trans ?_
    rw [hi.x, hi.wk]
    rw [silu_up, unit_up, tr_128]
    refine congrArg up3 (funext fun t => funext fun b => ?_)
    rw [I.tok_val]; rfl
  case v =>
    refine e1.trans ?_
    rw [hi.x, hi.wv]
    rw [silu_up, tr_128]
    refine congrArg up3 (funext fun t => funext fun b => ?_)
    rw [I.tok_val]; rfl
  case q =>
    refine e2.trans ?_
    rw [hi.x, hi.wq]
    rw [silu_up, unit_up, tr_128]
    refine congrArg up3 (funext fun t => funext fun b => ?_)
    rw [I.tok_val]; rfl
  case th =>
    refine e3.trans ?_
    rw [hi.x, hi.wl, hi.bl]
    rw [gate_up, top_up, mulf_up3, tr_1]
    refine congrArg up3 (funext fun t => funext fun b => ?_)
    rw [I.tok_val]; rfl
  case al =>
    refine e4.trans ?_
    rw [hi.x, hi.wf, hi.bf]
    rw [gate_up, tr_1]
    refine congrArg up3 (funext fun t => funext fun b => ?_)
    rw [I.tok_val]; rfl
  case et =>
    refine e5.trans ?_
    rw [hi.x, hi.wm, hi.bm]
    rw [gate_up, tr_1]
    refine congrArg up3 (funext fun t => funext fun b => ?_)
    rw [I.tok_val]; rfl
  case o_w1a => exact e6.trans ((congrArg _ hP.w1a).trans (copy_128_256 _))
  case o_b1a => exact e7.trans ((congrArg _ hP.b1a).trans (copy_256 _))
  case o_w2a => exact e8.trans ((congrArg _ hP.w2a).trans (copy_256_128 _))
  case o_b2a => exact e9.trans ((congrArg _ hP.b2a).trans (copy_128 _))
  case o_w1b => exact e10.trans ((congrArg _ hP.w1b).trans (copy_128_256 _))
  case o_b1b => exact e11.trans ((congrArg _ hP.b1b).trans (copy_256 _))
  case o_w2b => exact e12.trans ((congrArg _ hP.w2b).trans (copy_256_128 _))
  case o_b2b => exact e13.trans ((congrArg _ hP.b2b).trans (copy_128 _))
  case ctr => exact ctr_entry m c
  case p_w1a => exact e15.trans ((congrArg _ hP.w1a).trans (copy_128_256 _))
  case p_b1a => exact e16.trans ((congrArg _ hP.b1a).trans (copy_256 _))
  case p_w2a => exact e17.trans ((congrArg _ hP.w2a).trans (copy_256_128 _))
  case p_b2a => exact e18.trans ((congrArg _ hP.b2a).trans (copy_128 _))
  case p_w1b => exact e19.trans ((congrArg _ hP.w1b).trans (copy_128_256 _))
  case p_b1b => exact e20.trans ((congrArg _ hP.b1b).trans (copy_256 _))
  case p_w2b => exact e21.trans ((congrArg _ hP.w2b).trans (copy_256_128 _))
  case p_b2b => exact e22.trans ((congrArg _ hP.b2b).trans (copy_128 _))
  case m_w1a => exact e23.trans ((congrArg _ hM.w1a).trans (copy_128_256 _))
  case m_b1a => exact e24.trans ((congrArg _ hM.b1a).trans (copy_256 _))
  case m_w2a => exact e25.trans ((congrArg _ hM.w2a).trans (copy_256_128 _))
  case m_b2a => exact e26.trans ((congrArg _ hM.b2a).trans (copy_128 _))
  case m_w1b => exact e27.trans ((congrArg _ hM.w1b).trans (copy_128_256 _))
  case m_b1b => exact e28.trans ((congrArg _ hM.b1b).trans (copy_256 _))
  case m_w2b => exact e29.trans ((congrArg _ hM.w2b).trans (copy_256_128 _))
  case m_b2b => exact e30.trans ((congrArg _ hM.b2b).trans (copy_128 _))
  case out => exact fun t ht => absurd ht (Nat.not_lt_zero _)

end

end Cert.Proof.Ref
-- ==== Proof.RResult.lean ====
/-
  The reference's result at real numbers: each batch's outputs, in the tokens' order.
-/
module

public import proofs.«01_k».proof.Proof.RInit

@[expose] public section

noncomputable section

namespace Cert.Proof.Ref

open Cert.ReferenceIdeal Cert.ReferenceIdeal.Gen Cert.ReferenceIdeal.Value
open Idealize.ShloMosaic Idealize.ShloMosaic.TcCoe Idealize.ShloMosaic.StableHlo Idealize.SL.Sem
open Cert.Proof.RealNet

theorem result_eq {m : (ℓ : Loc nD τ sig) → Buf (Elt Ideal) ℓ} {c : Dev nD} {I : Inp} (h : Holds m c I) :
    out_main_v72 (STEP^[256] (entryContents preI m c)) = up3 fun b (t : Fin 256) l => RealNet.out I.P I.M (I.tok b) t.val l := by
  have e := (At.iterate (P₀ := fun _ => I.P) (M₀ := fun _ => I.M) (init m c I h _) 256 le_rfl).out
  funext i
  unfold out_main_v72
  pointwise
  exact e (i 1) (i 1).isLt (i 0) (i 2)

end Cert.Proof.Ref
-- ==== Proof.lean ====
/-
  The proof of `Cert.Claim`: each claim by the module that holds it.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Body
public import proofs.«01_k».proof.Proof.BodyBits
public import proofs.«01_k».proof.Proof.Pre
public import proofs.«01_k».proof.Proof.KResult
public import proofs.«01_k».proof.Proof.RResult
public import Idealize.ShloMosaic.Adequacy
public import Idealize.ShloMosaic.Init
public import Idealize.ShloMosaic.Lib.Claim

@[expose] public section

noncomputable section

namespace Cert.Proof

open Idealize.ShloMosaic Idealize.ShloMosaic.TcCoe Idealize.SL.Sem

attribute [local instance] Cert.Kernel.Gen.facts Cert.KernelIdeal.Gen.facts Cert.ReferenceIdeal.Gen.facts preFacts

/-- The kernel ends, its arguments unchanged, its counters at zero. -/
theorem frame_kernel : Cert.quiescent_Kernel := fun m ρ _ =>
  θ_run_with_sems (Cert.Kernel.Gen.frame_of m ρ (Bits.dats m) fun _ _ => rfl) (Bits.run_main (F := Bits) m ρ)

/-- So does the ideal kernel. -/
theorem frame_ideal : Cert.quiescent_KernelIdeal := fun m ρ _ =>
  θ_run_with_sems (Cert.KernelIdeal.Gen.frame_of m ρ (dats m) fun _ _ => rfl) (run_main (F := Ideal) m ρ)

/-- So does the reference, which has no counter. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- What both programs return, of the numbers their arguments hold. -/
def outputs (I : Inp) : FVec Ideal ⟨3, ![4, 256, 128]⟩ .f32 := up3 fun b (t : Fin 256) l => RealNet.out I.P I.M (I.tok b) t.val l

/-- The ideal kernel and the reference return the same numbers. -/
theorem agree_ideal : Cert.algebraic_KernelIdeal_ReferenceIdeal_pre_finite := by
  intro m g m' g' hp ha
  choose I hI using exists_holds hp
  refine ⟨fun c => outputs (I c), ?_, ?_⟩
  · refine (θ_run Cert.KernelIdeal.defs _ _).mono (fun r h c => ⟨?_, h.2 c⟩)
      (θ_run_and ((θ_run Cert.KernelIdeal.defs _ _).mono (fun _ h => h.1) (run_main (F := Ideal) m g))
        (Cert.KernelIdeal.Gen.frame_of m g (dats m) (fun _ _ => rfl)
          ((θ_run Cert.KernelIdeal.defs _ _).mono (fun _ h => h.1) (run_main (F := Ideal) m g))))
    exact ((h.1 c).2 Cert.KernelIdeal.main_v29 (Pipeline.mem_restRefs_of Cert.KernelIdeal.main_v29 (by decide) (by decide))).trans
      ((v29_eq m c).trans (laid_out (finds (hI c) _)))
  · refine (θ_run Cert.ReferenceIdeal.defs _ _).mono (fun r h c => ⟨(h c).1.trans ?_, (h c).2⟩) (Cert.ReferenceIdeal.Value.run (F := Ideal) m' g')
    refine Ref.result_eq (I := I c) ?_
    obtain ⟨a0, a1, a2, a3, a4, a5, a6, a7, a8, a9, a10, a11, a12, a13, a14, a15, a16, a17, a18, a19, a20, a21, a22, a23, a24, a25⟩ := ha c
    have hi := (hI c).inp
    have hP := (hI c).P
    have hM := (hI c).M
    exact ⟨⟨a0.trans hi.x, a1.trans hi.wq, a2.trans hi.wk, a3.trans hi.wv, a4.trans hi.wl, a5.trans hi.bl, a6.trans hi.wf, a7.trans hi.bf, a8.trans hi.wm,
        a9.trans hi.bm⟩,
      ⟨a10.trans hP.w1a, a11.trans hP.b1a, a12.trans hP.w2a, a13.trans hP.b2a, a14.trans hP.w1b, a15.trans hP.b1b, a16.trans hP.w2b, a17.trans hP.b2b⟩,
      ⟨a18.trans hM.w1a, a19.trans hM.b1a, a20.trans hM.w2a, a21.trans hM.b2a, a22.trans hM.w1b, a23.trans hM.b1b, a24.trans hM.w2b, a25.trans hM.b2b⟩⟩

theorem claim : Cert.Claim :=
  ⟨Cert.Kernel.Gen.facts, Cert.KernelIdeal.Gen.facts, Cert.ReferenceIdeal.Gen.facts, preFacts,
    frame_kernel, frame_ideal, fun m g _ => frame_ideal m g trivial, frame_reference, fun m g _ => frame_reference m g trivial, trivial, agree_ideal⟩

end Cert.Proof

end
